-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal_on_holds_token [hKernelIdeal : Cert.KernelIdeal.Facts] [hReferenceIdeal : Cert.ReferenceIdeal.Facts] [hOn_holds_token : Cert.On_holds_token.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![40960, 1024]⟩ : Shape).Idx, (Cert.On_holds_token.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) i = 1#1 → r.2.mem ((c.tc : Thread Cert.KernelIdeal.nD Cert.KernelIdeal.τ).loc Cert.KernelIdeal.main_v48) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![40960, 1024]⟩ : Shape).Idx, (Cert.On_holds_token.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) i = 1#1 → r.2.mem ((c.tc : Thread Cert.ReferenceIdeal.nD Cert.ReferenceIdeal.τ).loc Cert.ReferenceIdeal.main_v88) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)) (v3 : (c : Dev Cert.Kernel4Ideal.nD) → Buf (Elt Ideal) ((c.tc : Thread Cert.Kernel4Ideal.nD Cert.Kernel4Ideal.τ).loc Cert.Kernel4Ideal.main_v2_3)) (v4 : (c : Dev Cert.Kernel4Ideal.nD) → Buf (Elt Ideal) ((c.tc : Thread Cert.Kernel4Ideal.nD Cert.Kernel4Ideal.τ).loc Cert.Kernel4Ideal.main_v2_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_v2_3) = v3 c
          ∧ r.2.mem ((c.tc : Thread Cert.Kernel4Ideal.nD Cert.Kernel4Ideal.τ).loc Cert.Kernel4Ideal.main_v2_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v47) = v0 c
          ∧ r.2.mem ((c.tc : Thread Cert.Reference4Ideal.nD Cert.Reference4Ideal.τ).loc Cert.Reference4Ideal.main_v38) = v1 c
          ∧ r.2.mem ((c.tc : Thread Cert.Reference4Ideal.nD Cert.Reference4Ideal.τ).loc Cert.Reference4Ideal.main_v49) = v2 c
          ∧ r.2.mem ((c.tc : Thread Cert.Reference4Ideal.nD Cert.Reference4Ideal.τ).loc Cert.Reference4Ideal.main_v43) = v3 c
          ∧ r.2.mem ((c.tc : Thread Cert.Reference4Ideal.nD Cert.Reference4Ideal.τ).loc Cert.Reference4Ideal.main_v46) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hOn_holds_token : Cert.On_holds_token.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ preserves_Kernel_KernelIdeal
    ∧ algebraic_KernelIdeal_ReferenceIdeal_on_holds_token (hKernelIdeal := hKernelIdeal) (hReferenceIdeal := hReferenceIdeal) (hOn_holds_token := hOn_holds_token)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
-- ==== On_holds_token.lean ====
abbrev S40960x1024 : Shape := ⟨2, ![40960, 1024]⟩
abbrev S8 : Shape := ⟨1, ![8]⟩
abbrev S2x8x1024x3584 : Shape := ⟨4, ![2, 8, 1024, 3584]⟩
abbrev S2x8x3584x1024 : Shape := ⟨4, ![2, 8, 3584, 1024]⟩
abbrev S_ : Shape := ⟨0, ![]⟩
abbrev S40 : Shape := ⟨1, ![40]⟩
abbrev S1x8 : Shape := ⟨2, ![1, 8]⟩
abbrev S40x1 : Shape := ⟨2, ![40, 1]⟩
abbrev S40x8 : Shape := ⟨2, ![40, 8]⟩
abbrev S1024 : Shape := ⟨1, ![1024]⟩
abbrev S1x1024 : Shape := ⟨2, ![1, 1024]⟩
abbrev S40x1024 : Shape := ⟨2, ![40, 1024]⟩
abbrev S1 : Shape := ⟨1, ![1]⟩
abbrev S40x1024x1 : Shape := ⟨3, ![40, 1024, 1]⟩
abbrev S40x1024x1024 : Shape := ⟨3, ![40, 1024, 1024]⟩

class Facts : Prop where
  bcast_S_S8 : S_.BroadcastsInDim S8 (![] : Fin 0 → Fin S8.rank)
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  bcast_S_S40 : S_.BroadcastsInDim S40 (![] : Fin 0 → Fin S40.rank)
  bcast_S8_S1x8_1 : S8.BroadcastsInDim S1x8 (![1] : Fin 1 → Fin S1x8.rank)
  bcast_S40_S40x1_0 : S40.BroadcastsInDim S40x1 (![0] : Fin 1 → Fin S40x1.rank)
  bcast_S1x8_S40x8_0_1 : S1x8.BroadcastsInDim S40x8 (![0, 1] : Fin 2 → Fin S40x8.rank)
  bcast_S40x1_S40x8_0_1 : S40x1.BroadcastsInDim S40x8 (![0, 1] : Fin 2 → Fin S40x8.rank)
  natLt_1_32 : 1 < 32
  reducesTo_S40x8_S40_d1 : S40x8.ReducesTo [1] S40
  bcast_S1024_S1x1024_1 : S1024.BroadcastsInDim S1x1024 (![1] : Fin 1 → Fin S1x1024.rank)
  bcast_S1x1024_S40x1024_0_1 : S1x1024.BroadcastsInDim S40x1024 (![0, 1] : Fin 2 → Fin S40x1024.rank)
  bcast_S40x1_S40x1024_0_1 : S40x1.BroadcastsInDim S40x1024 (![0, 1] : Fin 2 → Fin S40x1024.rank)
  slices_S8_S1_7 : S8.Slices ![7] S1
  shapeCasts_S1_S_ : S1.ShapeCasts S_
  bcast_S40x1024_S40x1024x1_0_1 : S40x1024.BroadcastsInDim S40x1024x1 (![0, 1] : Fin 2 → Fin S40x1024x1.rank)
  bcast_S40x1024x1_S40x1024x1024_0_1_2 : S40x1024x1.BroadcastsInDim S40x1024x1024 (![0, 1, 2] : Fin 3 → Fin S40x1024x1024.rank)
  shapeCasts_S40x1024x1024_S40960x1024 : S40x1024x1024.ShapeCasts S40960x1024
  gather_S8_S40x1_S40_n_0_n_n_0_1_1_wf : GatherDims.WF S8 S40x1 S40 [] [0] [] [0] [] 1 ![1]

variable [Facts]

def gather_S8_S40x1_S40_n_0_n_n_0_1_1 : GatherDims S8 S40x1 S40 where
  offsetDims := []
  collapsedSliceDims := [0]
  operandBatchingDims := []
  startIndicesBatchingDims := []
  startIndexMap := [0]
  indexVectorDim := 1
  sliceSizes := ![1]
  wf := gather_S8_S40x1_S40_n_0_n_n_0_1_1_wf
def fn_where {F : FTy → Type} [FloatOps F] (arg0 : IVec S8 1) (arg1 : IVec S8 32) (arg2 : IVec S8 32) : IVec S8 32 :=
  let v0 : IVec S8 32 := select arg0 arg1 arg2
  v0

def fn_floor_divide {F : FTy → Type} [FloatOps F] (arg0 : IVec S8 32) (arg1 : IVec S_ 32) : IVec S8 32 :=
  let v0 : IVec S_ 32 := id arg1
  let v1 : IVec S8 32 := broadcastInDim S8 ![] bcast_S_S8 v0
  let v2 : IVec S8 32 := Host.divsi arg0 v1
  let v3 : IVec S8 32 := signi arg0
  let v4 : IVec S_ 32 := signi v0
  let v5 : IVec S8 32 := broadcastInDim S8 ![] bcast_S_S8 v4
  let v6 : IVec S8 1 := cmpi .ne v3 v5
  let v7 : IVec S8 32 := broadcastInDim S8 ![] bcast_S_S8 v0
  let v8 : IVec S8 32 := Host.remsi arg0 v7
  let c : IVec S_ 32 := constantI S_ 32 0#32
  let v9 : IVec S8 32 := broadcastInDim S8 ![] bcast_S_S8 c
  let v10 : IVec S8 1 := cmpi .ne v8 v9
  let v11 : IVec S8 1 := andi v6 v10
  let c_0 : IVec S_ 32 := constantI S_ 32 1#32
  let v12 : IVec S8 32 := broadcastInDim S8 ![] bcast_S_S8 c_0
  let v13 : IVec S8 32 := subi v2 v12
  let v14 : IVec S8 32 := fn_where (F := F) v11 v13 v2
  v14

def fn_cumsum_0 {F : FTy → Type} [FloatOps F] (arg0 : IVec S8 32) : IVec S8 32 :=
  let c : IVec S_ 32 := constantI S_ 32 0#32
  let v0 : IVec S_ 32 := broadcastInDim S_ ![] bcast_S_S_ c
  let v1 : IVec S8 32 := (fun x v => Host.reduceWindow IntOp.addi ![8] ![1] ![7] ![0] x v reduceWindows_S8_S8_w8s1p7_0 h_S_) arg0 v0
  v1

def fn_cumsum {F : FTy → Type} [FloatOps F] (arg0 : IVec S8 32) : IVec S8 32 :=
  let v0 : IVec S8 32 := fn_cumsum_0 (F := F) arg0
  v0

def fn_clip {F : FTy → Type} [FloatOps F] (arg0 : IVec S40 32) (arg1 : IVec S_ 32) (arg2 : IVec S_ 32) : IVec S40 32 :=
  let v0 : IVec S_ 32 := id arg1
  let v1 : IVec S40 32 := broadcastInDim S40 ![] bcast_S_S40 v0
  let v2 : IVec S40 32 := maxsi v1 arg0
  let v3 : IVec S_ 32 := id arg2
  let v4 : IVec S40 32 := broadcastInDim S40 ![] bcast_S_S40 v3
  let v5 : IVec S40 32 := minsi v4 v2
  v5

def fn_part2 {F : FTy → Type} [FloatOps F] (main_v5 : IVec S8 32) (main_v9 : IVec S40 32) (main_v35 : IVec S1x1024 32) (main_v36 : IVec S40x1 32) : IVec S40960x1024 1 :=
  let main_v37 : IVec S40x1024 32 := broadcastInDim S40x1024 ![0, 1] bcast_S1x1024_S40x1024_0_1 main_v35
  let main_v38 : IVec S40x1024 32 := broadcastInDim S40x1024 ![0, 1] bcast_S40x1_S40x1024_0_1 main_v36
  let main_v39 : IVec S40x1024 1 := cmpi .slt main_v37 main_v38
  let main_v40 : IVec S1 32 := (extractStridedSlice S1 ![7] · slices_S8_S1_7) main_v5
  let main_v41 : IVec S_ 32 := shapeCast S_ main_v40 shapeCasts_S1_S_
  let main_v42 : IVec S40 32 := broadcastInDim S40 ![] bcast_S_S40 main_v41
  let main_v43 : IVec S40 1 := cmpi .slt main_v9 main_v42
  let main_v44 : IVec S40x1 1 := broadcastInDim S40x1 ![0] bcast_S40_S40x1_0 main_v43
  let main_v45 : IVec S40x1024 1 := broadcastInDim S40x1024 ![0, 1] bcast_S40x1_S40x1024_0_1 main_v44
  let main_v46 : IVec S40x1024 1 := andi main_v39 main_v45
  let main_v47 : IVec S40x1024x1 1 := broadcastInDim S40x1024x1 ![0, 1] bcast_S40x1024_S40x1024x1_0_1 main_v46
  let main_v48 : IVec S40x1024x1024 1 := broadcastInDim S40x1024x1024 ![0, 1, 2] bcast_S40x1024x1_S40x1024x1024_0_1_2 main_v47
  let main_v49 : IVec S40960x1024 1 := shapeCast S40960x1024 main_v48 shapeCasts_S40x1024x1024_S40960x1024
  main_v49

def fn_part1 {F : FTy → Type} [FloatOps F] (main_arg1 : IVec S8 32) (main_v5 : IVec S8 32) (main_v6 : IVec S8 32) (main_v9 : IVec S40 32) (main_v16 : IVec S40 32) (main_c_4 : IVec S_ 32) (main_c_5 : IVec S_ 32) : IVec S40960x1024 1 :=
  let main_v17 : IVec S40 32 := fn_clip (F := F) main_v16 main_c_4 main_c_5
  let main_c_6 : IVec S_ 32 := constantI S_ 32 0#32
  let main_v18 : IVec S40 32 := broadcastInDim S40 ![] bcast_S_S40 main_c_6
  let main_v19 : IVec S40 1 := cmpi .slt main_v17 main_v18
  let main_c_7 : IVec S_ 32 := constantI S_ 32 8#32
  let main_v20 : IVec S40 32 := broadcastInDim S40 ![] bcast_S_S40 main_c_7
  let main_v21 : IVec S40 32 := addi main_v17 main_v20
  let main_v22 : IVec S40 32 := select main_v19 main_v21 main_v17
  let main_v23 : IVec S40x1 32 := broadcastInDim S40x1 ![0] bcast_S40_S40x1_0 main_v22
  let main_v24 : IVec S40 32 := (fun x i => Host.gather gather_S8_S40x1_S40_n_0_n_n_0_1_1 x i) main_arg1 main_v23
  let main_c_8 : IVec S_ 32 := constantI S_ 32 0#32
  let main_v25 : IVec S40 32 := broadcastInDim S40 ![] bcast_S_S40 main_c_8
  let main_v26 : IVec S40 1 := cmpi .slt main_v17 main_v25
  let main_c_9 : IVec S_ 32 := constantI S_ 32 8#32
  let main_v27 : IVec S40 32 := broadcastInDim S40 ![] bcast_S_S40 main_c_9
  let main_v28 : IVec S40 32 := addi main_v17 main_v27
  let main_v29 : IVec S40 32 := select main_v26 main_v28 main_v17
  let main_v30 : IVec S40x1 32 := broadcastInDim S40x1 ![0] bcast_S40_S40x1_0 main_v29
  let main_v31 : IVec S40 32 := (fun x i => Host.gather gather_S8_S40x1_S40_n_0_n_n_0_1_1 x i) main_v6 main_v30
  let main_v32 : IVec S40 32 := subi main_v9 main_v31
  let main_v33 : IVec S40 32 := subi main_v24 main_v32
  let main_v34 : IVec S1024 32 := iotaInDim S1024 32 0
  let main_v35 : IVec S1x1024 32 := broadcastInDim S1x1024 ![1] bcast_S1024_S1x1024_1 main_v34
  let main_v36 : IVec S40x1 32 := broadcastInDim S40x1 ![0] bcast_S40_S40x1_0 main_v33
  fn_part2 (F := F) main_v5 main_v9 main_v35 main_v36

def fn {F : FTy → Type} [FloatOps F] (main_arg0 : FVec F S40960x1024 .bf16) (main_arg1 : IVec S8 32) (main_arg2 : FVec F S2x8x1024x3584 .f32) (main_arg3 : FVec F S2x8x1024x3584 .f32) (main_arg4 : FVec F S2x8x3584x1024 .f32) : IVec S40960x1024 1 :=
  let main_c : IVec S_ 32 := constantI S_ 32 1023#32
  let main_v0 : IVec S8 32 := broadcastInDim S8 ![] bcast_S_S8 main_c
  let main_v1 : IVec S8 32 := addi main_arg1 main_v0
  let main_c_0 : IVec S_ 32 := constantI S_ 32 1024#32
  let main_v2 : IVec S8 32 := fn_floor_divide (F := F) main_v1 main_c_0
  let main_c_1 : IVec S_ 32 := constantI S_ 32 1024#32
  let main_v3 : IVec S8 32 := broadcastInDim S8 ![] bcast_S_S8 main_c_1
  let main_v4 : IVec S8 32 := muli main_v2 main_v3
  let main_v5 : IVec S8 32 := fn_cumsum (F := F) main_v4
  let main_v6 : IVec S8 32 := subi main_v5 main_v4
  let main_v7 : IVec S40 32 := iotaInDim S40 32 0
  let main_c_2 : IVec S_ 32 := constantI S_ 32 1024#32
  let main_v8 : IVec S40 32 := broadcastInDim S40 ![] bcast_S_S40 main_c_2
  let main_v9 : IVec S40 32 := muli main_v7 main_v8
  let main_v10 : IVec S1x8 32 := broadcastInDim S1x8 ![1] bcast_S8_S1x8_1 main_v5
  let main_v11 : IVec S40x1 32 := broadcastInDim S40x1 ![0] bcast_S40_S40x1_0 main_v9
  let main_v12 : IVec S40x8 32 := broadcastInDim S40x8 ![0, 1] bcast_S1x8_S40x8_0_1 main_v10
  let main_v13 : IVec S40x8 32 := broadcastInDim S40x8 ![0, 1] bcast_S40x1_S40x8_0_1 main_v11
  let main_v14 : IVec S40x8 1 := cmpi .sle main_v12 main_v13
  let main_v15 : IVec S40x8 32 := (extui 32 · natLt_1_32) main_v14
  let main_c_3 : IVec S_ 32 := constantI S_ 32 0#32
  let main_v16 : IVec S40 32 := (fun x v => Host.reduce IntOp.addi x v reducesTo_S40x8_S40_d1 h_S_) main_v15 main_c_3
  let main_c_4 : IVec S_ 32 := constantI S_ 32 0#32
  let main_c_5 : IVec S_ 32 := constantI S_ 32 7#32
  fn_part1 (F := F) main_arg1 main_v5 main_v6 main_v9 main_v16 main_c_4 main_c_5
-- ==== Pre_finite.lean ====
abbrev S16384x1024 : Shape := ⟨2, ![16384, 1024]⟩
abbrev S1024 : Shape := ⟨1, ![1024]⟩
abbrev S1024x8 : Shape := ⟨2, ![1024, 8]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S16384x1024 .f32) (main_arg1 : FVec F S1024 .f32) (main_arg2 : FVec F S1024x8 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x8 .f32 := Host.absf main_arg2
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  main_v8
-- ==== Kernel.lean ====
abbrev S40960x1024 : Shape := ⟨2, ![40960, 1024]⟩
abbrev S8 : Shape := ⟨1, ![8]⟩
abbrev S2x8x1024x3584 : Shape := ⟨4, ![2, 8, 1024, 3584]⟩
abbrev S2x8x3584x1024 : Shape := ⟨4, ![2, 8, 3584, 1024]⟩
abbrev S_ : Shape := ⟨0, ![]⟩
abbrev S40 : Shape := ⟨1, ![40]⟩
abbrev S1x8 : Shape := ⟨2, ![1, 8]⟩
abbrev S40x1 : Shape := ⟨2, ![40, 1]⟩
abbrev S40x8 : Shape := ⟨2, ![40, 8]⟩
abbrev S1 : Shape := ⟨1, ![1]⟩
abbrev S1024x1024 : Shape := ⟨2, ![1024, 1024]⟩
abbrev S1x1x1024x512 : Shape := ⟨4, ![1, 1, 1024, 512]⟩
abbrev S1x1x512x1024 : Shape := ⟨4, ![1, 1, 512, 1024]⟩
abbrev S1x1x1024x256 : Shape := ⟨4, ![1, 1, 1024, 256]⟩
abbrev S1024x256 : Shape := ⟨2, ![1024, 256]⟩
abbrev S1x1x256x1024 : Shape := ⟨4, ![1, 1, 256, 1024]⟩
abbrev S256x1024 : Shape := ⟨2, ![256, 1024]⟩
abbrev S512x1024 : Shape := ⟨2, ![512, 1024]⟩
abbrev S512x256 : Shape := ⟨2, ![512, 256]⟩

abbrev nBuf : Space → Nat
  | .hbm => 110
  | .vmem => 11
  | .smem => 2
  | _ => 0

abbrev bufTy : (tb : Table) → Fin (tcTables nBuf tb) → BufTy
  | .hbm, ⟨0, _⟩ => ⟨S40960x1024, .bf16⟩
  | .hbm, ⟨1, _⟩ => ⟨S8, .i32⟩
  | .hbm, ⟨2, _⟩ => ⟨S2x8x1024x3584, .f32⟩
  | .hbm, ⟨3, _⟩ => ⟨S2x8x1024x3584, .f32⟩
  | .hbm, ⟨4, _⟩ => ⟨S2x8x3584x1024, .f32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S_, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S8, .i1⟩
  | .hbm, ⟨19, _⟩ => ⟨S8, .i32⟩
  | .hbm, ⟨20, _⟩ => ⟨S8, .i32⟩
  | .hbm, ⟨21, _⟩ => ⟨S_, .i32⟩
  | .hbm, ⟨22, _⟩ => ⟨S8, .i32⟩
  | .hbm, ⟨23, _⟩ => ⟨S8, .i1⟩
  | .hbm, ⟨24, _⟩ => ⟨S8, .i1⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S8, .i32⟩
  | .hbm, ⟨29, _⟩ => ⟨S_, .i32⟩
  | .hbm, ⟨30, _⟩ => ⟨S8, .i32⟩
  | .hbm, ⟨31, _⟩ => ⟨S8, .i32⟩
  | .hbm, ⟨32, _⟩ => ⟨S_, .i32⟩
  | .hbm, ⟨33, _⟩ => ⟨S_, .i32⟩
  | .hbm, ⟨34, _⟩ => ⟨S8, .i32⟩
  | .hbm, ⟨35, _⟩ => ⟨S8, .i32⟩
  | .hbm, ⟨36, _⟩ => ⟨S40, .i32⟩
  | .hbm, ⟨37, _⟩ => ⟨S_, .i32⟩
  | .hbm, ⟨38, _⟩ => ⟨S40, .i32⟩
  | .hbm, ⟨39, _⟩ => ⟨S40, .i32⟩
  | .hbm, ⟨40, _⟩ => ⟨S1x8, .i32⟩
  | .hbm, ⟨41, _⟩ => ⟨S40x1, .i32⟩
  | .hbm, ⟨42, _⟩ => ⟨S40x8, .i32⟩
  | .hbm, ⟨43, _⟩ => ⟨S40x8, .i32⟩
  | .hbm, ⟨44, _⟩ => ⟨S40x8, .i1⟩
  | .hbm, ⟨45, _⟩ => ⟨S40x8, .i32⟩
  | .hbm, ⟨46, _⟩ => ⟨S_, .i32⟩
  | .hbm, ⟨47, _⟩ => ⟨S40, .i32⟩
  | .hbm, ⟨48, _⟩ => ⟨S_, .i32⟩
  | .hbm, ⟨49, _⟩ => ⟨S40, .i32⟩
  | .hbm, ⟨50, _⟩ => ⟨S_, .i32⟩
  | .hbm, ⟨51, _⟩ => ⟨S40, .i32⟩
  | .hbm, ⟨52, _⟩ => ⟨S40, .i1⟩
  | .hbm, ⟨53, _⟩ => ⟨S_, .i32⟩
  | .hbm, ⟨54, _⟩ => ⟨S40, .i32⟩
  | .hbm, ⟨55, _⟩ => ⟨S40, .i32⟩
  | .hbm, ⟨56, _⟩ => ⟨S40, .i32⟩
  | .hbm, ⟨57, _⟩ => ⟨S40x1, .i32⟩
  | .hbm, ⟨58, _⟩ => ⟨S40, .i32⟩
  | .hbm, ⟨59, _⟩ => ⟨S_, .i32⟩
  | .hbm, ⟨60, _⟩ => ⟨S40, .i32⟩
  | .hbm, ⟨61, _⟩ => ⟨S40, .i1⟩
  | .hbm, ⟨62, _⟩ => ⟨S_, .i32⟩
  | .hbm, ⟨63, _⟩ => ⟨S40, .i32⟩
  | .hbm, ⟨64, _⟩ => ⟨S40, .i32⟩
  | .hbm, ⟨65, _⟩ => ⟨S40, .i32⟩
  | .hbm, ⟨66, _⟩ => ⟨S40x1, .i32⟩
  | .hbm, ⟨67, _⟩ => ⟨S40, .i32⟩
  | .hbm, ⟨68, _⟩ => ⟨S40, .i32⟩
  | .hbm, ⟨69, _⟩ => ⟨S40, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S40, .i32⟩
  | .hbm, ⟨74, _⟩ => ⟨S40, .i32⟩
  | .hbm, ⟨75, _⟩ => ⟨S_, .i32⟩
  | .hbm, ⟨76, _⟩ => ⟨S40, .i32⟩
  | .hbm, ⟨77, _⟩ => ⟨S40, .i32⟩
  | .hbm, ⟨78, _⟩ => ⟨S1, .i32⟩
  | .hbm, ⟨79, _⟩ => ⟨S_, .i32⟩
  | .hbm, ⟨80, _⟩ => ⟨S40, .i32⟩
  | .hbm, ⟨81, _⟩ => ⟨S40, .i1⟩
  | .hbm, ⟨82, _⟩ => ⟨S_, .i32⟩
  | .hbm, ⟨83, _⟩ => ⟨S40, .i32⟩
  | .hbm, ⟨84, _⟩ => ⟨S40, .i32⟩
  | .hbm, ⟨85, _⟩ => ⟨S_, .i32⟩
  | .hbm, ⟨86, _⟩ => ⟨S40, .i32⟩
  | .hbm, ⟨87, _⟩ => ⟨S40, .i32⟩
  | .hbm, ⟨88, _⟩ => ⟨S_, .i32⟩
  | .hbm, ⟨89, _⟩ => ⟨S_, .i32⟩
  | .hbm, ⟨90, _⟩ => ⟨S40, .i32⟩
  | .hbm, ⟨91, _⟩ => ⟨S40, .i32⟩
  | .hbm, ⟨92, _⟩ => ⟨S40, .i32⟩
  | .hbm, ⟨93, _⟩ => ⟨S_, .i32⟩
  | .hbm, ⟨94, _⟩ => ⟨S40, .i32⟩
  | .hbm, ⟨95, _⟩ => ⟨S40, .i1⟩
  | .hbm, ⟨96, _⟩ => ⟨S40, .i32⟩
  | .hbm, ⟨97, _⟩ => ⟨S40, .i32⟩
  | .hbm, ⟨98, _⟩ => ⟨S_, .i32⟩
  | .hbm, ⟨99, _⟩ => ⟨S40, .i32⟩
  | .hbm, ⟨100, _⟩ => ⟨S40, .i1⟩
  | .hbm, ⟨101, _⟩ => ⟨S40, .i1⟩
  | .hbm, ⟨102, _⟩ => ⟨S_, .i32⟩
  | .hbm, ⟨103, _⟩ => ⟨S40, .i32⟩
  | .hbm, ⟨104, _⟩ => ⟨S40, .i32⟩
  | .hbm, ⟨105, _⟩ => ⟨S40, .i32⟩
  | .hbm, ⟨106, _⟩ => ⟨S_, .i32⟩
  | .hbm, ⟨107, _⟩ => ⟨S_, .i32⟩
  | .hbm, ⟨108, _⟩ => ⟨S40, .i32⟩
  | .hbm, ⟨109, _⟩ => ⟨S40960x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .smem, ⟨0, _⟩ => ⟨S40, .i32⟩
  | .local _ .smem, ⟨1, _⟩ => ⟨S40, .i32⟩
  | _, _ => ⟨S40960x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_c_3 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_c_4 : Ref sig .tc := ⟨.hbm, 46, rfl⟩
abbrev main_v18 : Ref sig .tc := ⟨.hbm, 47, rfl⟩
abbrev main_c_5 : Ref sig .tc := ⟨.hbm, 48, rfl⟩
abbrev main_v19 : Ref sig .tc := ⟨.hbm, 49, rfl⟩
abbrev main_c_6 : Ref sig .tc := ⟨.hbm, 50, rfl⟩
abbrev main_v21 : Ref sig .tc := ⟨.hbm, 51, rfl⟩
abbrev main_v22 : Ref sig .tc := ⟨.hbm, 52, rfl⟩
abbrev main_c_7 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_c_8 : Ref sig .tc := ⟨.hbm, 59, rfl⟩
abbrev main_v28 : Ref sig .tc := ⟨.hbm, 60, rfl⟩
abbrev main_v29 : Ref sig .tc := ⟨.hbm, 61, rfl⟩
abbrev main_c_9 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_c_10 : Ref sig .tc := ⟨.hbm, 70, rfl⟩
abbrev main_c_11 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_c_12 : Ref sig .tc := ⟨.hbm, 82, rfl⟩
abbrev main_v42 : Ref sig .tc := ⟨.hbm, 83, rfl⟩
abbrev main_v43 : Ref sig .tc := ⟨.hbm, 84, rfl⟩
abbrev main_c_13 : Ref sig .tc := ⟨.hbm, 85, rfl⟩
abbrev main_v44 : Ref sig .tc := ⟨.hbm, 86, rfl⟩
abbrev main_v45 : Ref sig .tc := ⟨.hbm, 87, rfl⟩
abbrev main_c_14 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_v6 : Ref sig .tc := ⟨.hbm, 95, rfl⟩
abbrev main_call3_v7 : Ref sig .tc := ⟨.hbm, 96, rfl⟩
abbrev main_call3_v8 : Ref sig .tc := ⟨.hbm, 97, rfl⟩
abbrev main_call3_c : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_c_0 : Ref sig .tc := ⟨.hbm, 102, rfl⟩
abbrev main_call3_v12 : Ref sig .tc := ⟨.hbm, 103, rfl⟩
abbrev main_call3_v13 : Ref sig .tc := ⟨.hbm, 104, rfl⟩
abbrev main_v46 : Ref sig .tc := ⟨.hbm, 105, rfl⟩
abbrev main_c_15 : Ref sig .tc := ⟨.hbm, 106, rfl⟩
abbrev main_call4_v0 : Ref sig .tc := ⟨.hbm, 107, rfl⟩
abbrev main_call4_v1 : Ref sig .tc := ⟨.hbm, 108, rfl⟩
abbrev main_v48 : Ref sig .tc := ⟨.hbm, 109, rfl⟩
abbrev main_v20 : Ref sig .tc := ⟨.smem, 0, rfl⟩
abbrev main_v47 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![40, 7], ![false, false]⟩

abbrev pre0 : Pipeline.Prefetch sig := ⟨2, ![main_v20.idx, main_v47.idx], fun | 0 => main_v20.names | 1 => main_v47.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond4 (i : grid0.Coords) : BitVec 1 :=
  let arg1 : BitVec 32 := BitVec.ofNat 32 (i 1).val
  let c6_i32 : BitVec 32 := 6#32
  let v11 : BitVec 1 := Scalar.cmpi .eq arg1 c6_i32
  let v12 : BitVec 32 := Scalar.extui v11
  let c0_i32_3 : BitVec 32 := 0#32
  let v13 : BitVec 1 := Scalar.cmpi .ne v12 c0_i32_3
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let v2 : Index := Scalar.indexCast arg0
  let v3 : BitVec 32 := pf.at 1 (Rect.unit (s := S40) ![v2.toNat] S1.size (k0_off1_inb i)) numel1_S1
  let c1_i32 : BitVec 32 := 1#32
  let v4 : BitVec 32 := Scalar.minsi v3 c1_i32
  let v5 : BitVec 32 := Scalar.muli arg1 v4
  let c1_i32_0 : BitVec 32 := 1#32
  let v6 : BitVec 32 := Scalar.subi c1_i32_0 v4
  let c6_i32 : BitVec 32 := 6#32
  let v7 : BitVec 32 := Scalar.muli c6_i32 v6
  let v8 : BitVec 32 := Scalar.addi v5 v7
  let c0_i32 : BitVec 32 := 0#32
  let c0_i32_1 : BitVec 32 := 0#32
  let c0_i32_2 : BitVec 32 := 0#32
  ![c0_i32.toNat, v1.toNat, c0_i32_1.toNat, v8.toNat]

def cc0_transform_2 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let v2 : Index := Scalar.indexCast arg0
  let v3 : BitVec 32 := pf.at 1 (Rect.unit (s := S40) ![v2.toNat] S1.size (k0_off1_inb i)) numel1_S1
  let c1_i32 : BitVec 32 := 1#32
  let v4 : BitVec 32 := Scalar.minsi v3 c1_i32
  let v5 : BitVec 32 := Scalar.muli arg1 v4
  let c1_i32_0 : BitVec 32 := 1#32
  let v6 : BitVec 32 := Scalar.subi c1_i32_0 v4
  let c6_i32 : BitVec 32 := 6#32
  let v7 : BitVec 32 := Scalar.muli c6_i32 v6
  let v8 : BitVec 32 := Scalar.addi v5 v7
  let c0_i32 : BitVec 32 := 0#32
  let c0_i32_1 : BitVec 32 := 0#32
  let c0_i32_2 : BitVec 32 := 0#32
  ![c0_i32.toNat, v1.toNat, c0_i32_1.toNat, v8.toNat]

def cc0_transform_3 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let v2 : Index := Scalar.indexCast arg0
  let v3 : BitVec 32 := pf.at 1 (Rect.unit (s := S40) ![v2.toNat] S1.size (k0_off1_inb i)) numel1_S1
  let c1_i32 : BitVec 32 := 1#32
  let v4 : BitVec 32 := Scalar.minsi v3 c1_i32
  let v5 : BitVec 32 := Scalar.muli arg1 v4
  let c1_i32_0 : BitVec 32 := 1#32
  let v6 : BitVec 32 := Scalar.subi c1_i32_0 v4
  let c6_i32 : BitVec 32 := 6#32
  let v7 : BitVec 32 := Scalar.muli c6_i32 v6
  let v8 : BitVec 32 := Scalar.addi v5 v7
  let c0_i32 : BitVec 32 := 0#32
  let c0_i32_1 : BitVec 32 := 0#32
  let c0_i32_2 : BitVec 32 := 0#32
  ![c0_i32.toNat, v1.toNat, v8.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S40960x1024 : Shape := ⟨2, ![40960, 1024]⟩
abbrev S8 : Shape := ⟨1, ![8]⟩
abbrev S2x8x1024x3584 : Shape := ⟨4, ![2, 8, 1024, 3584]⟩
abbrev S2x8x3584x1024 : Shape := ⟨4, ![2, 8, 3584, 1024]⟩
abbrev S_ : Shape := ⟨0, ![]⟩
abbrev S40 : Shape := ⟨1, ![40]⟩
abbrev S1x8 : Shape := ⟨2, ![1, 8]⟩
abbrev S40x1 : Shape := ⟨2, ![40, 1]⟩
abbrev S40x8 : Shape := ⟨2, ![40, 8]⟩
abbrev S40x1024x1024 : Shape := ⟨3, ![40, 1024, 1024]⟩
abbrev S40x4 : Shape := ⟨2, ![40, 4]⟩
abbrev S40x1x1x1024x3584 : Shape := ⟨5, ![40, 1, 1, 1024, 3584]⟩
abbrev S40x1024x3584 : Shape := ⟨3, ![40, 1024, 3584]⟩
abbrev S40x1x1x3584x1024 : Shape := ⟨5, ![40, 1, 1, 3584, 1024]⟩
abbrev S40x3584x1024 : Shape := ⟨3, ![40, 3584, 1024]⟩

abbrev nBuf : Space → Nat
  | .hbm => 183
  | .vmem => 0
  | .smem => 0
  | _ => 0

abbrev hbmTy0_0 (i : Nat) : BufTy := match i % 128 with
  | 0 => ⟨S40960x1024, .bf16⟩
  | 1 => ⟨S8, .i32⟩
  | 2 => ⟨S2x8x1024x3584, .f32⟩
  | 3 => ⟨S2x8x1024x3584, .f32⟩
  | 4 => ⟨S2x8x3584x1024, .f32⟩
  | 5 => ⟨S_, .i32⟩
  | 6 => ⟨S8, .i32⟩
  | 7 => ⟨S8, .i32⟩
  | 8 => ⟨S_, .i32⟩
  | 9 => ⟨S_, .i32⟩
  | 10 => ⟨S8, .i32⟩
  | 11 => ⟨S8, .i32⟩
  | 12 => ⟨S8, .i32⟩
  | 13 => ⟨S_, .i32⟩
  | 14 => ⟨S8, .i32⟩
  | 15 => ⟨S8, .i1⟩
  | 16 => ⟨S8, .i32⟩
  | 17 => ⟨S8, .i32⟩
  | 18 => ⟨S_, .i32⟩
  | 19 => ⟨S8, .i32⟩
  | 20 => ⟨S8, .i1⟩
  | 21 => ⟨S8, .i1⟩
  | 22 => ⟨S_, .i32⟩
  | 23 => ⟨S8, .i32⟩
  | 24 => ⟨S8, .i32⟩
  | 25 => ⟨S8, .i32⟩
  | 26 => ⟨S_, .i32⟩
  | 27 => ⟨S8, .i32⟩
  | 28 => ⟨S8, .i32⟩
  | 29 => ⟨S_, .i32⟩
  | 30 => ⟨S_, .i32⟩
  | 31 => ⟨S8, .i32⟩
  | 32 => ⟨S40, .i32⟩
  | 33 => ⟨S_, .i32⟩
  | 34 => ⟨S40, .i32⟩
  | 35 => ⟨S40, .i32⟩
  | 36 => ⟨S1x8, .i32⟩
  | 37 => ⟨S40x1, .i32⟩
  | 38 => ⟨S40x8, .i32⟩
  | 39 => ⟨S40x8, .i32⟩
  | 40 => ⟨S40x8, .i1⟩
  | 41 => ⟨S40x8, .i32⟩
  | 42 => ⟨S_, .i32⟩
  | 43 => ⟨S40, .i32⟩
  | 44 => ⟨S_, .i32⟩
  | 45 => ⟨S_, .i32⟩
  | 46 => ⟨S_, .i32⟩
  | 47 => ⟨S40, .i32⟩
  | 48 => ⟨S40, .i32⟩
  | 49 => ⟨S_, .i32⟩
  | 50 => ⟨S40, .i32⟩
  | 51 => ⟨S40, .i32⟩
  | 52 => ⟨S40x1024x1024, .bf16⟩
  | 53 => ⟨S40x1024x1024, .f32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S40, .i32⟩
  | 64 => ⟨S40, .i1⟩
  | 65 => ⟨S_, .i32⟩
  | 66 => ⟨S40, .i32⟩
  | 67 => ⟨S40, .i32⟩
  | 68 => ⟨S40, .i32⟩
  | 69 => ⟨S_, .i32⟩
  | 70 => ⟨S_, .i32⟩
  | 71 => ⟨S_, .i1⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S_, .i32⟩
  | 85 => ⟨S40x1, .i32⟩
  | 86 => ⟨S40x1, .i32⟩
  | 87 => ⟨S40x1, .i32⟩
  | 88 => ⟨S40x1, .i32⟩
  | 89 => ⟨S40x4, .i32⟩
  | 90 => ⟨S40x1x1x1024x3584, .f32⟩
  | 91 => ⟨S40x1024x3584, .f32⟩
  | 92 => ⟨S40x1024x3584, .f32⟩
  | 93 => ⟨S40x1024x3584, .f32⟩
  | 94 => ⟨S40x1024x3584, .f32⟩
  | 95 => ⟨S_, .f32⟩
  | 96 => ⟨S40x1024x3584, .f32⟩
  | 97 => ⟨S40x1024x3584, .f32⟩
  | 98 => ⟨S_, .f32⟩
  | 99 => ⟨S40x1024x3584, .f32⟩
  | 100 => ⟨S40x1024x3584, .f32⟩
  | 101 => ⟨S40x1024x3584, .f32⟩
  | 102 => ⟨S_, .i32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S40, .i32⟩
  | 112 => ⟨S40, .i1⟩
  | 113 => ⟨S_, .i32⟩
  | 114 => ⟨S40, .i32⟩
  | 115 => ⟨S40, .i32⟩
  | 116 => ⟨S40, .i32⟩
  | 117 => ⟨S_, .i32⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i1⟩
  | _ => ⟨S40960x1024, .bf16⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S40x1, .i32⟩
  | 6 => ⟨S40x1, .i32⟩
  | 7 => ⟨S40x1, .i32⟩
  | 8 => ⟨S40x1, .i32⟩
  | 9 => ⟨S40x4, .i32⟩
  | 10 => ⟨S40x1x1x1024x3584, .f32⟩
  | 11 => ⟨S40x1024x3584, .f32⟩
  | 12 => ⟨S40x1024x3584, .f32⟩
  | 13 => ⟨S40x1024x3584, .f32⟩
  | 14 => ⟨S_, .i32⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S40, .i32⟩
  | 24 => ⟨S40, .i1⟩
  | 25 => ⟨S_, .i32⟩
  | 26 => ⟨S40, .i32⟩
  | 27 => ⟨S40, .i32⟩
  | 28 => ⟨S40, .i32⟩
  | 29 => ⟨S_, .i32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S40x1, .i32⟩
  | 46 => ⟨S40x1, .i32⟩
  | 47 => ⟨S40x1, .i32⟩
  | 48 => ⟨S40x1, .i32⟩
  | 49 => ⟨S40x4, .i32⟩
  | 50 => ⟨S40x1x1x3584x1024, .f32⟩
  | 51 => ⟨S40x3584x1024, .f32⟩
  | 52 => ⟨S40x1024x1024, .f32⟩
  | 53 => ⟨S40960x1024, .f32⟩
  | 54 => ⟨S40960x1024, .bf16⟩
  | _ => ⟨S40960x1024, .bf16⟩

abbrev hbmTy (i : Nat) : BufTy := match i / 128 with
  | 0 => hbmTy0_0 i
  | 1 => hbmTy0_1 i
  | _ => ⟨S40960x1024, .bf16⟩

abbrev bufTy : (tb : Table) → Fin (tcTables nBuf tb) → BufTy
  | .hbm, ⟨i, _⟩ => hbmTy i
  | _, _ => ⟨S40960x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_c_1 : Ref sig .tc := ⟨.hbm, 26, rfl⟩
abbrev main_v3 : Ref sig .tc := ⟨.hbm, 27, rfl⟩
abbrev main_v4 : Ref sig .tc := ⟨.hbm, 28, rfl⟩
abbrev main_call1_call0_c : Ref sig .tc := ⟨.hbm, 29, rfl⟩
abbrev main_call1_call0_v0 : Ref sig .tc := ⟨.hbm, 30, rfl⟩
abbrev main_v5 : Ref sig .tc := ⟨.hbm, 31, rfl⟩
abbrev main_v6 : Ref sig .tc := ⟨.hbm, 32, rfl⟩
abbrev main_c_2 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_c_3 : Ref sig .tc := ⟨.hbm, 42, rfl⟩
abbrev main_v15 : Ref sig .tc := ⟨.hbm, 43, rfl⟩
abbrev main_c_4 : Ref sig .tc := ⟨.hbm, 44, rfl⟩
abbrev main_c_5 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_c_6 : Ref sig .tc := ⟨.hbm, 54, rfl⟩
abbrev main_c_7 : Ref sig .tc := ⟨.hbm, 55, rfl⟩
abbrev main_v19 : Ref sig .tc := ⟨.hbm, 56, rfl⟩
abbrev main_c_8 : Ref sig .tc := ⟨.hbm, 57, rfl⟩
abbrev main_c_9 : Ref sig .tc := ⟨.hbm, 58, rfl⟩
abbrev main_v20 : Ref sig .tc := ⟨.hbm, 59, rfl⟩
abbrev main_c_10 : Ref sig .tc := ⟨.hbm, 60, rfl⟩
abbrev main_v21 : Ref sig .tc := ⟨.hbm, 61, rfl⟩
abbrev main_c_11 : Ref sig .tc := ⟨.hbm, 62, rfl⟩
abbrev main_v22 : Ref sig .tc := ⟨.hbm, 63, rfl⟩
abbrev main_v23 : Ref sig .tc := ⟨.hbm, 64, rfl⟩
abbrev main_c_12 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_c_13 : Ref sig .tc := ⟨.hbm, 69, rfl⟩
abbrev main_c_14 : Ref sig .tc := ⟨.hbm, 70, rfl⟩
abbrev main_v27 : Ref sig .tc := ⟨.hbm, 71, rfl⟩
abbrev main_c_15 : Ref sig .tc := ⟨.hbm, 72, rfl⟩
abbrev main_c_16 : Ref sig .tc := ⟨.hbm, 73, rfl⟩
abbrev main_v28 : Ref sig .tc := ⟨.hbm, 74, rfl⟩
abbrev main_c_17 : Ref sig .tc := ⟨.hbm, 75, rfl⟩
abbrev main_v29 : Ref sig .tc := ⟨.hbm, 76, rfl⟩
abbrev main_c_18 : Ref sig .tc := ⟨.hbm, 77, rfl⟩
abbrev main_c_19 : Ref sig .tc := ⟨.hbm, 78, rfl⟩
abbrev main_v30 : Ref sig .tc := ⟨.hbm, 79, rfl⟩
abbrev main_c_20 : Ref sig .tc := ⟨.hbm, 80, rfl⟩
abbrev main_c_21 : Ref sig .tc := ⟨.hbm, 81, rfl⟩
abbrev main_v31 : Ref sig .tc := ⟨.hbm, 82, rfl⟩
abbrev main_c_22 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_call3_v0 : Ref sig .tc := ⟨.hbm, 93, rfl⟩
abbrev main_call3_v1 : Ref sig .tc := ⟨.hbm, 94, rfl⟩
abbrev main_call3_cst : Ref sig .tc := ⟨.hbm, 95, rfl⟩
abbrev main_call3_v2 : Ref sig .tc := ⟨.hbm, 96, rfl⟩
abbrev main_call3_v3 : Ref sig .tc := ⟨.hbm, 97, rfl⟩
abbrev main_call3_cst_0 : Ref sig .tc := ⟨.hbm, 98, rfl⟩
abbrev main_call3_v4 : Ref sig .tc := ⟨.hbm, 99, rfl⟩
abbrev main_call3_v5 : Ref sig .tc := ⟨.hbm, 100, rfl⟩
abbrev main_v41 : Ref sig .tc := ⟨.hbm, 101, rfl⟩
abbrev main_c_23 : Ref sig .tc := ⟨.hbm, 102, rfl⟩
abbrev main_c_24 : Ref sig .tc := ⟨.hbm, 103, rfl⟩
abbrev main_v42 : Ref sig .tc := ⟨.hbm, 104, rfl⟩
abbrev main_c_25 : Ref sig .tc := ⟨.hbm, 105, rfl⟩
abbrev main_c_26 : Ref sig .tc := ⟨.hbm, 106, rfl⟩
abbrev main_v43 : Ref sig .tc := ⟨.hbm, 107, rfl⟩
abbrev main_c_27 : Ref sig .tc := ⟨.hbm, 108, rfl⟩
abbrev main_v44 : Ref sig .tc := ⟨.hbm, 109, rfl⟩
abbrev main_c_28 : Ref sig .tc := ⟨.hbm, 110, rfl⟩
abbrev main_v45 : Ref sig .tc := ⟨.hbm, 111, rfl⟩
abbrev main_v46 : Ref sig .tc := ⟨.hbm, 112, rfl⟩
abbrev main_c_29 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_c_30 : Ref sig .tc := ⟨.hbm, 117, rfl⟩
abbrev main_c_31 : Ref sig .tc := ⟨.hbm, 118, rfl⟩
abbrev main_v50 : Ref sig .tc := ⟨.hbm, 119, rfl⟩
abbrev main_c_32 : Ref sig .tc := ⟨.hbm, 120, rfl⟩
abbrev main_c_33 : Ref sig .tc := ⟨.hbm, 121, rfl⟩
abbrev main_v51 : Ref sig .tc := ⟨.hbm, 122, rfl⟩
abbrev main_c_34 : Ref sig .tc := ⟨.hbm, 123, rfl⟩
abbrev main_v52 : Ref sig .tc := ⟨.hbm, 124, rfl⟩
abbrev main_c_35 : Ref sig .tc := ⟨.hbm, 125, rfl⟩
abbrev main_c_36 : Ref sig .tc := ⟨.hbm, 126, rfl⟩
abbrev main_v53 : Ref sig .tc := ⟨.hbm, 127, rfl⟩
abbrev main_c_37 : Ref sig .tc := ⟨.hbm, 128, rfl⟩
abbrev main_c_38 : Ref sig .tc := ⟨.hbm, 129, rfl⟩
abbrev main_v54 : Ref sig .tc := ⟨.hbm, 130, rfl⟩
abbrev main_c_39 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev main_c_40 : Ref sig .tc := ⟨.hbm, 142, rfl⟩
abbrev main_c_41 : Ref sig .tc := ⟨.hbm, 143, rfl⟩
abbrev main_v65 : Ref sig .tc := ⟨.hbm, 144, rfl⟩
abbrev main_c_42 : Ref sig .tc := ⟨.hbm, 145, rfl⟩
abbrev main_c_43 : Ref sig .tc := ⟨.hbm, 146, rfl⟩
abbrev main_v66 : Ref sig .tc := ⟨.hbm, 147, rfl⟩
abbrev main_c_44 : Ref sig .tc := ⟨.hbm, 148, rfl⟩
abbrev main_v67 : Ref sig .tc := ⟨.hbm, 149, rfl⟩
abbrev main_c_45 : Ref sig .tc := ⟨.hbm, 150, rfl⟩
abbrev main_v68 : Ref sig .tc := ⟨.hbm, 151, rfl⟩
abbrev main_v69 : Ref sig .tc := ⟨.hbm, 152, rfl⟩
abbrev main_c_46 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_c_47 : Ref sig .tc := ⟨.hbm, 157, rfl⟩
abbrev main_c_48 : Ref sig .tc := ⟨.hbm, 158, rfl⟩
abbrev main_v73 : Ref sig .tc := ⟨.hbm, 159, rfl⟩
abbrev main_c_49 : Ref sig .tc := ⟨.hbm, 160, rfl⟩
abbrev main_c_50 : Ref sig .tc := ⟨.hbm, 161, rfl⟩
abbrev main_v74 : Ref sig .tc := ⟨.hbm, 162, rfl⟩
abbrev main_c_51 : Ref sig .tc := ⟨.hbm, 163, rfl⟩
abbrev main_v75 : Ref sig .tc := ⟨.hbm, 164, rfl⟩
abbrev main_c_52 : Ref sig .tc := ⟨.hbm, 165, rfl⟩
abbrev main_c_53 : Ref sig .tc := ⟨.hbm, 166, rfl⟩
abbrev main_v76 : Ref sig .tc := ⟨.hbm, 167, rfl⟩
abbrev main_c_54 : Ref sig .tc := ⟨.hbm, 168, rfl⟩
abbrev main_c_55 : Ref sig .tc := ⟨.hbm, 169, rfl⟩
abbrev main_v77 : Ref sig .tc := ⟨.hbm, 170, rfl⟩
abbrev main_c_56 : Ref sig .tc := ⟨.hbm, 171, rfl⟩
abbrev main_v78 : Ref sig .tc := ⟨.hbm, 172, rfl⟩
abbrev main_v79 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_v83 : Ref sig .tc := ⟨.hbm, 177, rfl⟩
abbrev main_v84 : Ref sig .tc := ⟨.hbm, 178, rfl⟩
abbrev main_v85 : Ref sig .tc := ⟨.hbm, 179, rfl⟩
abbrev main_v86 : Ref sig .tc := ⟨.hbm, 180, rfl⟩
abbrev main_v87 : Ref sig .tc := ⟨.hbm, 181, rfl⟩
abbrev main_v88 : Ref sig .tc := ⟨.hbm, 182, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S2x1024x3584 : Shape := ⟨3, ![2, 1024, 3584]⟩
abbrev S2x3584x1024 : Shape := ⟨3, ![2, 3584, 1024]⟩
abbrev S1x1024 : Shape := ⟨2, ![1, 1024]⟩
abbrev S1024x1024 : Shape := ⟨2, ![1024, 1024]⟩
abbrev S1x1024x512 : Shape := ⟨3, ![1, 1024, 512]⟩
abbrev S1x512x1024 : Shape := ⟨3, ![1, 512, 1024]⟩
abbrev S1024x1 : Shape := ⟨2, ![1024, 1]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 7
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x3584, .f32⟩
  | .hbm, ⟨3, _⟩ => ⟨S2x1024x3584, .f32⟩
  | .hbm, ⟨4, _⟩ => ⟨S2x3584x1024, .f32⟩
  | .hbm, ⟨5, _⟩ => ⟨S1x1024, .f32⟩
  | .hbm, ⟨6, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x512x1024, .f32⟩
  | .local _ .vmem, ⟨8, _⟩ => ⟨S1x512x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 7], ![false, false]⟩

def k0_cond2 (i : grid0.Coords) : BitVec 1 :=
  let arg1 : BitVec 32 := BitVec.ofNat 32 (i 1).val
  let c6_i32 : BitVec 32 := 6#32
  let v54 : BitVec 1 := Scalar.cmpi .eq arg1 c6_i32
  let v55 : BitVec 32 := Scalar.extui v54
  let c0_i32_34 : BitVec 32 := 0#32
  let v56 : BitVec 1 := Scalar.cmpi .ne v55 c0_i32_34
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S16384x1024 : Shape := ⟨2, ![16384, 1024]⟩
abbrev S1024 : Shape := ⟨1, ![1024]⟩
abbrev S2x1024x3584 : Shape := ⟨3, ![2, 1024, 3584]⟩
abbrev S2x3584x1024 : Shape := ⟨3, ![2, 3584, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x3584 : Shape := ⟨3, ![1, 1024, 3584]⟩
abbrev S1024x3584 : Shape := ⟨2, ![1024, 3584]⟩
abbrev S16384x3584 : Shape := ⟨2, ![16384, 3584]⟩
abbrev S1x3584x1024 : Shape := ⟨3, ![1, 3584, 1024]⟩
abbrev S3584x1024 : Shape := ⟨2, ![3584, 1024]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x3584, .f32⟩
  | .hbm, ⟨3, _⟩ => ⟨S2x1024x3584, .f32⟩
  | .hbm, ⟨4, _⟩ => ⟨S2x3584x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1x1024x3584, .f32⟩
  | .hbm, ⟨22, _⟩ => ⟨S1024x3584, .f32⟩
  | .hbm, ⟨23, _⟩ => ⟨S16384x3584, .f32⟩
  | .hbm, ⟨24, _⟩ => ⟨S16384x3584, .f32⟩
  | .hbm, ⟨25, _⟩ => ⟨S16384x3584, .f32⟩
  | .hbm, ⟨26, _⟩ => ⟨S_, .f32⟩
  | .hbm, ⟨27, _⟩ => ⟨S16384x3584, .f32⟩
  | .hbm, ⟨28, _⟩ => ⟨S16384x3584, .f32⟩
  | .hbm, ⟨29, _⟩ => ⟨S_, .f32⟩
  | .hbm, ⟨30, _⟩ => ⟨S16384x3584, .f32⟩
  | .hbm, ⟨31, _⟩ => ⟨S16384x3584, .f32⟩
  | .hbm, ⟨32, _⟩ => ⟨S16384x3584, .f32⟩
  | .hbm, ⟨33, _⟩ => ⟨S1x1024x3584, .f32⟩
  | .hbm, ⟨34, _⟩ => ⟨S1024x3584, .f32⟩
  | .hbm, ⟨35, _⟩ => ⟨S16384x3584, .f32⟩
  | .hbm, ⟨36, _⟩ => ⟨S16384x3584, .f32⟩
  | .hbm, ⟨37, _⟩ => ⟨S1x3584x1024, .f32⟩
  | .hbm, ⟨38, _⟩ => ⟨S3584x1024, .f32⟩
  | .hbm, ⟨39, _⟩ => ⟨S16384x1024, .f32⟩
  | .hbm, ⟨40, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x3072 : Shape := ⟨2, ![1024, 3072]⟩
abbrev S1x1024 : Shape := ⟨2, ![1, 1024]⟩
abbrev S16384x3072 : Shape := ⟨2, ![16384, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S1024x3072, .bf16⟩
  | .hbm, ⟨4, _⟩ => ⟨S1x1024, .f32⟩
  | .hbm, ⟨5, _⟩ => ⟨S16384x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x3072, .f32⟩
  | .local _ .vmem, ⟨5, _⟩ => ⟨S512x3072, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S16384x1024 : Shape := ⟨2, ![16384, 1024]⟩
abbrev S1024 : Shape := ⟨1, ![1024]⟩
abbrev S1024x3072 : Shape := ⟨2, ![1024, 3072]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3072 : Shape := ⟨2, ![16384, 3072]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x3072, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x8 : Shape := ⟨2, ![1024, 8]⟩
abbrev S_ : Shape := ⟨0, ![]⟩
abbrev S1024x128 : Shape := ⟨2, ![1024, 128]⟩
abbrev S1x1024 : Shape := ⟨2, ![1, 1024]⟩
abbrev S16384x128 : Shape := ⟨2, ![16384, 128]⟩
abbrev S8x16384 : Shape := ⟨2, ![8, 16384]⟩
abbrev S64x8x128 : Shape := ⟨3, ![64, 8, 128]⟩
abbrev S8x128 : Shape := ⟨2, ![8, 128]⟩
abbrev S256x1024 : Shape := ⟨2, ![256, 1024]⟩
abbrev S256x128 : Shape := ⟨2, ![256, 128]⟩
abbrev S8x256 : Shape := ⟨2, ![8, 256]⟩
abbrev S1x8x128 : Shape := ⟨3, ![1, 8, 128]⟩
abbrev S1x128 : Shape := ⟨2, ![1, 128]⟩
abbrev S256 : Shape := ⟨1, ![256]⟩
abbrev S256x1 : Shape := ⟨2, ![256, 1]⟩
abbrev S256x256 : Shape := ⟨2, ![256, 256]⟩
abbrev S128x256 : Shape := ⟨2, ![128, 256]⟩
abbrev S128 : Shape := ⟨1, ![128]⟩

abbrev nBuf : Space → Nat
  | .hbm => 12
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8, .f32⟩
  | .hbm, ⟨3, _⟩ => ⟨S_, .i32⟩
  | .hbm, ⟨4, _⟩ => ⟨S_, .f32⟩
  | .hbm, ⟨5, _⟩ => ⟨S1024x128, .f32⟩
  | .hbm, ⟨6, _⟩ => ⟨S1x1024, .f32⟩
  | .hbm, ⟨7, _⟩ => ⟨S16384x1024, .bf16⟩
  | .hbm, ⟨8, _⟩ => ⟨S16384x128, .f32⟩
  | .hbm, ⟨9, _⟩ => ⟨S8x16384, .f32⟩
  | .hbm, ⟨10, _⟩ => ⟨S64x8x128, .f32⟩
  | .hbm, ⟨11, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x128, .f32⟩
  | .local _ .vmem, ⟨4, _⟩ => ⟨S256x1024, .bf16⟩
  | .local _ .vmem, ⟨5, _⟩ => ⟨S256x1024, .bf16⟩
  | .local _ .vmem, ⟨6, _⟩ => ⟨S256x128, .f32⟩
  | .local _ .vmem, ⟨7, _⟩ => ⟨S256x128, .f32⟩
  | .local _ .vmem, ⟨8, _⟩ => ⟨S8x256, .f32⟩
  | .local _ .vmem, ⟨9, _⟩ => ⟨S8x256, .f32⟩
  | .local _ .vmem, ⟨10, _⟩ => ⟨S1x8x128, .f32⟩
  | .local _ .vmem, ⟨11, _⟩ => ⟨S1x8x128, .f32⟩
  | .local _ .vmem, ⟨12, _⟩ => ⟨S8x128, .f32⟩
  | .local _ .vmem, ⟨13, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference4Ideal.lean ====
abbrev S16384x1024 : Shape := ⟨2, ![16384, 1024]⟩
abbrev S1024 : Shape := ⟨1, ![1024]⟩
abbrev S1024x8 : Shape := ⟨2, ![1024, 8]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x8 : Shape := ⟨2, ![16384, 8]⟩
abbrev S16384x2 : Shape := ⟨2, ![16384, 2]⟩
abbrev S16384x2x1 : Shape := ⟨3, ![16384, 2, 1]⟩
abbrev S8 : Shape := ⟨1, ![8]⟩
abbrev S1x1x8 : Shape := ⟨3, ![1, 1, 8]⟩
abbrev S16384x2x8 : Shape := ⟨3, ![16384, 2, 8]⟩
abbrev S1 : Shape := ⟨1, ![1]⟩
abbrev S1x1x1 : Shape := ⟨3, ![1, 1, 1]⟩
abbrev S16384x122 : Shape := ⟨2, ![16384, 122]⟩
abbrev S16384x128 : Shape := ⟨2, ![16384, 128]⟩
abbrev S64x256x128 : Shape := ⟨3, ![64, 256, 128]⟩
abbrev S64x1x128 : Shape := ⟨3, ![64, 1, 128]⟩
abbrev S64x8x128 : Shape := ⟨3, ![64, 8, 128]⟩
abbrev S1x8 : Shape := ⟨2, ![1, 8]⟩
abbrev S1x128 : Shape := ⟨2, ![1, 128]⟩
abbrev S8x128 : Shape := ⟨2, ![8, 128]⟩
abbrev S8x16384 : Shape := ⟨2, ![8, 16384]⟩

abbrev nBuf : Space → Nat
  | .hbm => 90
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x8, .f32⟩
  | .hbm, ⟨20, _⟩ => ⟨S16384x2, .f32⟩
  | .hbm, ⟨21, _⟩ => ⟨S16384x2, .i32⟩
  | .hbm, ⟨22, _⟩ => ⟨S_, .f32⟩
  | .hbm, ⟨23, _⟩ => ⟨S16384, .f32⟩
  | .hbm, ⟨24, _⟩ => ⟨S_, .f32⟩
  | .hbm, ⟨25, _⟩ => ⟨S16384, .f32⟩
  | .hbm, ⟨26, _⟩ => ⟨S16384, .f32⟩
  | .hbm, ⟨27, _⟩ => ⟨S16384x1, .f32⟩
  | .hbm, ⟨28, _⟩ => ⟨S16384x2, .f32⟩
  | .hbm, ⟨29, _⟩ => ⟨S16384x2, .f32⟩
  | .hbm, ⟨30, _⟩ => ⟨S16384x2, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S16384x2, .f32⟩
  | .hbm, ⟨35, _⟩ => ⟨S16384x2, .f32⟩
  | .hbm, ⟨36, _⟩ => ⟨S16384x2x1, .i32⟩
  | .hbm, ⟨37, _⟩ => ⟨S8, .i32⟩
  | .hbm, ⟨38, _⟩ => ⟨S1x1x8, .i32⟩
  | .hbm, ⟨39, _⟩ => ⟨S16384x2x8, .i32⟩
  | .hbm, ⟨40, _⟩ => ⟨S16384x2x8, .i32⟩
  | .hbm, ⟨41, _⟩ => ⟨S16384x2x8, .i1⟩
  | .hbm, ⟨42, _⟩ => ⟨S16384x2x8, .f32⟩
  | .hbm, ⟨43, _⟩ => ⟨S_, .f32⟩
  | .hbm, ⟨44, _⟩ => ⟨S16384x8, .f32⟩
  | .hbm, ⟨45, _⟩ => ⟨S_, .f32⟩
  | .hbm, ⟨46, _⟩ => ⟨S_, .f32⟩
  | .hbm, ⟨47, _⟩ => ⟨S16384x8, .f32⟩
  | .hbm, ⟨48, _⟩ => ⟨S16384x8, .f32⟩
  | .hbm, ⟨49, _⟩ => ⟨S_, .i32⟩
  | .hbm, ⟨50, _⟩ => ⟨S16384x2, .i32⟩
  | .hbm, ⟨51, _⟩ => ⟨S16384x2, .i1⟩
  | .hbm, ⟨52, _⟩ => ⟨S_, .i32⟩
  | .hbm, ⟨53, _⟩ => ⟨S16384x2, .i32⟩
  | .hbm, ⟨54, _⟩ => ⟨S16384x2, .i32⟩
  | .hbm, ⟨55, _⟩ => ⟨S16384x2, .i32⟩
  | .hbm, ⟨56, _⟩ => ⟨S16384x2x1, .i32⟩
  | .hbm, ⟨57, _⟩ => ⟨S1, .i32⟩
  | .hbm, ⟨58, _⟩ => ⟨S_, .i32⟩
  | .hbm, ⟨59, _⟩ => ⟨S16384x2x1, .i32⟩
  | .hbm, ⟨60, _⟩ => ⟨S16384x2x1, .i1⟩
  | .hbm, ⟨61, _⟩ => ⟨S1x1x1, .i32⟩
  | .hbm, ⟨62, _⟩ => ⟨S16384x2x1, .i32⟩
  | .hbm, ⟨63, _⟩ => ⟨S16384x2x1, .i1⟩
  | .hbm, ⟨64, _⟩ => ⟨S16384x2x1, .i1⟩
  | .hbm, ⟨65, _⟩ => ⟨S_, .i1⟩
  | .hbm, ⟨66, _⟩ => ⟨S16384x2, .i1⟩
  | .hbm, ⟨67, _⟩ => ⟨S16384x2, .f32⟩
  | .hbm, ⟨68, _⟩ => ⟨S_, .f32⟩
  | .hbm, ⟨69, _⟩ => ⟨S16384x2, .f32⟩
  | .hbm, ⟨70, _⟩ => ⟨S16384x2, .f32⟩
  | .hbm, ⟨71, _⟩ => ⟨S16384x2, .f32⟩
  | .hbm, ⟨72, _⟩ => ⟨S_, .f32⟩
  | .hbm, ⟨73, _⟩ => ⟨S16384x122, .f32⟩
  | .hbm, ⟨74, _⟩ => ⟨S16384x128, .f32⟩
  | .hbm, ⟨75, _⟩ => ⟨S16384x8, .f32⟩
  | .hbm, ⟨76, _⟩ => ⟨S_, .i32⟩
  | .hbm, ⟨77, _⟩ => ⟨S_, .f32⟩
  | .hbm, ⟨78, _⟩ => ⟨S16384x128, .f32⟩
  | .hbm, ⟨79, _⟩ => ⟨S64x256x128, .f32⟩
  | .hbm, ⟨80, _⟩ => ⟨S64x1x128, .f32⟩
  | .hbm, ⟨81, _⟩ => ⟨S64x8x128, .f32⟩
  | .hbm, ⟨82, _⟩ => ⟨S1x8, .f32⟩
  | .hbm, ⟨83, _⟩ => ⟨S_, .i32⟩
  | .hbm, ⟨84, _⟩ => ⟨S_, .f32⟩
  | .hbm, ⟨85, _⟩ => ⟨S1x128, .f32⟩
  | .hbm, ⟨86, _⟩ => ⟨S8x128, .f32⟩
  | .hbm, ⟨87, _⟩ => ⟨S16384x1024, .bf16⟩
  | .hbm, ⟨88, _⟩ => ⟨S16384x8, .f32⟩
  | .hbm, ⟨89, _⟩ => ⟨S8x16384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_values : Ref sig .tc := ⟨.hbm, 20, rfl⟩
abbrev main_indices : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_call0_call0_cst : Ref sig .tc := ⟨.hbm, 45, rfl⟩
abbrev main_call0_call0_v0 : Ref sig .tc := ⟨.hbm, 46, rfl⟩
abbrev main_v33 : Ref sig .tc := ⟨.hbm, 47, rfl⟩
abbrev main_v34 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_cst : Ref sig .tc := ⟨.hbm, 68, rfl⟩
abbrev main_call1_v14 : Ref sig .tc := ⟨.hbm, 69, rfl⟩
abbrev main_v35 : Ref sig .tc := ⟨.hbm, 70, rfl⟩
abbrev main_v36 : Ref sig .tc := ⟨.hbm, 71, rfl⟩
abbrev main_cst_6 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_c : Ref sig .tc := ⟨.hbm, 76, rfl⟩
abbrev main_call2_v0 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_c_7 : Ref sig .tc := ⟨.hbm, 83, rfl⟩
abbrev main_call3_v0 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩

abbrev nD : Nat := 1
abbrev τ : Topo := Topo.v7x

variable {F : FTy → Type} [FloatOps F]
-- ==== Proof.Common.lean ====
/-
  Facts shared by the three programs, at the ideal values: a plain matrix product, a row's sum and a column broadcast
  read at an index, the layer's three small functions (a normalised row, the gated unit, the feed-forward sum), and
  the rule that adds seven column tiles of two halves each up to the one sum over all 3584 columns.
-/
module

public import Idealize.ShloMosaic.Lib.Pipeline.Value
public import Idealize.ShloMosaic.Lib.ValueIdx
public import Idealize.ShloMosaic.PureOps.Ideal.Laws

@[expose] public section

noncomputable section

namespace Cert.Common

open Idealize.ShloMosaic Idealize.ShloMosaic.ValueIdx

/-! ## Operations read at an index -/

/-- A rows-by-columns product into a zero accumulator, at row `i` and column `j`: the sum of products over the shared axis. -/
theorem mm_apply {M K N : Nat} {φ₁ φ₂ : FTy}
    (wf : DotDims.WF ⟨2, ![M, K]⟩ ⟨2, ![K, N]⟩ ⟨2, ![M, N]⟩ [1] [0] [0] [1] [] [])
    (l : FVec Ideal ⟨2, ![M, K]⟩ φ₁) (r : FVec Ideal ⟨2, ![K, N]⟩ φ₂) (i : Fin M) (j : Fin N) :
    FloatOps.matmul (F := Ideal) (⟨[1], [0], [0], [1], [], [], wf⟩ : DotDims ⟨2, ![M, K]⟩ ⟨2, ![K, N]⟩ ⟨2, ![M, N]⟩) none l r
      (constant ⟨2, ![M, N]⟩ .f32 0x00000000#32) (ix2 i j) = ∑ k : Fin K, l (ix2 i k) * r (ix2 k j) := by
  rw [Ideal.matmul_constant_zero_apply]
  set d : DotDims ⟨2, ![M, K]⟩ ⟨2, ![K, N]⟩ ⟨2, ![M, N]⟩ := ⟨[1], [0], [0], [1], [], [], wf⟩ with hd
  rw [← Equiv.sum_comp (contrEquiv1 d K rfl rfl).symm]
  refine Finset.sum_congr rfl fun k _ => ?_
  have hk := contrEquiv1_symm_val d K rfl rfl k
  have el : d.lhsIdx (ix2 i j) ((contrEquiv1 d K rfl rfl).symm k) = ix2 i k := funext fun a => Fin.ext (by
    match a with
    | ⟨0, _⟩ => rfl
    | ⟨1, _⟩ => exact hk)
  have er : d.rhsIdx (ix2 i j) ((contrEquiv1 d K rfl rfl).symm k) = ix2 k j := funext fun a => Fin.ext (by
    match a with
    | ⟨0, _⟩ => exact hk
    | ⟨1, _⟩ => rfl)
  rw [el, er]

/-- A row's sum: the reduction over the second axis of a matrix, at row `i`. -/
theorem rowSum_apply {M K : Nat} (h : (⟨2, ![M, K]⟩ : Shape).Reduces [1] ⟨1, ![M]⟩) (hacc) (x : FVec Ideal ⟨2, ![M, K]⟩ .f32) (i : Fin M) :
    multiReduction .add [1] ⟨1, ![M]⟩ x 0x00000000#32 h (.inl rfl) hacc (ix1 i) = ∑ k : Fin K, x (ix2 i k) := by
  rw [Ideal.multiReduction_add_single]
  refine Finset.sum_congr rfl fun k _ => congrArg x (funext fun a => Fin.ext ?_)
  match a with
  | ⟨0, _⟩ => rfl
  | ⟨1, _⟩ => rfl

/-- A vector stood up as a one-column matrix and broadcast along the columns reads the vector at the row. -/
theorem colBcast_apply {M N : Nat} {α : Type} (hM : M ≠ 1) (x : (⟨2, ![M, 1]⟩ : Shape).Idx → α)
    (h : (⟨2, ![M, 1]⟩ : Shape).Broadcasts ⟨2, ![M, N]⟩) (i : Fin M) (j : Fin N) :
    broadcastTo ⟨2, ![M, N]⟩ x h (ix2 i j) = x (ix2 i 0) := by
  refine broadcastTo_apply x h _ (ix2 i 0) fun a => ?_
  match a with
  | ⟨0, _⟩ => show i.val = if M = 1 then 0 else i.val; rw [if_neg hM]
  | ⟨1, _⟩ => rfl

/-- A vector cast to a one-column matrix reads the vector at the row. -/
theorem colCast_apply {M : Nat} {α : Type} (x : (⟨1, ![M]⟩ : Shape).Idx → α)
    (h : (⟨1, ![M]⟩ : Shape).ShapeCasts ⟨2, ![M, 1]⟩) (i : Fin M) :
    shapeCast ⟨2, ![M, 1]⟩ x h (ix2 i 0) = x (ix1 i) := by
  refine shapeCast_apply x h _ (ix1 i) ?_
  rw [Shape.rowMajor_val_one, Shape.rowMajor_val_two]
  show i.val = i.val * 1 + 0
  omega

/-- A one-row matrix broadcast along the rows reads the row at the column. -/
theorem rowBcast_apply {M N : Nat} {α : Type} (hN : N ≠ 1) (x : (⟨2, ![1, N]⟩ : Shape).Idx → α)
    (h : (⟨2, ![1, N]⟩ : Shape).Broadcasts ⟨2, ![M, N]⟩) (i : Fin M) (j : Fin N) :
    broadcastTo ⟨2, ![M, N]⟩ x h (ix2 i j) = x (ix2 0 j) := by
  refine broadcastTo_apply x h _ (ix2 0 j) fun a => ?_
  match a with
  | ⟨0, _⟩ => rfl
  | ⟨1, _⟩ => show j.val = if N = 1 then 0 else j.val; rw [if_neg hN]

/-- A vector cast to a one-row matrix reads the vector at the column. -/
theorem rowCast_apply {N : Nat} {α : Type} (x : (⟨1, ![N]⟩ : Shape).Idx → α)
    (h : (⟨1, ![N]⟩ : Shape).ShapeCasts ⟨2, ![1, N]⟩) (j : Fin N) :
    shapeCast ⟨2, ![1, N]⟩ x h (ix2 0 j) = x (ix1 j) := by
  refine shapeCast_apply x h _ (ix1 j) ?_
  rw [Shape.rowMajor_val_one, Shape.rowMajor_val_two]
  show j.val = 0 * N + j.val
  omega

/-! ## The layer's functions -/

/-- The constant one, as both programs print it. -/
abbrev one : EReal := Ideal.ofBits .f32 0x3F800000#32

/-- A row divided by its root mean square (over 1024 entries, with the layer's epsilon) times the gain. -/
def nrm (x g : Fin 1024 → EReal) (k : Fin 1024) : EReal :=
  x k * Ideal.rsqrt (Ideal.div (∑ j, x j * x j) (Ideal.ofBits .f32 0x44800000#32) + Ideal.ofBits .f32 0x358637BD#32) * g k

/-- The gated unit: `a` times the logistic of `a`, times `b`. -/
def gate (a b : EReal) : EReal := a * Ideal.div one (one + Ideal.exp (-a)) * b

/-- The kernel writes the negation as a subtraction from zero. -/
theorem zero_sub' (a : EReal) : Ideal.ofBits .f32 0x00000000#32 - a = -a := by
  rw [Ideal.ofBits_zero_f32, sub_eq_add_neg, zero_add]

/-- One hidden column of the feed-forward unit: the gate of a row's two products with that column. -/
def hid (x w1 w3 : Fin 1024 → EReal) : EReal := gate (∑ k, x k * w1 k) (∑ k, x k * w3 k)

/-! ## Adding the column tiles up -/

/-- A function on the 3584 columns, extended by zero. -/
def ext (f : Fin 3584 → EReal) (n : ℕ) : EReal := if h : n < 3584 then f ⟨n, h⟩ else 0

theorem ext_of_lt (f : Fin 3584 → EReal) {n : ℕ} (h : n < 3584) : ext f n = f ⟨n, h⟩ := dif_pos h

/-- The sum over the columns of the first `n` tiles of 512. -/
def part (f : Fin 3584 → EReal) (n : ℕ) : EReal := ∑ q ∈ Finset.range (512 * n), ext f q

theorem part_zero (f : Fin 3584 → EReal) : part f 0 = 0 := by simp [part]

/-- All seven tiles are the whole sum. -/
theorem part_seven (f : Fin 3584 → EReal) : part f 7 = ∑ q, f q := by
  unfold part
  rw [Finset.sum_range]
  exact Finset.sum_congr rfl fun q _ => ext_of_lt f q.isLt

/-- One more tile adds the sums over its two halves of 256 columns. -/
theorem part_succ (f : Fin 3584 → EReal) (n : ℕ) (hn : n < 7) :
    part f (n + 1) = part f n + ((∑ q : Fin 256, f ⟨512 * n + q.val, by omega⟩) + ∑ q : Fin 256, f ⟨512 * n + 256 + q.val, by omega⟩) := by
  unfold part
  rw [show 512 * (n + 1) = 512 * n + (256 + 256) by ring, Finset.sum_range_add, Finset.sum_range_add]
  congr 1
  congr 1
  · rw [Finset.sum_range]
    exact Finset.sum_congr rfl fun q _ => ext_of_lt f _
  · rw [Finset.sum_range]
    refine Finset.sum_congr rfl fun q _ => ?_
    rw [ext_of_lt f (by omega)]
    exact congrArg f (Fin.ext (by show 512 * n + (256 + q.val) = 512 * n + 256 + q.val; omega))

/-! ## Casts that drop leading unit axes, and the gated unit times its rows -/

theorem drop3_apply {A B : Nat} {α : Type} (x : (⟨3, ![1, A, B]⟩ : Shape).Idx → α)
    (h : (⟨3, ![1, A, B]⟩ : Shape).ShapeCasts ⟨2, ![A, B]⟩) (i : Fin A) (j : Fin B) :
    shapeCast ⟨2, ![A, B]⟩ x h (ix2 i j) = x (ix3 0 i j) := by
  refine shapeCast_apply x h _ (ix3 0 i j) ?_
  rw [Shape.rowMajor_val_two, Shape.rowMajor_val_three]
  show (0 * A + i.val) * B + j.val = i.val * B + j.val
  rw [Nat.zero_mul, Nat.zero_add]

theorem drop4_apply {A B : Nat} {α : Type} (x : (⟨4, ![1, 1, A, B]⟩ : Shape).Idx → α)
    (h : (⟨4, ![1, 1, A, B]⟩ : Shape).ShapeCasts ⟨2, ![A, B]⟩) (i : Fin A) (j : Fin B) :
    shapeCast ⟨2, ![A, B]⟩ x h (ix2 i j) = x (ix4 0 0 i j) := by
  refine shapeCast_apply x h _ (ix4 0 0 i j) ?_
  rw [Shape.rowMajor_val_two, Shape.rowMajor_val_four]
  show ((0 * 1 + 0) * A + i.val) * B + j.val = i.val * B + j.val
  rw [Nat.zero_mul, Nat.zero_add]

/-- A block of gated columns times its rows of the second weights: the sum over the block's columns. -/
theorem gated_apply {M Q N : Nat}
    (wf : DotDims.WF ⟨2, ![M, Q]⟩ ⟨2, ![Q, N]⟩ ⟨2, ![M, N]⟩ [1] [0] [0] [1] [] [])
    (a b : FVec Ideal ⟨2, ![M, Q]⟩ .f32) (w : FVec Ideal ⟨2, ![Q, N]⟩ .f32) (hb : FTy.bits .bf16 < FTy.bits .f32) (i : Fin M) (j : Fin N) :
    FloatOps.matmul (F := Ideal) (⟨[1], [0], [0], [1], [], [], wf⟩ : DotDims ⟨2, ![M, Q]⟩ ⟨2, ![Q, N]⟩ ⟨2, ![M, N]⟩) none
      (truncf .bf16 (mulf (mulf a (divf (broadcast ⟨2, ![M, Q]⟩ (Scalar.ofBits .f32 0x3F800000#32 : Ideal .f32))
        (addf (broadcast ⟨2, ![M, Q]⟩ (Scalar.ofBits .f32 0x3F800000#32 : Ideal .f32))
          (exp (subf (broadcast ⟨2, ![M, Q]⟩ (Scalar.ofBits .f32 0x00000000#32 : Ideal .f32)) a))))) b) hb)
      (truncf .bf16 w hb) (constant ⟨2, ![M, N]⟩ .f32 0x00000000#32) (ix2 i j)
      = ∑ q : Fin Q, gate (a (ix2 i q)) (b (ix2 i q)) * w (ix2 q j) := by
  refine (mm_apply wf _ _ i j).trans (Finset.sum_congr rfl fun q _ => ?_)
  refine congrArg (· * _) ?_
  show a (ix2 i q) * Ideal.div one (one + Ideal.exp (Ideal.ofBits .f32 0x00000000#32 - a (ix2 i q))) * b (ix2 i q) = _
  rw [zero_sub']
  rfl

end Cert.Common

end
-- ==== Proof.RouterCases.lean ====
/-
  The router's kernel, one grid point at a time: what the two cases of its body leave in the output blocks and in the
  carried counts, as terms of the input blocks and of the counts before.
-/
module

public import proofs.«01_k».proof.Proof.Common
public import proofs.«01_k».proof.Proof.Gen.Kernel4Ideal.Value
public import Idealize.ShloMosaic.Lib.Tactic

@[expose] public section

noncomputable section

namespace Cert.Kernel4Ideal.Hand

open Cert.Kernel4Ideal Cert.Kernel4Ideal.Gen
open Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- A block's table from its logits and the counts before it. -/
def info (L : FVec F S256x128 .f32) (cnt : Vec F S1x128 .f32) : FVec F S256x128 .f32 :=
  k0_pay26 (iota .tc S256x128 32 [1] iota_S256x128_d1_w32) (k0_pay14 L k0_pay9 k0_pay10 k0_pay11) (k0_pay15 L k0_pay9 k0_pay10 k0_pay11)
    (k0_pay18 L k0_pay9 k0_pay10 k0_pay11) (k0_pay19 L k0_pay9 k0_pay10 k0_pay11) (k0_pay21 L k0_pay9 k0_pay10 k0_pay11)
    (k0_pay22 L k0_pay9 k0_pay10 k0_pay11) k0_pay24 cnt (k0_pay25 L k0_pay9 k0_pay10 k0_pay11)

/-- The same table's first eight columns as rows. -/
def infoT (L : FVec F S256x128 .f32) (cnt : Vec F S1x128 .f32) : FVec F S8x256 .f32 :=
  k0_pay27 (iota .tc S256x128 32 [1] iota_S256x128_d1_w32) (k0_pay14 L k0_pay9 k0_pay10 k0_pay11) (k0_pay15 L k0_pay9 k0_pay10 k0_pay11)
    (k0_pay18 L k0_pay9 k0_pay10 k0_pay11) (k0_pay19 L k0_pay9 k0_pay10 k0_pay11) (k0_pay21 L k0_pay9 k0_pay10 k0_pay11)
    (k0_pay22 L k0_pay9 k0_pay10 k0_pay11) k0_pay24 cnt (k0_pay25 L k0_pay9 k0_pay10 k0_pay11)

/-- The one-hot sum of the two chosen. -/
abbrev picks (L : FVec F S256x128 .f32) : FVec F S256x128 .f32 := k0_pay23 L k0_pay9 k0_pay10 k0_pay11

variable (c : Dev nD) (i : grid0.Coords) (a1 : Memref sig .tc .vmem S256x1024 .f32) (h1 : a1.IsWhole)
  (a2 : Memref sig .tc .vmem S1x1024 .f32) (h2 : a2.IsWhole) (a3 : Memref sig .tc .vmem S1024x128 .f32) (h3 : a3.IsWhole)
  (a4 : Memref sig .tc .vmem S256x1024 .bf16) (h4 : a4.IsWhole) (a5 : Memref sig .tc .vmem S256x128 .f32) (h5 : a5.IsWhole)
  (a6 : Memref sig .tc .vmem S8x256 .f32) (h6 : a6.IsWhole) (a7 : Memref sig .tc .vmem S1x8x128 .f32) (h7 : a7.IsWhole)
  (a8 : Memref sig .tc .vmem S8x128 .f32) (h8 : a8.IsWhole) (a9 : Memref sig .tc .vmem S1x128 .f32) (h9 : a9.IsWhole)
  (x : Vec F S256x1024 .f32) (g : Vec F S1x1024 .f32) (w : Vec F S1024x128 .f32) (cnt : Vec F S1x128 .f32)

theorem casea3 (hc0 : cond0_0 i) : out0_A_3 c i a1 h1 a2 h2 a3 h3 a4 h4 a5 h5 a6 h6 a7 h7 a8 h8 a9 h9 hc0 x g w = k0_pay7 x g := by
  unfold out0_A_3
  rw [View.read_writes_eq_canon _ _ _ (cover0_A_3 c i a1 h1 a2 h2 a3 h3 a4 h4 a5 h5 a6 h6 a7 h7 a8 h8 a9 h9 hc0 x g w)]
  unfold kernelRun0_A
  dsimp only
  sl_unfold_words
  rw [View.canon_unit_zero hz]
  simp only [View.readCov_unit_zero (S := S1x128) _ hz, View.readAt_eq_ld, h1.read_unread, h2.read_unread, h3.read_unread, View.ld_unit_zero (S := S256x1024) hz,
    View.ld_unit_zero (S := S1x1024) hz, View.ld_unit_zero (S := S1024x128) hz, View.ld_unit_zero (S := S1x128) hz]
  try rfl

theorem casea4 (hc0 : cond0_0 i) : out0_A_4 c i a1 h1 a2 h2 a3 h3 a4 h4 a5 h5 a6 h6 a7 h7 a8 h8 a9 h9 hc0 x g w = info (k0_pay8 x g w) k0_pay5 := by
  unfold out0_A_4
  rw [View.read_writes_eq_canon _ _ _ (cover0_A_4 c i a1 h1 a2 h2 a3 h3 a4 h4 a5 h5 a6 h6 a7 h7 a8 h8 a9 h9 hc0 x g w)]
  unfold kernelRun0_A
  dsimp only
  sl_unfold_words
  rw [View.canon_unit_zero hz]
  simp only [View.readCov_unit_zero (S := S1x128) _ hz, View.readAt_eq_ld, h1.read_unread, h2.read_unread, h3.read_unread, View.ld_unit_zero (S := S256x1024) hz,
    View.ld_unit_zero (S := S1x1024) hz, View.ld_unit_zero (S := S1024x128) hz, View.ld_unit_zero (S := S1x128) hz]
  try rfl

theorem casea5 (hc0 : cond0_0 i) : out0_A_5 c i a1 h1 a2 h2 a3 h3 a4 h4 a5 h5 a6 h6 a7 h7 a8 h8 a9 h9 hc0 x g w = infoT (k0_pay8 x g w) k0_pay5 := by
  unfold out0_A_5
  rw [View.read_writes_eq_canon _ _ _ (cover0_A_5 c i a1 h1 a2 h2 a3 h3 a4 h4 a5 h5 a6 h6 a7 h7 a8 h8 a9 h9 hc0 x g w)]
  unfold kernelRun0_A
  dsimp only
  sl_unfold_words
  rw [View.canon_unit_zero hz]
  simp only [View.readCov_unit_zero (S := S1x128) _ hz, View.readAt_eq_ld, h1.read_unread, h2.read_unread, h3.read_unread, View.ld_unit_zero (S := S256x1024) hz,
    View.ld_unit_zero (S := S1x1024) hz, View.ld_unit_zero (S := S1024x128) hz, View.ld_unit_zero (S := S1x128) hz]
  try rfl

theorem casea6 (hc0 : cond0_0 i) : out0_A_6 c i a1 h1 a2 h2 a3 h3 a4 h4 a5 h5 a6 h6 a7 h7 a8 h8 a9 h9 hc0 x g w = k0_pay1 k0_pay5 := by
  unfold out0_A_6
  rw [View.read_writes_eq_canon _ _ _ (cover0_A_6 c i a1 h1 a2 h2 a3 h3 a4 h4 a5 h5 a6 h6 a7 h7 a8 h8 a9 h9 hc0 x g w)]
  unfold kernelRun0_A
  dsimp only
  sl_unfold_words
  rw [View.canon_unit_zero hz3]
  simp only [View.readCov_unit_zero (S := S1x128) _ hz, View.readAt_eq_ld, h1.read_unread, h2.read_unread, h3.read_unread, View.ld_unit_zero (S := S256x1024) hz,
    View.ld_unit_zero (S := S1x1024) hz, View.ld_unit_zero (S := S1024x128) hz, View.ld_unit_zero (S := S1x128) hz]
  try rfl

theorem casea7 (hc0 : cond0_0 i) : out0_A_7 c i a1 h1 a2 h2 a3 h3 a4 h4 a5 h5 a6 h6 a7 h7 a8 h8 a9 h9 hc0 x g w = k0_pay4 (picks (k0_pay8 x g w)) k0_pay5 := by
  unfold out0_A_7
  rw [View.read_writes_eq_canon _ _ _ (cover0_A_7 c i a1 h1 a2 h2 a3 h3 a4 h4 a5 h5 a6 h6 a7 h7 a8 h8 a9 h9 hc0 x g w)]
  unfold kernelRun0_A
  dsimp only
  sl_unfold_words
  rw [View.canon_unit_zero hz]
  simp only [View.readCov_unit_zero (S := S1x128) _ hz, View.readAt_eq_ld, h1.read_unread, h2.read_unread, h3.read_unread, View.ld_unit_zero (S := S256x1024) hz,
    View.ld_unit_zero (S := S1x1024) hz, View.ld_unit_zero (S := S1024x128) hz, View.ld_unit_zero (S := S1x128) hz]
  try rfl

theorem caseaS (hc0 : cond0_0 i) : sout0_A_0 c i a1 h1 a2 h2 a3 h3 a4 h4 a5 h5 a6 h6 a7 h7 a8 h8 a9 h9 hc0 x g w = k0_pay3 (picks (k0_pay8 x g w)) k0_pay5 := by
  unfold sout0_A_0
  rw [View.read_writes_eq_canon _ _ _ (scover0_A_0 c i a1 h1 a2 h2 a3 h3 a4 h4 a5 h5 a6 h6 a7 h7 a8 h8 a9 h9 hc0 x g w)]
  unfold kernelRun0_A
  dsimp only
  sl_unfold_words
  rw [View.canon_cons_unit_zero (S := S1x128) hz]
  simp only [View.readCov_unit_zero (S := S1x128) _ hz, View.readAt_eq_ld, h1.read_unread, h2.read_unread, h3.read_unread, View.ld_unit_zero (S := S256x1024) hz,
    View.ld_unit_zero (S := S1x1024) hz, View.ld_unit_zero (S := S1024x128) hz, View.ld_unit_zero (S := S1x128) hz]
  try rfl

theorem caseb3 (hc0 : ¬cond0_0 i) : out0_B_3 c i a1 h1 a2 h2 a3 h3 a4 h4 a5 h5 a6 h6 a7 h7 a8 h8 a9 h9 hc0 x g w cnt = k0_pay7 x g := by
  unfold out0_B_3
  rw [View.read_writes_eq_canon _ _ _ (cover0_B_3 c i a1 h1 a2 h2 a3 h3 a4 h4 a5 h5 a6 h6 a7 h7 a8 h8 a9 h9 hc0 x g w cnt)]
  unfold kernelRun0_B
  dsimp only
  sl_unfold_words
  rw [View.canon_unit_zero hz]
  simp only [View.readAt_eq_ld, h1.read_unread, h2.read_unread, h3.read_unread, h9.read_unread, View.ld_unit_zero (S := S256x1024) hz,
    View.ld_unit_zero (S := S1x1024) hz, View.ld_unit_zero (S := S1024x128) hz, View.ld_unit_zero (S := S1x128) hz]
  try rfl

theorem caseb4 (hc0 : ¬cond0_0 i) : out0_B_4 c i a1 h1 a2 h2 a3 h3 a4 h4 a5 h5 a6 h6 a7 h7 a8 h8 a9 h9 hc0 x g w cnt = info (k0_pay8 x g w) cnt := by
  unfold out0_B_4
  rw [View.read_writes_eq_canon _ _ _ (cover0_B_4 c i a1 h1 a2 h2 a3 h3 a4 h4 a5 h5 a6 h6 a7 h7 a8 h8 a9 h9 hc0 x g w cnt)]
  unfold kernelRun0_B
  dsimp only
  sl_unfold_words
  rw [View.canon_unit_zero hz]
  simp only [View.readAt_eq_ld, h1.read_unread, h2.read_unread, h3.read_unread, h9.read_unread, View.ld_unit_zero (S := S256x1024) hz,
    View.ld_unit_zero (S := S1x1024) hz, View.ld_unit_zero (S := S1024x128) hz, View.ld_unit_zero (S := S1x128) hz]
  try rfl

theorem caseb5 (hc0 : ¬cond0_0 i) : out0_B_5 c i a1 h1 a2 h2 a3 h3 a4 h4 a5 h5 a6 h6 a7 h7 a8 h8 a9 h9 hc0 x g w cnt = infoT (k0_pay8 x g w) cnt := by
  unfold out0_B_5
  rw [View.read_writes_eq_canon _ _ _ (cover0_B_5 c i a1 h1 a2 h2 a3 h3 a4 h4 a5 h5 a6 h6 a7 h7 a8 h8 a9 h9 hc0 x g w cnt)]
  unfold kernelRun0_B
  dsimp only
  sl_unfold_words
  rw [View.canon_unit_zero hz]
  simp only [View.readAt_eq_ld, h1.read_unread, h2.read_unread, h3.read_unread, h9.read_unread, View.ld_unit_zero (S := S256x1024) hz,
    View.ld_unit_zero (S := S1x1024) hz, View.ld_unit_zero (S := S1024x128) hz, View.ld_unit_zero (S := S1x128) hz]
  try rfl

theorem caseb6 (hc0 : ¬cond0_0 i) : out0_B_6 c i a1 h1 a2 h2 a3 h3 a4 h4 a5 h5 a6 h6 a7 h7 a8 h8 a9 h9 hc0 x g w cnt = k0_pay1 cnt := by
  unfold out0_B_6
  rw [View.read_writes_eq_canon _ _ _ (cover0_B_6 c i a1 h1 a2 h2 a3 h3 a4 h4 a5 h5 a6 h6 a7 h7 a8 h8 a9 h9 hc0 x g w cnt)]
  unfold kernelRun0_B
  dsimp only
  sl_unfold_words
  rw [View.canon_unit_zero hz3]
  simp only [View.readAt_eq_ld, h1.read_unread, h2.read_unread, h3.read_unread, h9.read_unread, View.ld_unit_zero (S := S256x1024) hz,
    View.ld_unit_zero (S := S1x1024) hz, View.ld_unit_zero (S := S1024x128) hz, View.ld_unit_zero (S := S1x128) hz]
  try rfl

theorem caseb7 (hc0 : ¬cond0_0 i) : out0_B_7 c i a1 h1 a2 h2 a3 h3 a4 h4 a5 h5 a6 h6 a7 h7 a8 h8 a9 h9 hc0 x g w cnt = k0_pay4 (picks (k0_pay8 x g w)) cnt := by
  unfold out0_B_7
  rw [View.read_writes_eq_canon _ _ _ (cover0_B_7 c i a1 h1 a2 h2 a3 h3 a4 h4 a5 h5 a6 h6 a7 h7 a8 h8 a9 h9 hc0 x g w cnt)]
  unfold kernelRun0_B
  dsimp only
  sl_unfold_words
  rw [View.canon_unit_zero hz]
  simp only [View.readAt_eq_ld, h1.read_unread, h2.read_unread, h3.read_unread, h9.read_unread, View.ld_unit_zero (S := S256x1024) hz,
    View.ld_unit_zero (S := S1x1024) hz, View.ld_unit_zero (S := S1024x128) hz, View.ld_unit_zero (S := S1x128) hz]
  try rfl

theorem casebS (hc0 : ¬cond0_0 i) : sout0_B_0 c i a1 h1 a2 h2 a3 h3 a4 h4 a5 h5 a6 h6 a7 h7 a8 h8 a9 h9 hc0 x g w cnt = k0_pay3 (picks (k0_pay8 x g w)) cnt := by
  unfold sout0_B_0
  rw [View.read_writes_eq_canon _ _ _ (scover0_B_0 c i a1 h1 a2 h2 a3 h3 a4 h4 a5 h5 a6 h6 a7 h7 a8 h8 a9 h9 hc0 x g w cnt)]
  unfold kernelRun0_B
  dsimp only
  sl_unfold_words
  rw [View.canon_unit_zero hz]
  simp only [View.readAt_eq_ld, h1.read_unread, h2.read_unread, h3.read_unread, h9.read_unread, View.ld_unit_zero (S := S256x1024) hz,
    View.ld_unit_zero (S := S1x1024) hz, View.ld_unit_zero (S := S1024x128) hz, View.ld_unit_zero (S := S1x128) hz]
  try rfl

end Cert.Kernel4Ideal.Hand

end
-- ==== Proof.RouterMath.lean ====
/-
  The router's choice on one row of eight logits, in plain terms: the two largest, the lower number first on a tie, read off a
  row of 128 lanes by two maxima and two least positions, and the two gates as quotients.
-/
module

public import proofs.«01_k».proof.Proof.Common

@[expose] public section

noncomputable section

namespace Cert.Router

open Idealize.ShloMosaic

/-! ## Real values -/

/-- A value that is a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, by rw [EReal.coe_add]⟩

theorem IsReal.mul {x y : EReal} (hx : IsReal x) (hy : IsReal y) : IsReal (x * y) := by
  obtain ⟨a, rfl⟩ := hx
  obtain ⟨b, rfl⟩ := hy
  exact ⟨a * b, by rw [EReal.coe_mul]⟩

theorem IsReal.sum {n : Nat} {f : Fin n → EReal} (h : ∀ k, IsReal (f k)) : IsReal (∑ k, f k) := by
  refine Finset.sum_induction f IsReal (fun _ _ => IsReal.add) ⟨0, by simp⟩ fun k _ => h k

theorem IsReal.sub_self {x : EReal} (h : IsReal x) : x - x = 0 := by
  obtain ⟨a, rfl⟩ := h
  rw [← EReal.coe_sub, _root_.sub_self, EReal.coe_zero]

theorem ofBits_1024 : Ideal.ofBits .f32 0x44800000#32 = ((1024 : ℝ) : EReal) := by
  simp [Ideal.ofBits, Ideal.ieee]; rw [← EReal.coe_mul]; norm_num

theorem ofBits_eps : ∃ r : ℝ, 0 < r ∧ Ideal.ofBits .f32 0x358637BD#32 = (r : EReal) := by
  refine ⟨_, ?_, by simp [Ideal.ofBits, Ideal.ieee]; rfl⟩
  positivity

theorem ofBits_128 : Ideal.ofBits .f32 0x43000000#32 = ((128 : ℝ) : EReal) := by
  simp [Ideal.ofBits, Ideal.ieee]; rw [← EReal.coe_mul]; norm_num

theorem ofBits_bot : Ideal.ofBits .f32 0xFF800000#32 = (⊥ : EReal) := by
  simp [Ideal.ofBits, Ideal.ieee]

theorem ofBits_top : Ideal.ofBits .f32 0x7F800000#32 = (⊤ : EReal) := by
  simp [Ideal.ofBits, Ideal.ieee]

theorem real_or (x : EReal) : IsReal x ∨ x = ⊥ ∨ x = ⊤ := by
  induction x with
  | bot => exact .inr (.inl rfl)
  | top => exact .inr (.inr rfl)
  | coe r => exact .inl ⟨r, rfl⟩

theorem sq_nonneg (x : EReal) : 0 ≤ x * x := by
  rcases real_or x with ⟨r, rfl⟩ | rfl | rfl
  · rw [← EReal.coe_mul]
    exact EReal.coe_nonneg.2 (mul_self_nonneg r)
  · rw [EReal.bot_mul_bot]
    exact le_top
  · rw [EReal.top_mul_top]
    exact le_top

/-- The scale of a row is real: of a real row as the mean of the squares is not negative and the epsilon is positive, and of a row
    with an infinity it is zero. -/
theorem scale_real (x : Fin 1024 → EReal) : (∃ k, ¬ IsReal (x k)) ∧
      Ideal.rsqrt (Ideal.div (∑ j, x j * x j) (Ideal.ofBits .f32 0x44800000#32) + Ideal.ofBits .f32 0x358637BD#32) = 0
    ∨ (∀ k, IsReal (x k)) ∧
      IsReal (Ideal.rsqrt (Ideal.div (∑ j, x j * x j) (Ideal.ofBits .f32 0x44800000#32) + Ideal.ofBits .f32 0x358637BD#32)) := by
  obtain ⟨e, he, hee⟩ := ofBits_eps
  by_cases hx : ∀ k, IsReal (x k)
  · refine .inr ⟨hx, ?_⟩
    choose x' hx' using hx
    have hs : ∑ j, x j * x j = ((∑ j, x' j * x' j : ℝ) : EReal) := by
      rw [show (∑ j, x j * x j) = ∑ j, ((x' j * x' j : ℝ) : EReal) from Finset.sum_congr rfl fun j _ => by rw [hx', EReal.coe_mul]]
      exact (map_sum (⟨⟨Real.toEReal, EReal.coe_zero⟩, EReal.coe_add⟩ : ℝ →+ EReal) _ _).symm
    have h0 : 0 ≤ ∑ j, x' j * x' j := Finset.sum_nonneg fun j _ => mul_self_nonneg _
    have hp : 0 < (∑ j, x' j * x' j) * (1 / 1024) + e := by positivity
    rw [hs, ofBits_1024, Ideal.div_coe (by norm_num), hee, ← EReal.coe_mul, ← EReal.coe_add, Ideal.rsqrt_coe, if_neg (not_lt.2 hp.le), if_neg hp.ne']
    exact ⟨_, rfl⟩
  · obtain ⟨k, hk⟩ := not_forall.1 hx
    refine .inl ⟨⟨k, hk⟩, ?_⟩
    have hkk : x k * x k = ⊤ := by
      rcases (real_or (x k)).resolve_left hk with h | h <;> rw [h]
      · exact EReal.bot_mul_bot
      · exact EReal.top_mul_top
    have hs : ∑ j, x j * x j = ⊤ :=
      top_le_iff.1 (hkk ▸ Finset.single_le_sum (f := fun j => x j * x j) (fun j _ => sq_nonneg (x j)) (Finset.mem_univ k))
    rw [hs, ofBits_1024, Ideal.div_coe (by norm_num), hee, EReal.top_mul_coe_of_pos (by norm_num), EReal.top_add_coe, Ideal.rsqrt_top]

/-- The normed row of any row with a real gain is real. -/
theorem nrm_real {x g : Fin 1024 → EReal} (hg : ∀ k, IsReal (g k)) (k : Fin 1024) : IsReal (Common.nrm x g k) := by
  unfold Common.nrm
  rcases scale_real x with ⟨-, h⟩ | ⟨hx, h⟩
  · rw [h, mul_zero, zero_mul]
    exact ⟨0, rfl⟩
  · exact ((hx k).mul h).mul (hg k)

/-! ## Folds of the larger and of the smaller -/

theorem foldMax_eq {n : Nat} (f : Fin n → EReal) (c : EReal) (i : Fin n) (hi : f i = c) (h : ∀ j, f j ≤ c) : Finset.univ.fold max ⊥ f = c := by
  refine le_antisymm ((Finset.fold_max_le _).2 ⟨bot_le, fun j _ => h j⟩) ((Finset.le_fold_max _).2 (.inr ⟨i, Finset.mem_univ _, hi.ge⟩))

theorem foldMin_eq {n : Nat} (f : Fin n → EReal) (c : EReal) (i : Fin n) (hi : f i = c) (h : ∀ j, c ≤ f j) : Finset.univ.fold min ⊤ f = c := by
  refine le_antisymm ((Finset.fold_min_le _).2 (.inr ⟨i, Finset.mem_univ _, hi.le⟩)) ((Finset.le_fold_min _).2 ⟨le_top, fun j _ => h j⟩)

/-! ## The two chosen of eight -/

/-- `i` comes before `j`: the larger value, or the lower number on a tie. -/
def Before (v : Fin 8 → EReal) (i j : Fin 8) : Prop := v j < v i ∨ (v i = v j ∧ i < j)

/-- `i` and `j` are the first two. -/
structure Top (v : Fin 8 → EReal) (i j : Fin 8) : Prop where
  ne : j ≠ i
  first : ∀ k, k ≠ i → Before v i k
  second : ∀ k, k ≠ i → k ≠ j → Before v j k

theorem exists_first (v : Fin 8 → EReal) (s : Finset (Fin 8)) (hs : s.Nonempty) : ∃ i ∈ s, ∀ k ∈ s, k ≠ i → Before v i k := by
  obtain ⟨i, hi, h⟩ := s.exists_max_image (fun k => toLex (v k, OrderDual.toDual k)) hs
  refine ⟨i, hi, fun k hk hne => ?_⟩
  have h1 := h k hk
  rw [Prod.Lex.toLex_le_toLex] at h1
  rcases h1 with h1 | ⟨h1, h2⟩
  · exact .inl h1
  · exact .inr ⟨h1.symm, lt_of_le_of_ne (OrderDual.toDual_le_toDual.1 h2) (Ne.symm hne)⟩

theorem exists_top (v : Fin 8 → EReal) : ∃ i j, Top v i j := by
  obtain ⟨i, -, h1⟩ := exists_first v Finset.univ ⟨0, Finset.mem_univ _⟩
  obtain ⟨j, hj, h2⟩ := exists_first v (Finset.univ.erase i) (by
    refine ⟨i + 1, Finset.mem_erase.2 ⟨?_, Finset.mem_univ _⟩⟩
    exact (by decide : ∀ a : Fin 8, a + 1 ≠ a) i)
  exact ⟨i, j, (Finset.mem_erase.1 hj).1, fun k hk => h1 k (Finset.mem_univ _) hk, fun k hk hkj => h2 k (Finset.mem_erase.2 ⟨hk, Finset.mem_univ _⟩) hkj⟩

theorem Before.le {v : Fin 8 → EReal} {i j : Fin 8} (h : Before v i j) : v j ≤ v i := by
  rcases h with h | h
  · exact h.le
  · exact h.1.ge

theorem Before.lt {v : Fin 8 → EReal} {i j : Fin 8} (h : Before v i j) (he : v j = v i) : i < j := by
  rcases h with h | h
  · exact absurd he h.ne
  · exact h.2

/-! ## Read off 128 lanes -/

/-- The eight logits on the first eight of 128 lanes; the rest below everything. -/
def lanes (v : Fin 8 → EReal) (e : Fin 128) : EReal := if h : e.val < 8 then v ⟨e.val, h⟩ else ⊥

/-- The lane of an expert. -/
def lane (i : Fin 8) : Fin 128 := ⟨i.val, by omega⟩

theorem lanes_lane (v : Fin 8 → EReal) (i : Fin 8) : lanes v (lane i) = v i := dif_pos i.isLt

/-- A lane's number as a value. -/
def num (n : ℕ) : EReal := ((n : ℝ) : EReal)

theorem num_le {a b : ℕ} : num a ≤ num b ↔ a ≤ b := by simp [num]
theorem num_inj {a b : ℕ} : num a = num b ↔ a = b := by simp [num]

variable {v : Fin 8 → EReal} {i j : Fin 8}

theorem max1 (h : Top v i j) : Finset.univ.fold max ⊥ (lanes v) = v i := by
  refine foldMax_eq _ _ (lane i) (lanes_lane v i) fun e => ?_
  unfold lanes
  split
  · next he =>
    by_cases hk : (⟨e.val, he⟩ : Fin 8) = i
    · rw [hk]
    · exact (h.first _ hk).le
  · exact bot_le

/-- The least lane that holds the maximum is the first expert's. -/
theorem arg1 (h : Top v i j) (hv : ∀ k, v k ≠ ⊥) :
    Finset.univ.fold min ⊤ (fun e : Fin 128 => if lanes v e = v i then num e.val else num 128) = num i.val := by
  refine foldMin_eq _ _ (lane i) (if_pos (lanes_lane v i)) fun e => ?_
  split
  · next he =>
    rw [num_le]
    by_cases h8 : e.val < 8
    · rw [lanes, dif_pos h8] at he
      by_cases hk : (⟨e.val, h8⟩ : Fin 8) = i
      · rw [← hk]
      · exact ((h.first _ hk).lt he).le
    · rw [lanes, dif_neg h8] at he
      exact absurd he.symm (hv i)
  · rw [num_le]; omega

/-- The lanes without the first expert's. -/
def rest (v : Fin 8 → EReal) (i : Fin 8) (e : Fin 128) : EReal := if num e.val = num i.val then ⊥ else lanes v e

theorem rest_lane (h : Top v i j) : rest v i (lane j) = v j := by
  have hne : num (lane j).val ≠ num i.val := fun he => h.ne (Fin.ext (num_inj.1 he))
  rw [rest, if_neg hne, lanes_lane]

theorem max2 (h : Top v i j) : Finset.univ.fold max ⊥ (rest v i) = v j := by
  refine foldMax_eq _ _ (lane j) (rest_lane h) fun e => ?_
  unfold rest
  split
  · exact bot_le
  · next hne =>
    unfold lanes
    split
    · next he =>
      by_cases hk : (⟨e.val, he⟩ : Fin 8) = j
      · rw [hk]
      · exact (h.second _ (fun hi => hne (num_inj.2 (congrArg Fin.val hi))) hk).le
    · exact bot_le

theorem arg2 (h : Top v i j) (hv : ∀ k, v k ≠ ⊥) :
    Finset.univ.fold min ⊤ (fun e : Fin 128 => if rest v i e = v j then num e.val else num 128) = num j.val := by
  refine foldMin_eq _ _ (lane j) (if_pos (rest_lane h)) fun e => ?_
  split
  · next he =>
    rw [num_le]
    by_cases hi : num e.val = num i.val
    · rw [rest, if_pos hi] at he
      exact absurd he.symm (hv j)
    · rw [rest, if_neg hi] at he
      by_cases h8 : e.val < 8
      · rw [lanes, dif_pos h8] at he
        by_cases hk : (⟨e.val, h8⟩ : Fin 8) = j
        · rw [← hk]
        · exact ((h.second _ (fun hi' => hi (num_inj.2 (congrArg Fin.val hi'))) hk).lt he).le
      · rw [lanes, dif_neg h8] at he
        exact absurd he.symm (hv j)
  · rw [num_le]; omega

/-! ## The gates -/

/-- The first gate: one over one plus the exponential of the difference. -/
def gate1 (a b : EReal) : EReal := Ideal.div 1 (1 + Ideal.exp (b - a))

/-- The second gate: the exponential of the difference over the same. -/
def gate2 (a b : EReal) : EReal := Ideal.div (Ideal.exp (b - a)) (1 + Ideal.exp (b - a))

theorem exp_sub_self {a : EReal} (h : IsReal a) : Ideal.exp (a - a) = 1 := by
  rw [h.sub_self]
  show Ideal.exp ((0 : ℝ) : EReal) = 1
  rw [Ideal.exp_coe, Real.exp_zero, EReal.coe_one]

/-- The exponential times the first gate is the second. -/
theorem exp_mul_gate1 {a b : EReal} (ha : IsReal a) (hb : IsReal b) : Ideal.exp (b - a) * gate1 a b = gate2 a b := by
  obtain ⟨x, rfl⟩ := ha
  obtain ⟨y, rfl⟩ := hb
  unfold gate1 gate2
  rw [← EReal.coe_sub, Ideal.exp_coe, ← EReal.coe_one, ← EReal.coe_add,
    Ideal.div_coe (by positivity), Ideal.div_coe (by positivity), EReal.coe_one, one_mul]

end Cert.Router

end
-- ==== Proof.RouterRows.lean ====
/-
  One block of the router's table, read at a row: the two experts in the first two lanes and their gates in the next two.
-/
module

public import proofs.«01_k».proof.Proof.RouterMath
public import proofs.«01_k».proof.Proof.Gen.Kernel4Ideal.Skeleton
public import Idealize.ShloMosaic.Lib.IdealHost

@[expose] public section

set_option maxRecDepth 16384

noncomputable section

namespace Cert.Kernel4Ideal.Hand

open Cert.Kernel4Ideal Cert.Kernel4Ideal.Gen Cert.Common Cert.Router
open Idealize.ShloMosaic Idealize.ShloMosaic.ValueIdx

/-- The lane numbers as words. -/
abbrev laneW : IVec S256x128 32 := iota .tc S256x128 32 [1] iota_S256x128_d1_w32

theorem laneW_apply (p : Fin 256) (e : Fin 128) : laneW (ix2 p e) = BitVec.ofNat 32 e.val := by
  show BitVec.ofNat 32 (0 * 128 + e.val) = _
  rw [Nat.zero_mul, Nat.zero_add]

theorem toInt_small (n : ℕ) (h : n < 256) : @BitVec.toInt 32 (BitVec.ofNat 32 n) = (n : ℤ) := by
  rw [BitVec.toInt_ofNat']
  exact Int.bmod_eq_of_le (by omega) (by omega)

theorem pay9_apply (p : Fin 256) (e : Fin 128) : (k0_pay9 : FVec Ideal S256x128 .f32) (ix2 p e) = num e.val := by
  show (((laneW (ix2 p e)).toInt : ℝ) : EReal) = _
  rw [laneW_apply, toInt_small e.val (by omega)]
  simp [num]

theorem pay10_apply (p : Fin 256) (e : Fin 128) : k0_pay10 (ix2 p e) = BitVec.ofBool (decide (e.val < 8)) := by
  show IntOp.cmpi .slt (laneW (ix2 p e)) 8#32 = _
  rw [laneW_apply]
  revert e
  decide

theorem pay11_apply (p : Fin 256) (e : Fin 128) : (k0_pay11 : FVec Ideal S256x128 .f32) (ix2 p e) = ⊥ := ofBits_bot

/-- A choice by a decided word. -/
theorem select_ofBool {α : Type} (q : Prop) [Decidable q] (a b : α) : Scalar.select (BitVec.ofBool (decide q)) a b = if q then a else b := by
  by_cases h : q <;> simp [Scalar.select, h]

theorem cmpf_oeq (a b : EReal) : FloatOps.cmpf (F := Ideal) (φ := .f32) .oeq a b = BitVec.ofBool (decide (a = b)) := rfl

/-- A row's greatest and least entries. -/
theorem rowMax_apply (hacc) (x : FVec Ideal S256x128 .f32) (p : Fin 256) :
    multiReduction .maximumf [1] S256 x 0xFF800000#32 reduces_S256x128_S256 (.inl rfl) hacc (ix1 p)
      = Finset.univ.fold max ⊥ (fun e : Fin 128 => x (ix2 p e)) := by
  rw [Ideal.multiReduction_maximumf_single]
  show Finset.fold max (Ideal.ofBits .f32 0xFF800000#32) _ _ = _
  rw [ofBits_bot]
  refine Finset.fold_congr fun e _ => congrArg x (funext fun a => Fin.ext ?_)
  match a with
  | ⟨0, _⟩ => rfl
  | ⟨1, _⟩ => rfl

theorem rowMin_apply (hacc) (x : FVec Ideal S256x128 .f32) (p : Fin 256) :
    multiReduction .minimumf [1] S256 x 0x7F800000#32 reduces_S256x128_S256 (.inl rfl) hacc (ix1 p)
      = Finset.univ.fold min ⊤ (fun e : Fin 128 => x (ix2 p e)) := by
  rw [multiReduction_minimumf_eq_fold]
  refine (reduces_S256x128_S256.fold_filter_drop_single _ _ x (ix1 p)).trans ?_
  show Finset.fold min (Ideal.ofBits .f32 0x7F800000#32) _ _ = _
  rw [ofBits_top]
  refine Finset.fold_congr fun e _ => congrArg x (funext fun a => Fin.ext ?_)
  match a with
  | ⟨0, _⟩ => rfl
  | ⟨1, _⟩ => rfl

variable (L : FVec Ideal S256x128 .f32) (p : Fin 256)

/-- A row's eight logits. -/
def row (e : Fin 8) : EReal := L (ix2 p (lane e))

theorem pay12_apply (e : Fin 128) : k0_pay12 L k0_pay10 k0_pay11 (ix2 p e) = lanes (row L p) e := by
  show Scalar.select (k0_pay10 (ix2 p e)) (L (ix2 p e)) ((k0_pay11 : FVec Ideal S256x128 .f32) (ix2 p e)) = _
  rw [pay10_apply, pay11_apply, select_ofBool]
  unfold lanes row
  by_cases h : e.val < 8
  · rw [if_pos h, dif_pos h]; rfl
  · rw [if_neg h, dif_neg h]

variable {L p} {i j : Fin 8} (h : Top (row L p) i j) (hv : ∀ k, row L p k ≠ ⊥)
include h

theorem pay13_apply : k0_pay13 L k0_pay10 k0_pay11 (ix2 p 0) = row L p i := by
  unfold k0_pay13
  refine (colCast_apply _ _ p).trans ((rowMax_apply rfl _ p).trans ?_)
  rw [show (fun e : Fin 128 => k0_pay12 L k0_pay10 k0_pay11 (ix2 p e)) = lanes (row L p) from funext fun e => pay12_apply L p e]
  exact max1 h

include hv

theorem pay14_apply : k0_pay14 L k0_pay9 k0_pay10 k0_pay11 (ix2 p 0) = num i.val := by
  unfold k0_pay14
  refine (colCast_apply _ _ p).trans ((rowMin_apply rfl _ p).trans ?_)
  refine Eq.trans (Finset.fold_congr fun e _ => ?_) (arg1 h hv)
  show Scalar.select (FloatOps.cmpf (F := Ideal) (φ := .f32) .oeq (k0_pay12 L k0_pay10 k0_pay11 (ix2 p e))
    (broadcastTo S256x128 (k0_pay13 L k0_pay10 k0_pay11) broadcasts_S256x1_S256x128 (ix2 p e))) ((k0_pay9 : FVec Ideal S256x128 .f32) (ix2 p e)) (Ideal.ofBits .f32 0x43000000#32) = _
  rw [colBcast_apply (by decide), pay13_apply h, pay12_apply, cmpf_oeq, select_ofBool, pay9_apply, ofBits_128]
  rfl

theorem pay15_apply (e : Fin 128) : k0_pay15 L k0_pay9 k0_pay10 k0_pay11 (ix2 p e) = BitVec.ofBool (decide (num e.val = num i.val)) := by
  show FloatOps.cmpf (F := Ideal) (φ := .f32) .oeq ((k0_pay9 : FVec Ideal S256x128 .f32) (ix2 p e))
    (broadcastTo S256x128 (k0_pay14 L k0_pay9 k0_pay10 k0_pay11) broadcasts_S256x1_S256x128 (ix2 p e)) = _
  rw [colBcast_apply (by decide), pay14_apply h hv, cmpf_oeq, pay9_apply]

theorem pay16_apply (e : Fin 128) : k0_pay16 L k0_pay9 k0_pay10 k0_pay11 (ix2 p e) = rest (row L p) i e := by
  show Scalar.select (k0_pay15 L k0_pay9 k0_pay10 k0_pay11 (ix2 p e)) (Ideal.ofBits .f32 0xFF800000#32) (k0_pay12 L k0_pay10 k0_pay11 (ix2 p e)) = _
  rw [pay15_apply h hv, select_ofBool, pay12_apply, ofBits_bot]
  rfl

theorem pay17_apply : k0_pay17 L k0_pay9 k0_pay10 k0_pay11 (ix2 p 0) = row L p j := by
  unfold k0_pay17
  refine (colCast_apply _ _ p).trans ((rowMax_apply rfl _ p).trans ?_)
  rw [show (fun e : Fin 128 => k0_pay16 L k0_pay9 k0_pay10 k0_pay11 (ix2 p e)) = rest (row L p) i from funext fun e => pay16_apply h hv e]
  exact max2 h

theorem pay18_apply : k0_pay18 L k0_pay9 k0_pay10 k0_pay11 (ix2 p 0) = num j.val := by
  unfold k0_pay18
  refine (colCast_apply _ _ p).trans ((rowMin_apply rfl _ p).trans ?_)
  refine Eq.trans (Finset.fold_congr fun e _ => ?_) (arg2 h hv)
  show Scalar.select (FloatOps.cmpf (F := Ideal) (φ := .f32) .oeq (k0_pay16 L k0_pay9 k0_pay10 k0_pay11 (ix2 p e))
    (broadcastTo S256x128 (k0_pay17 L k0_pay9 k0_pay10 k0_pay11) broadcasts_S256x1_S256x128 (ix2 p e))) ((k0_pay9 : FVec Ideal S256x128 .f32) (ix2 p e)) (Ideal.ofBits .f32 0x43000000#32) = _
  rw [colBcast_apply (by decide), pay17_apply h hv, pay16_apply h hv, cmpf_oeq, select_ofBool, pay9_apply, ofBits_128]
  rfl

theorem pay19_apply (e : Fin 128) : k0_pay19 L k0_pay9 k0_pay10 k0_pay11 (ix2 p e) = BitVec.ofBool (decide (num e.val = num j.val)) := by
  show FloatOps.cmpf (F := Ideal) (φ := .f32) .oeq ((k0_pay9 : FVec Ideal S256x128 .f32) (ix2 p e))
    (broadcastTo S256x128 (k0_pay18 L k0_pay9 k0_pay10 k0_pay11) broadcasts_S256x1_S256x128 (ix2 p e)) = _
  rw [colBcast_apply (by decide), pay18_apply h hv, cmpf_oeq, pay9_apply]

theorem pay20_apply : k0_pay20 L k0_pay9 k0_pay10 k0_pay11 (ix2 p 0) = Ideal.exp (row L p j - row L p i) := by
  have e17 := pay17_apply h hv
  have e13 := pay13_apply h
  unfold k0_pay20
  generalize k0_pay17 L k0_pay9 k0_pay10 k0_pay11 = A at *
  generalize k0_pay13 L k0_pay10 k0_pay11 = B at *
  show Ideal.exp (A (ix2 p 0) - B (ix2 p 0)) = _
  rw [e17, e13]

theorem pay21_apply : k0_pay21 L k0_pay9 k0_pay10 k0_pay11 (ix2 p 0) = gate1 (row L p i) (row L p j) := by
  have e20 := pay20_apply h hv
  unfold k0_pay21
  generalize k0_pay20 L k0_pay9 k0_pay10 k0_pay11 = A at *
  show Ideal.div (Ideal.ofBits .f32 0x3F800000#32) (Ideal.ofBits .f32 0x3F800000#32 + A (ix2 p 0)) = _
  rw [e20, Ideal.ofBits_one_f32]
  rfl

theorem pay22_apply (hr : ∀ k, IsReal (row L p k)) : k0_pay22 L k0_pay9 k0_pay10 k0_pay11 (ix2 p 0) = gate2 (row L p i) (row L p j) := by
  show k0_pay20 L k0_pay9 k0_pay10 k0_pay11 (ix2 p 0) * k0_pay21 L k0_pay9 k0_pay10 k0_pay11 (ix2 p 0) = _
  rw [pay20_apply h hv, pay21_apply h hv, exp_mul_gate1 (hr i) (hr j)]

/-- The one-hot sum at a lane: one at the two chosen, nothing elsewhere. -/
theorem pay23_apply (e : Fin 128) : k0_pay23 L k0_pay9 k0_pay10 k0_pay11 (ix2 p e)
    = if num e.val = num i.val then 1 else if num e.val = num j.val then 1 else 0 := by
  show Scalar.select (k0_pay15 L k0_pay9 k0_pay10 k0_pay11 (ix2 p e)) (Ideal.ofBits .f32 0x3F800000#32)
    (Scalar.select (k0_pay19 L k0_pay9 k0_pay10 k0_pay11 (ix2 p e)) (Ideal.ofBits .f32 0x3F800000#32) (Ideal.ofBits .f32 0x00000000#32)) = _
  rw [pay15_apply h hv, pay19_apply h hv, select_ofBool, select_ofBool, Ideal.ofBits_one_f32, Ideal.ofBits_zero_f32]

omit h hv

/-- The table's first four lanes. -/
theorem pay26_apply (v47 : FVec Ideal S256x1 .f32) (v49 : IVec S256x128 1) (v59 : FVec Ideal S256x1 .f32) (v61 : IVec S256x128 1)
    (v67 v68 : FVec Ideal S256x1 .f32) (v80 : FVec Ideal S256x256 .bf16) (v81 : Vec Ideal S1x128 .f32) (v82 : FVec Ideal S256x128 .bf16)
    (e : Fin 128) (he : e.val < 4) :
    k0_pay26 laneW v47 v49 v59 v61 v67 v68 v80 v81 v82 (ix2 p e)
      = if e.val = 0 then v47 (ix2 p 0) else if e.val = 1 then v59 (ix2 p 0) else if e.val = 2 then v67 (ix2 p 0) else v68 (ix2 p 0) := by
  have hw : ∀ (k : ℕ) (hk : k < 128), IntOp.cmpi .eq (laneW (ix2 p e)) (BitVec.ofNat 32 k) = BitVec.ofBool (decide (e.val = k)) := by
    intro k hk
    rw [laneW_apply]
    show BitVec.ofBool (BitVec.ofNat 32 e.val == BitVec.ofNat 32 k) = _
    refine congrArg BitVec.ofBool (Bool.eq_iff_iff.2 ?_)
    rw [beq_iff_eq, decide_eq_true_iff]
    refine ⟨fun hh => ?_, fun hh => by rw [hh]⟩
    have := congrArg BitVec.toNat hh
    rw [BitVec.toNat_ofNat, BitVec.toNat_ofNat] at this
    omega
  unfold k0_pay26
  simp only [shapeCast_self]
  simp only [select, cmpi, broadcast_apply]
  rw [colBcast_apply (by decide), colBcast_apply (by decide), colBcast_apply (by decide), colBcast_apply (by decide)]
  have w0 : IntOp.cmpi .eq (laneW (ix2 p e)) 0#32 = BitVec.ofBool (decide (e.val = 0)) := hw 0 (by omega)
  have w1 : IntOp.cmpi .eq (laneW (ix2 p e)) 1#32 = BitVec.ofBool (decide (e.val = 1)) := hw 1 (by omega)
  have w2 : IntOp.cmpi .eq (laneW (ix2 p e)) 2#32 = BitVec.ofBool (decide (e.val = 2)) := hw 2 (by omega)
  have w3 : IntOp.cmpi .eq (laneW (ix2 p e)) 3#32 = BitVec.ofBool (decide (e.val = 3)) := hw 3 (by omega)
  rw [w0, w1, w2, w3]
  simp only [select_ofBool]
  rcases (show e.val = 0 ∨ e.val = 1 ∨ e.val = 2 ∨ e.val = 3 by omega) with hh | hh | hh | hh <;> simp only [hh] <;> rfl

end Cert.Kernel4Ideal.Hand

end
-- ==== Proof.RouterKernel.lean ====
/-
  The router's kernel over its grid: what each point leaves, and the rows and logits of a point's block as the arguments'.
-/
module

public import proofs.«01_k».proof.Proof.RouterCases
public import proofs.«01_k».proof.Proof.RouterRows
public import Idealize.ShloMosaic.Lib.StableHlo.RunRead
public import Idealize.ShloMosaic.Lib.KernelVsHost
public import Idealize.ShloMosaic.Lib.Claim

@[expose] public section

set_option maxRecDepth 16384

noncomputable section

open Idealize.ShloMosaic Idealize.ShloMosaic.TcCoe Idealize.ShloMosaic.Tactic Idealize.SL.Sem Idealize.ShloMosaic.ValueIdx
open Idealize.ShloMosaic.Pipeline (Dat)

namespace Cert.Router

/-- A token's logit for an expert: its normed row times the expert's column. -/
def logit (h : (⟨2, ![16384, 1024]⟩ : Shape).Idx → EReal) (g : (⟨1, ![1024]⟩ : Shape).Idx → EReal)
    (w : (⟨2, ![1024, 8]⟩ : Shape).Idx → EReal) (r : Fin 16384) (e : Fin 8) : EReal :=
  ∑ k, Common.nrm (fun k => h (ix2 r k)) (fun k => g (ix1 k)) k * w (ix2 k e)

end Cert.Router

namespace Cert.Kernel4Ideal.Hand

open Cert.Kernel4Ideal Cert.Kernel4Ideal.Gen Cert.Common Cert.Router

/-- The normed block at row `p` and column `k`. -/
theorem pay6_apply (x : Vec Ideal S256x1024 .f32) (g : Vec Ideal S1x1024 .f32) (p : Fin 256) (k : Fin 1024) :
    k0_pay6 x g (ix2 p k) = nrm (fun k => x (ix2 p k)) (fun k => g (ix2 0 k)) k := by
  unfold k0_pay6
  simp only [shapeCast_self, mulf_apply, Ideal.mulf_def]
  rw [rowBcast_apply (by decide), colBcast_apply (by decide)]
  unfold nrm
  simp only [rsqrt, addf_apply, Ideal.addf_def, divf_apply, Ideal.divf_def, broadcast_apply]
  rw [colCast_apply]
  exact congrArg (fun s => x (ix2 p k) * Ideal.rsqrt (Ideal.div s (Ideal.ofBits .f32 0x44800000#32) + Ideal.ofBits .f32 0x358637BD#32)
    * g (ix2 0 k)) (rowSum_apply _ _ (mulf x x) p)

/-- The block's logits: with real rows and weights the two correction products add nothing. -/
theorem pay8_apply (x : Vec Ideal S256x1024 .f32) (g : Vec Ideal S1x1024 .f32) (w : Vec Ideal S1024x128 .f32) (p : Fin 256) (e : Fin 128)
    (hn : ∀ k, IsReal (nrm (fun k => x (ix2 p k)) (fun k => g (ix2 0 k)) k)) (hw : ∀ k, IsReal (w (ix2 k e))) :
    k0_pay8 x g w (ix2 p e) = ∑ k, nrm (fun k => x (ix2 p k)) (fun k => g (ix2 0 k)) k * w (ix2 k e) := by
  have h6 : ∀ k, k0_pay6 x g (ix2 p k) = nrm (fun k => x (ix2 p k)) (fun k => g (ix2 0 k)) k := pay6_apply x g p
  unfold k0_pay8
  simp only [shapeCast_self, matmul, addf_apply, Ideal.addf_def]
  refine (congrArg₂ (· + ·) (congrArg₂ (· + ·) (mm_apply dot_S256x1024_S1024x128_S256x128_1_0_0_1_n_n_wf _ _ p e)
    (mm_apply dot_S256x1024_S1024x128_S256x128_1_0_0_1_n_n_wf _ _ p e)) (mm_apply dot_S256x1024_S1024x128_S256x128_1_0_0_1_n_n_wf _ _ p e)).trans ?_
  have e1 : ∑ k : Fin 1024, (truncf .bf16 (subf (k0_pay6 x g) (extf .f32 (k0_pay7 x g) bitsLt_bf16_f32)) bitsLt_bf16_f32 : FVec Ideal S256x1024 .bf16) (ix2 p k)
      * (truncf .bf16 w bitsLt_bf16_f32 : FVec Ideal S1024x128 .bf16) (ix2 k e) = 0 := by
    refine Finset.sum_eq_zero fun k _ => ?_
    show (k0_pay6 x g (ix2 p k) - k0_pay6 x g (ix2 p k)) * w (ix2 k e) = 0
    rw [h6, (hn k).sub_self, zero_mul]
  have e2 : ∑ k : Fin 1024, (k0_pay7 x g) (ix2 p k)
      * (truncf .bf16 (subf w (extf .f32 (truncf .bf16 w bitsLt_bf16_f32) bitsLt_bf16_f32)) bitsLt_bf16_f32 : FVec Ideal S1024x128 .bf16) (ix2 k e) = 0 := by
    refine Finset.sum_eq_zero fun k _ => ?_
    show k0_pay7 x g (ix2 p k) * (w (ix2 k e) - w (ix2 k e)) = 0
    rw [(hw k).sub_self, mul_zero]
  rw [e1, e2, add_zero, add_zero]
  refine Finset.sum_congr rfl fun k _ => ?_
  show k0_pay6 x g (ix2 p k) * w (ix2 k e) = _
  rw [h6]

variable (m : (ℓ : Loc nD τ sig) → Buf (Elt Ideal) ℓ) (ρ : Dev nD → PrngReg)

/-- The staged gain is the argument's, stood up as one row. -/
theorem V_g (c : Dev nD) : V m c main_v1 = shapeCast S1x1024 (m ((c : Thread nD τ).loc main_arg1)) shapeCasts_S1024_S1x1024 := by
  simp only [V, List.flatten_cons, List.flatten_nil, List.append_nil, StableHlo.after_append]
  after_reads_simp
  rfl

/-- The staged weights are the argument's, with columns of zeros after. -/
theorem V_w (c : Dev nD) : V m c main_v0 = (pad S1024x128 ![0, 0] ![0, 120] ![0, 0] (m ((c : Thread nD τ).loc main_arg2))
    (sitofp .f32 (constantI S_ 32 0#32) : FVec Ideal S_ .f32) pads_S1024x8_S1024x128_000_01200 h_S_ : S1024x128.Idx → EReal) := by
  simp only [V, List.flatten_cons, List.flatten_nil, List.append_nil, StableHlo.after_append]
  after_reads_simp
  rfl

/-- The counts a point starts from. -/
def cnt (c : Dev nD) (t : Fin cfg0.N) : Vec Ideal S1x128 .f32 :=
  if t.val % 64 = 0 then k0_pay5 (F := Ideal) else (outsAt0 m c (t.val - 1) (Nat.lt_of_le_of_lt (Nat.sub_le _ _) t.isLt)).2.2.2.2.2

/-- A point's logits. -/
def lg (c : Dev nD) (t : Fin cfg0.N) : FVec Ideal S256x128 .f32 := k0_pay8 (iblk m c 0 t) (iblk m c 1 t) (iblk m c 2 t)

/-- What a point leaves, from its blocks and the counts it starts from. -/
theorem outs_eq (c : Dev nD) (t : Fin cfg0.N) : outsAt0 m c t.val t.isLt
    = (k0_pay7 (iblk m c 0 t) (iblk m c 1 t), info (lg m c t) (cnt m c t), infoT (lg m c t) (cnt m c t), k0_pay1 (cnt m c t),
      k0_pay4 (picks (lg m c t)) (cnt m c t), k0_pay3 (picks (lg m c t)) (cnt m c t)) := by
  unfold cnt lg
  by_cases h0 : t.val % 64 = 0
  · rw [outsAt0_A m c t h0, if_pos h0, casea3, casea4, casea5, casea6, casea7, caseaS]
  · rw [outsAt0_B m c t h0, if_neg h0, caseb3, caseb4, caseb5, caseb6, caseb7, casebS]

/-- Where the input windows stand at point `t`. -/
theorem idx : ∀ t : Fin cfg0.N, win0_0.index t 0 = t.val ∧ win0_0.index t 1 = 0 ∧ win0_1.index t 0 = 0 ∧ win0_1.index t 1 = 0
    ∧ win0_2.index t 0 = 0 ∧ win0_2.index t 1 = 0 :=
  (by decide +kernel : ∀ t : Fin grid0.N, _)

theorem blk0 (c : Dev nD) (t : Fin cfg0.N) (i : Fin 256) (k : Fin 1024) (h : t.val * 256 + i.val < 16384) :
    (iblk m c 0 t : Vec Ideal S256x1024 .f32) (ix2 i k) = m ((c : Thread nD τ).loc main_arg0) (ix2 ⟨t.val * 256 + i.val, h⟩ k) := by
  obtain ⟨e0, e1, -⟩ := idx t
  rw [← V_main_arg0 m c]
  unfold iblk
  rw [View.read_apply]
  show V m c main_arg0 _ = V m c main_arg0 _
  refine congrArg _ (funext fun a => Fin.ext ?_)
  match a with
  | ⟨0, _⟩ => show win0_0.index t 0 * 256 + 1 * i.val = t.val * 256 + i.val; rw [e0]; omega
  | ⟨1, _⟩ => show win0_0.index t 1 * 1024 + 1 * k.val = k.val; rw [e1]; omega

theorem blk1 (c : Dev nD) (t : Fin cfg0.N) (k : Fin 1024) :
    (iblk m c 1 t : Vec Ideal S1x1024 .f32) (ix2 0 k) = m ((c : Thread nD τ).loc main_arg1) (ix1 k) := by
  obtain ⟨-, -, e0, e1, -⟩ := idx t
  have e : (iblk m c 1 t : Vec Ideal S1x1024 .f32) (ix2 0 k) = V m c main_v1 (ix2 0 k) := by
    unfold iblk
    rw [View.read_apply]
    show V m c main_v1 _ = V m c main_v1 _
    refine congrArg _ (funext fun a => Fin.ext ?_)
    match a with
    | ⟨0, _⟩ => show win0_1.index t 0 * 1 + 1 * 0 = 0; rw [e0]
    | ⟨1, _⟩ => show win0_1.index t 1 * 1024 + 1 * k.val = k.val; rw [e1]; omega
  rw [e, V_g, rowCast_apply]

theorem blk2 (c : Dev nD) (t : Fin cfg0.N) (k : Fin 1024) (j : Fin 8) :
    (iblk m c 2 t : Vec Ideal S1024x128 .f32) (ix2 k (lane j)) = m ((c : Thread nD τ).loc main_arg2) (ix2 k j) := by
  obtain ⟨-, -, -, -, e0, e1⟩ := idx t
  have e : (iblk m c 2 t : Vec Ideal S1024x128 .f32) (ix2 k (lane j)) = V m c main_v0 (ix2 k (lane j)) := by
    unfold iblk
    rw [View.read_apply]
    show V m c main_v0 _ = V m c main_v0 _
    refine congrArg _ (funext fun a => Fin.ext ?_)
    match a with
    | ⟨0, _⟩ => show win0_2.index t 0 * 1024 + 1 * k.val = k.val; rw [e0]; omega
    | ⟨1, _⟩ => show win0_2.index t 1 * 128 + 1 * (lane j).val = (lane j).val; rw [e1]; omega
  rw [e, V_w]
  exact pad_apply_of_inside _ _ _ _ _ _ _ _ (ix2 k j) fun a => match a with
    | ⟨0, _⟩ => (by show k.val = 0 + k.val * (0 + 1); omega)
    | ⟨1, _⟩ => (by show j.val = 0 + j.val * (0 + 1); omega)

section Rows

variable {m}
variable (c : Dev nD) (hg : ∀ i, IsReal (m ((c : Thread nD τ).loc main_arg1) i))
  (hw : ∀ i, IsReal (m ((c : Thread nD τ).loc main_arg2) i))

/-- A block's normed row is the token's. -/
theorem blkNrm (t : Fin cfg0.N) (p : Fin 256) (hb : t.val * 256 + p.val < 16384) (k : Fin 1024) :
    nrm (fun k => (iblk m c 0 t : Vec Ideal S256x1024 .f32) (ix2 p k)) (fun k => (iblk m c 1 t : Vec Ideal S1x1024 .f32) (ix2 0 k)) k
      = nrm (fun k => m ((c : Thread nD τ).loc main_arg0) (ix2 ⟨t.val * 256 + p.val, hb⟩ k)) (fun k => m ((c : Thread nD τ).loc main_arg1) (ix1 k)) k :=
  congrFun (congrArg₂ nrm (funext fun k => blk0 m c t p k hb) (funext fun k => blk1 m c t k)) k

include hg hw in
/-- A block's eight logits are the token's. -/
theorem row_lg (t : Fin cfg0.N) (p : Fin 256) (hb : t.val * 256 + p.val < 16384) :
    row (lg m c t) p = logit (m ((c : Thread nD τ).loc main_arg0)) (m ((c : Thread nD τ).loc main_arg1)) (m ((c : Thread nD τ).loc main_arg2))
      ⟨t.val * 256 + p.val, hb⟩ := by
  funext e
  unfold row lg logit
  rw [pay8_apply _ _ _ p (lane e) (fun k => by rw [blkNrm c t p hb k]; exact nrm_real (fun k => hg _) k)
    (fun k => by rw [blk2]; exact hw _)]
  exact Finset.sum_congr rfl fun k _ => congrArg₂ (· * ·) (blkNrm c t p hb k) (blk2 m c t k e)

include hg hw in
theorem logit_real (r : Fin 16384) (e : Fin 8) : IsReal (logit (m ((c : Thread nD τ).loc main_arg0)) (m ((c : Thread nD τ).loc main_arg1))
    (m ((c : Thread nD τ).loc main_arg2)) r e) :=
  IsReal.sum fun k => (nrm_real (fun k => hg _) k).mul (hw _)

end Rows

end Cert.Kernel4Ideal.Hand

end
-- ==== Proof.RouterOut.lean ====
/-
  The router's result arrays: the normed rows, and the two chosen experts and their gates of every token.
-/
module

public import proofs.«01_k».proof.Proof.RouterKernel

@[expose] public section

set_option maxRecDepth 16384

noncomputable section

open Idealize.ShloMosaic Idealize.ShloMosaic.TcCoe Idealize.ShloMosaic.Tactic Idealize.SL.Sem Idealize.ShloMosaic.ValueIdx
open Idealize.ShloMosaic.Pipeline (Dat)

namespace Cert.Router

/-- The first four entries of a token's table: the two experts' numbers and the two gates. -/
def four (v : Fin 8 → EReal) (i j : Fin 8) (l : ℕ) : EReal :=
  if l = 0 then num i.val else if l = 1 then num j.val else if l = 2 then gate1 (v i) (v j) else gate2 (v i) (v j)

theorem IsReal.ne_bot {x : EReal} (h : IsReal x) : x ≠ ⊥ := by
  obtain ⟨a, rfl⟩ := h
  exact EReal.coe_ne_bot a

end Cert.Router

namespace Cert.Kernel4Ideal.Hand

open Cert.Kernel4Ideal Cert.Kernel4Ideal.Gen Cert.Kernel4Ideal.Value Cert.Common Cert.Router

/-- A block's table at one of its first four lanes. -/
theorem info_apply (L : FVec Ideal S256x128 .f32) (cnt : Vec Ideal S1x128 .f32) (p : Fin 256) {i j : Fin 8} (h : Top (row L p) i j)
    (hr : ∀ k, IsReal (row L p k)) (e : Fin 128) (he : e.val < 4) : info L cnt (ix2 p e) = four (row L p) i j e.val := by
  have hv : ∀ k, row L p k ≠ ⊥ := fun k => (hr k).ne_bot
  unfold info
  rw [show (iota .tc S256x128 32 [1] iota_S256x128_d1_w32) = laneW from rfl, pay26_apply _ _ _ _ _ _ _ _ _ e he, pay14_apply h hv, pay18_apply h hv,
    pay21_apply h hv, pay22_apply h hv hr]
  rfl

/-- The same table as rows. -/
theorem infoT_apply (L : FVec Ideal S256x128 .f32) (cnt : Vec Ideal S1x128 .f32) (p : Fin 256) (e : Fin 8) :
    infoT L cnt (ix2 e p) = info L cnt (ix2 p (lane e)) := by
  show extractStridedSlice S8x256 ![0, 0] (transpose S128x256 [1, 0] (info L cnt) transposes_S256x128_p1_0_S128x256) slices_S128x256_o0_0_S8x256 (ix2 e p) = _
  refine (extractStridedSlice_apply _ _ _ (ix2 e p) (ix2 (lane e) p) fun a => ?_).trans (transpose_apply _ _ _ (ix2 (lane e) p) (ix2 p (lane e)) fun b => ?_)
  · match a with
    | ⟨0, _⟩ => show e.val = 0 + e.val; omega
    | ⟨1, _⟩ => show p.val = 0 + p.val; omega
  · match b with
    | ⟨0, _⟩ => rfl
    | ⟨1, _⟩ => rfl

/-- The stored normed block is the normed block. -/
theorem pay7_apply (x : Vec Ideal S256x1024 .f32) (g : Vec Ideal S1x1024 .f32) (p : Fin 256) (k : Fin 1024) :
    k0_pay7 x g (ix2 p k) = nrm (fun k => x (ix2 p k)) (fun k => g (ix2 0 k)) k := by
  rw [← pay6_apply x g p k]
  rfl

variable (m : (ℓ : Loc nD τ sig) → Buf (Elt Ideal) ℓ) (c : Dev nD)

theorem acc_eq (n : ℕ) (hn : n < cfg0.N) (hl) : Pipeline.accAt (fun n h => stAt0 m c n h junk0) (stAt0 m c) 0 n hl
    = (k0_pay7 (iblk m c 0 ⟨n, hn⟩) (iblk m c 1 ⟨n, hn⟩), info (lg m c ⟨n, hn⟩) (cnt m c ⟨n, hn⟩), infoT (lg m c ⟨n, hn⟩) (cnt m c ⟨n, hn⟩),
      k0_pay1 (cnt m c ⟨n, hn⟩), k0_pay4 (picks (lg m c ⟨n, hn⟩)) (cnt m c ⟨n, hn⟩), k0_pay3 (picks (lg m c ⟨n, hn⟩)) (cnt m c ⟨n, hn⟩)) :=
  (outsAt0_sweep m c n hn).symm.trans (outs_eq m c ⟨n, hn⟩)

/-- A token's place: its block and its row there. -/
def ptOf (r : Fin 16384) : Fin cfg0.N := ⟨r.val / 256, by rw [show cfg0.N = 64 from N_0]; omega⟩
def rowOf (r : Fin 16384) : Fin 256 := ⟨r.val % 256, Nat.mod_lt _ (by decide)⟩

theorem place (r : Fin 16384) : (ptOf r).val * 256 + (rowOf r).val = r.val := by
  show r.val / 256 * 256 + r.val % 256 = r.val
  omega

theorem place_lt (r : Fin 16384) : (ptOf r).val * 256 + (rowOf r).val < 16384 := by rw [place]; exact r.isLt

theorem G3_apply (r : Fin 16384) (k : Fin 1024) : G3 m c (ix2 r k)
    = nrm (fun k => m ((c : Thread nD τ).loc main_arg0) (ix2 r k)) (fun k => m ((c : Thread nD τ).loc main_arg1) (ix1 k)) k := by
  have hp : pt3Of (ix2 r k) = (ptOf r).val := by
    show 1 * (r.val / 256 - 0) + 1 * (k.val / 1024 - 0) = r.val / 256
    omega
  have hl : loc3Of (ix2 r k) = ix2 (rowOf r) k := funext fun a => Fin.ext (by
    match a with
    | ⟨0, _⟩ => rfl
    | ⟨1, _⟩ => show k.val % 1024 = k.val; omega)
  unfold G3
  rw [dif_pos (by rw [hp]; exact (ptOf r).isLt), acc_eq m c _ (by rw [hp]; exact (ptOf r).isLt), hl]
  rw [show (⟨pt3Of (ix2 r k), by rw [hp]; exact (ptOf r).isLt⟩ : Fin cfg0.N) = ptOf r from Fin.ext hp]
  refine (pay7_apply _ _ (rowOf r) k).trans ((blkNrm c (ptOf r) (rowOf r) (place_lt r) k).trans ?_)
  simp only [place]

section Rows

variable {m c}
variable (hg : ∀ i, IsReal (m ((c : Thread nD τ).loc main_arg1) i))
  (hw : ∀ i, IsReal (m ((c : Thread nD τ).loc main_arg2) i)) (r : Fin 16384)

include hg hw in
theorem row_of : row (lg m c (ptOf r)) (rowOf r) = logit (m ((c : Thread nD τ).loc main_arg0)) (m ((c : Thread nD τ).loc main_arg1))
    (m ((c : Thread nD τ).loc main_arg2)) r :=
  (row_lg c hg hw (ptOf r) (rowOf r) (place_lt r)).trans (congrArg _ (Fin.ext (place r)))

variable {i j : Fin 8} (h : Top (logit (m ((c : Thread nD τ).loc main_arg0)) (m ((c : Thread nD τ).loc main_arg1))
    (m ((c : Thread nD τ).loc main_arg2)) r) i j)

include hg hw h in
theorem table_apply (cn : Vec Ideal S1x128 .f32) (e : Fin 128) (he : e.val < 4) : info (lg m c (ptOf r)) cn (ix2 (rowOf r) e)
    = four (logit (m ((c : Thread nD τ).loc main_arg0)) (m ((c : Thread nD τ).loc main_arg1)) (m ((c : Thread nD τ).loc main_arg2)) r) i j e.val := by
  have hrow := row_of hg hw r
  rw [info_apply _ _ (rowOf r) (by rw [hrow]; exact h) (fun k => by rw [hrow]; exact logit_real c hg hw r k) e he, hrow]

include hg hw h in
theorem G4_apply (e : Fin 128) (he : e.val < 4) : G4 m c (ix2 r e)
    = four (logit (m ((c : Thread nD τ).loc main_arg0)) (m ((c : Thread nD τ).loc main_arg1)) (m ((c : Thread nD τ).loc main_arg2)) r) i j e.val := by
  have hp : pt4Of (ix2 r e) = (ptOf r).val := by
    show 1 * (r.val / 256 - 0) + 1 * (e.val / 128 - 0) = r.val / 256
    omega
  have hl : loc4Of (ix2 r e) = ix2 (rowOf r) e := funext fun a => Fin.ext (by
    match a with
    | ⟨0, _⟩ => rfl
    | ⟨1, _⟩ => show e.val % 128 = e.val; omega)
  unfold G4
  rw [dif_pos (by rw [hp]; exact (ptOf r).isLt), acc_eq m c _ (by rw [hp]; exact (ptOf r).isLt), hl]
  rw [show (⟨pt4Of (ix2 r e), by rw [hp]; exact (ptOf r).isLt⟩ : Fin cfg0.N) = ptOf r from Fin.ext hp]
  exact table_apply hg hw r h _ e he

include hg hw h in
theorem G5_apply (e : Fin 8) (he : e.val < 4) : G5 m c (ix2 e r)
    = four (logit (m ((c : Thread nD τ).loc main_arg0)) (m ((c : Thread nD τ).loc main_arg1)) (m ((c : Thread nD τ).loc main_arg2)) r) i j e.val := by
  have hp : pt5Of (ix2 e r) = (ptOf r).val := by
    show 64 * (e.val / 8 - 0) + 1 * (r.val / 256 - 0) = r.val / 256
    omega
  have hl : loc5Of (ix2 e r) = ix2 e (rowOf r) := funext fun a => Fin.ext (by
    match a with
    | ⟨0, _⟩ => show e.val % 8 = e.val; omega
    | ⟨1, _⟩ => rfl)
  unfold G5
  rw [dif_pos (by rw [hp]; exact (ptOf r).isLt), acc_eq m c _ (by rw [hp]; exact (ptOf r).isLt), hl]
  rw [show (⟨pt5Of (ix2 e r), by rw [hp]; exact (ptOf r).isLt⟩ : Fin cfg0.N) = ptOf r from Fin.ext hp]
  exact (infoT_apply _ _ _ e).trans (table_apply hg hw r h _ (lane e) he)

end Rows

end Cert.Kernel4Ideal.Hand

end
-- ==== Proof.RouterRef.lean ====
/-
  The router's reference at an index: the normed rows, the two greatest logits with their numbers, and the softmax of the two.
-/
module

public import proofs.«01_k».proof.Proof.RouterOut
public import proofs.«01_k».proof.Proof.Gen.Reference4Ideal.Read
public import Idealize.ShloMosaic.Lib.SortPrefix

@[expose] public section

set_option maxRecDepth 16384

noncomputable section

open Idealize.ShloMosaic Idealize.ShloMosaic.TcCoe Idealize.SL.Sem Idealize.ShloMosaic.ValueIdx

namespace Cert.Router

/-! ## The stable sort of eight values, greatest first -/

/-- Two relations that agree on every later element against an earlier one sort a list alike. -/
theorem stableSort_congr_of_pairwise {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

theorem sortedFrom_congr_of_lt {n : ℕ} (R R' : Fin n → Fin n → Bool) (h : ∀ a b, a < b → R b a = R' b a) : sortedFrom R = sortedFrom R' := by
  have e : sortPositions n R = sortPositions n R' :=
    stableSort_congr_of_pairwise R R' _ ((List.pairwise_lt_finRange n).imp fun {a b} hab => h a b hab)
  funext k
  unfold sortedFrom
  rw [List.get_of_eq e]
  rfl

open Classical in
/-- The sort's first two positions are the two chosen. -/
theorem sorted_top {v : Fin 8 → EReal} {i j : Fin 8} (h : Top v i j) (q : Fin 2) :
    sortedFrom (fun k k' : Fin 8 => BitVec.ofBool (decide (v k' < v k)) == 1#1) (q.castLE (by decide)) = if q = 0 then i else j := by
  have e := sortedFrom_congr_of_lt (fun k k' : Fin 8 => BitVec.ofBool (decide (v k' < v k)) == 1#1)
    (fun k k' : Fin 8 => decide (v k' < v k) || (decide (v k = v k') && decide (k < k'))) (fun a b hab => by
      by_cases hlt : v a < v b <;> simp [hlt, not_lt.2 hab.le])
  rw [e]
  have hB := StrictTotalBefore.of_key_then_position (fun a b : EReal => decide (b < a)) v (by simp)
    (fun a b c hab hbc => by simp only [decide_eq_true_eq] at *; exact hbc.trans hab)
    (fun a b => by simp only [decide_eq_true_eq]; rcases lt_trichotomy a b with h | h | h <;> tauto)
  have hnot : ∀ a b : Fin 8, Before v a b → (decide (v a < v b) || (decide (v b = v a) && decide (b < a))) = false := by
    intro a b hab
    rcases hab with hab | ⟨hab, hlt⟩
    · simp [not_lt.2 hab.le, hab.ne]
    · simp [hab, not_lt.2 hlt.le]
  refine hB.sortedFrom_eq_of_prefix (k := 2) (by decide) (fun q => if q = 0 then i else j) ?_ ?_ ?_ q
  · intro a b hab
    have := h.ne
    fin_cases a <;> fin_cases b <;> simp_all
  · intro a b hab
    have h0 : a = 0 := by omega
    have h1 : b ≠ 0 := by omega
    simp only [h0, h1, if_true, if_false]
    exact hnot i j (h.first j h.ne)
  · intro a p hp
    have hi : p ≠ i := fun hpi => hp 0 (by simp [hpi])
    have hj : p ≠ j := fun hpj => hp 1 (by simp [hpj])
    by_cases h0 : a = 0
    · simp only [h0, if_true]; exact hnot i p (h.first p hi)
    · simp only [h0, if_false]; exact hnot j p (h.second p hi hj)

end Cert.Router

namespace Cert.Reference4Ideal.Hand

open Cert.Reference4Ideal Cert.Reference4Ideal.Gen Cert.Reference4Ideal.Read Cert.Common Cert.Router

/-- The reference's normed row. -/
theorem nrm_apply (x : (⟨S16384x1024, .f32⟩ : BufTy).Contents (Elt Ideal)) (g : (⟨S1024, .f32⟩ : BufTy).Contents (Elt Ideal))
    (r : Fin 16384) (k : Fin 1024) :
    val_main_v12 (F := Ideal) x g (ix2 r k) = nrm (fun k => x (ix2 r k)) (fun k => g (ix1 k)) k := by
  simp only [val_main_v12_apply, val_main_v11_apply, val_main_v10_apply, val_main_v9_apply, val_main_v8_apply, val_main_v7_apply,
    val_main_v6_apply, val_main_v5_apply, val_main_cst_1_apply, val_main_v4_apply, val_main_v3_apply, val_main_cst_0_apply,
    val_main_v2_apply, val_main_v1_apply, val_main_cst_apply, val_main_v0_apply, Ideal.ofBits_def, Ideal.ofBits_zero_f32, zero_add,
    Ideal.mulf_def, Ideal.addf_def, Ideal.hostDivf_def, Ideal.hostUnary_rsqrt_def]
  unfold nrm
  have e1 : idx_main_v10 (idx_main_v11 (ix2 r k)) = ix1 k := funext fun a => Fin.ext (by match a with | ⟨0, _⟩ => rfl)
  have e2 : ∀ j : Fin 1024, idx_main_v1 (idx_main_v2 (idx_main_v8 (ix2 r k))) j = ix2 r j := fun j => funext fun a => Fin.ext (by
    match a with
    | ⟨0, _⟩ => rfl
    | ⟨1, _⟩ => rfl)
  rw [e1]
  simp only [e2]

theorem hn_apply (x : (⟨S16384x1024, .f32⟩ : BufTy).Contents (Elt Ideal)) (g : (⟨S1024, .f32⟩ : BufTy).Contents (Elt Ideal))
    (r : Fin 16384) (k : Fin 1024) :
    val_main_v47 (F := Ideal) x g (ix2 r k) = nrm (fun k => x (ix2 r k)) (fun k => g (ix1 k)) k :=
  nrm_apply x g r k

variable (x : (⟨S16384x1024, .f32⟩ : BufTy).Contents (Elt Ideal)) (g : (⟨S1024, .f32⟩ : BufTy).Contents (Elt Ideal))
  (w : (⟨S1024x8, .f32⟩ : BufTy).Contents (Elt Ideal)) (r : Fin 16384)

theorem logit_apply (e : Fin 8) : val_main_v13 (F := Ideal) x g w (ix2 r e) = logit x g w r e := by
  rw [val_main_v13_apply]
  unfold logit
  refine Finset.sum_congr rfl fun k _ => ?_
  have e1 : lidx_main_v13 (ix2 r e) k = ix2 r k := funext fun a => Fin.ext (by match a with | ⟨0, _⟩ => rfl | ⟨1, _⟩ => rfl)
  have e2 : ridx_main_v13 (ix2 r e) k = ix2 k e := funext fun a => Fin.ext (by match a with | ⟨0, _⟩ => rfl | ⟨1, _⟩ => rfl)
  rw [e1, e2, nrm_apply]

variable {x g w r} {i j : Fin 8} (h : Top (logit x g w r) i j)

/-- A row's position along the second axis. -/
theorem along_row (r : Fin 16384) (e k : Fin 8) : Shape.Idx.along (s := S16384x8) (ix2 r e) (1 : Fin 2) k = ix2 r k := funext fun a => by
  match a with
  | ⟨0, _⟩ => rfl
  | ⟨1, _⟩ => rfl

include h in
theorem sort_apply (y : S16384x8.Idx → EReal) (z : IVec S16384x8 32) (hy : ∀ e, y (ix2 r e) = logit x g w r e) (q : Fin 2) :
    (Host.sort2 S16384x8 1 (fun l r : EReal × BitVec 32 => FloatOps.cmpfTotal (F := Ideal) (φ := .f32) .gt l.1 r.1) y z).1 (ix2 r (q.castLE (by decide : 2 ≤ 8)))
        = y (ix2 r (if q = 0 then i else j))
    ∧ (Host.sort2 S16384x8 1 (fun l r : EReal × BitVec 32 => FloatOps.cmpfTotal (F := Ideal) (φ := .f32) .gt l.1 r.1) y z).2 (ix2 r (q.castLE (by decide : 2 ≤ 8)))
        = z (ix2 r (if q = 0 then i else j)) := by
  have hs := sorted_top h q
  have hπ : ∀ e : Fin 8, (sortedFrom (fun k k' : Fin 8 => FloatOps.cmpfTotal (F := Ideal) (φ := .f32) .gt
      (y (Shape.Idx.along (s := S16384x8) (ix2 r e) (1 : Fin 2) k)) (y (Shape.Idx.along (s := S16384x8) (ix2 r e) (1 : Fin 2) k')) == 1#1) : Fin 8 → Fin 8)
      = sortedFrom (fun k k' : Fin 8 => BitVec.ofBool (decide (logit x g w r k' < logit x g w r k)) == 1#1) := by
    intro e
    congr 1
    funext k k'
    rw [along_row, along_row, hy, hy]
    rfl
  unfold Host.sort2
  rw [dif_pos (by decide)]
  constructor
  · refine (congrArg y (along_row r _ _)).trans ?_
    exact congrArg (fun k => y (ix2 r k)) ((congrFun (hπ _) _).trans hs)
  · refine (congrArg z (along_row r _ _)).trans ?_
    exact congrArg (fun k => z (ix2 r k)) ((congrFun (hπ _) _).trans hs)

/-- Each entry's position along the second axis, as a word. -/
def posW : IVec S16384x8 32 := fun i => if hd : 1 < S16384x8.rank then iotaInDim S16384x8 32 ⟨1, hd⟩ i else 0#32

include h in
theorem values_apply (q : Fin 2) : val_main_values (F := Ideal) x g w (ix2 r q) = logit x g w r (if q = 0 then i else j) := by
  show extractStridedSlice S16384x2 (fun _ => 0) (Host.sort2 S16384x8 1 (fun l r : EReal × BitVec 32 => FloatOps.cmpfTotal (F := Ideal) (φ := .f32) .gt l.1 r.1)
    (val_main_v13 (F := Ideal) x g w) posW).1 sliceFits_S16384x8_S16384x2 (ix2 r q) = _
  refine (extractStridedSlice_apply _ _ _ (ix2 r q) (ix2 r (q.castLE (by decide : 2 ≤ 8))) fun a => ?_).trans
    (((sort_apply h _ _ (fun e => logit_apply x g w r e) q).1).trans (logit_apply x g w r _))
  match a with
  | ⟨0, _⟩ => show r.val = 0 + r.val; omega
  | ⟨1, _⟩ => show q.val = 0 + q.val; omega

include h in
theorem indices_apply (q : Fin 2) : val_main_indices (F := Ideal) x g w (ix2 r q) = BitVec.ofNat 32 (if q = 0 then i else j).val := by
  show extractStridedSlice S16384x2 (fun _ => 0) (Host.sort2 S16384x8 1 (fun l r : EReal × BitVec 32 => FloatOps.cmpfTotal (F := Ideal) (φ := .f32) .gt l.1 r.1)
    (val_main_v13 (F := Ideal) x g w) posW).2 sliceFits_S16384x8_S16384x2 (ix2 r q) = _
  refine (extractStridedSlice_apply _ _ _ (ix2 r q) (ix2 r (q.castLE (by decide : 2 ≤ 8))) fun a => ?_).trans
    (((sort_apply h _ _ (fun e => logit_apply x g w r e) q).2).trans ?_)
  · match a with
    | ⟨0, _⟩ => show r.val = 0 + r.val; omega
    | ⟨1, _⟩ => show q.val = 0 + q.val; omega
  · rfl

include h in
/-- The larger of the two values, folded from below everything, is the first. -/
theorem max_apply (q : Fin 2) : val_main_v18 (F := Ideal) x g w (ix2 r q) = logit x g w r i := by
  have e14 : val_main_v14 (F := Ideal) x g w (ix1 r) = logit x g w r i := by
    unfold val_main_v14
    refine (Host.reduce_eq_fold_single (a := 1) FloatOps.maximumf _ _ reducesTo_S16384x2_S16384_d1 (by decide) h_S_ (ix1 r)).trans ?_
    show Finset.fold max (Ideal.ofBits .f32 0xFF800000#32) (fun k : Fin 2 => val_main_values (F := Ideal) x g w _) Finset.univ = _
    rw [ofBits_bot]
    have e : ∀ k : Fin 2, val_main_values (F := Ideal) x g w (Shape.Reduces.lift (a := (1 : Fin 2)) (s := S16384x2) (t := S16384) (by decide) (ix1 r) k) = logit x g w r (if k = 0 then i else j) := fun k =>
      (congrArg _ (funext fun a => Fin.ext (by match a with | ⟨0, _⟩ => rfl | ⟨1, _⟩ => rfl))).trans (values_apply h k)
    refine foldMax_eq _ _ 0 (e 0) fun k => ?_
    refine (e k).le.trans ?_
    by_cases hk : k = 0
    · simp [hk]
    · simp only [hk, if_false]; exact (h.first j h.ne).le
  rw [val_main_v18_apply, val_main_v17_apply, val_main_v16_apply, val_main_v15_apply, val_main_cst_3_apply]
  have e1 : idx_main_v17 (idx_main_v18 (ix2 r q)) = ix1 r := funext fun a => Fin.ext (by match a with | ⟨0, _⟩ => rfl)
  rw [e1, e14]
  show max (Ideal.ofBits .f32 0xFF800000#32) _ = _
  rw [ofBits_bot]
  exact max_eq_right bot_le

include h in
theorem exp_apply (hr : ∀ k, IsReal (logit x g w r k)) (q : Fin 2) :
    val_main_v20 (F := Ideal) x g w (ix2 r q) = if q = 0 then 1 else Ideal.exp (logit x g w r j - logit x g w r i) := by
  rw [val_main_v20_apply, val_main_v19_apply, max_apply h q, values_apply h q]
  show Ideal.exp (logit x g w r _ - logit x g w r i) = _
  by_cases hq : q = 0
  · simp only [hq, if_true]; exact exp_sub_self (hr i)
  · simp only [hq, if_false]

include h in
theorem gates_apply (hr : ∀ k, IsReal (logit x g w r k)) (q : Fin 2) : val_main_v24 (F := Ideal) x g w (ix2 r q)
    = if q = 0 then gate1 (logit x g w r i) (logit x g w r j) else gate2 (logit x g w r i) (logit x g w r j) := by
  have e1 : ∀ k, idx_main_v21 (idx_main_v22 (idx_main_v23 (ix2 r q))) k = ix2 r k := fun k => funext fun a => Fin.ext (by
    match a with
    | ⟨0, _⟩ => rfl
    | ⟨1, _⟩ => rfl)
  rw [val_main_v24_apply, val_main_v23_apply, val_main_v22_apply, val_main_v21_apply, val_main_cst_4_apply, Fin.sum_univ_two, e1, e1,
    exp_apply h hr, exp_apply h hr, exp_apply h hr, Ideal.hostDivf_def, Ideal.ofBits_def, Ideal.ofBits_zero_f32, zero_add]
  by_cases hq : q = 0
  · simp [hq, gate1]
  · simp [hq, gate2]

include h in
theorem numbers_apply (q : Fin 2) : val_main_v36 (F := Ideal) x g w (ix2 r q) = num (if q = 0 then i else j).val := by
  rw [val_main_v36_apply, indices_apply h]
  generalize (if q = 0 then i else j) = e
  show (((BitVec.ofNat 32 e.val).toInt : ℝ) : EReal) = _
  rw [Cert.Kernel4Ideal.Hand.toInt_small e.val (by omega)]
  simp [num]

include h in
/-- The table's first four entries. -/
theorem table_apply (hr : ∀ k, IsReal (logit x g w r k)) (e : Fin 128) (he : e.val < 4) :
    val_main_v38 (F := Ideal) x g w (ix2 r e) = four (logit x g w r) i j e.val := by
  have hn := numbers_apply h
  have hg := gates_apply h hr
  unfold val_main_v38
  generalize val_main_v36 (F := Ideal) x g w = A at *
  generalize val_main_v24 (F := Ideal) x g w = B at *
  generalize val_main_v35 (F := Ideal) x g w = C
  generalize val_main_v37 (F := Ideal) = D
  by_cases h2 : e.val < 2
  · refine (concatenate_apply_piece (t := S16384x128) 1 _ _ (ix2 r e) 0 (by show 0 < 4; omega) S16384x2 A rfl rfl 0 rfl (ix2 r ⟨e.val, h2⟩) ?_ (by show 0 + e.val = e.val; omega)).trans ((hn _).trans ?_)
    · intro b hb
      match b with
      | ⟨0, _⟩ => rfl
      | ⟨1, _⟩ => exact absurd rfl hb
    · rcases (by omega : e.val = 0 ∨ e.val = 1) with he | he <;> simp [four, he, Fin.ext_iff]
  · refine (concatenate_apply_piece (t := S16384x128) 1 _ _ (ix2 r e) 1 (by show 1 < 4; omega) S16384x2 B rfl rfl 2 rfl (ix2 r ⟨e.val - 2, by omega⟩) ?_ ?_).trans ((hg _).trans ?_)
    · intro b hb
      match b with
      | ⟨0, _⟩ => rfl
      | ⟨1, _⟩ => exact absurd rfl hb
    · show 2 + (e.val - 2) = e.val; omega
    · rcases (by omega : e.val = 2 ∨ e.val = 3) with he | he <;> simp [four, he, Fin.ext_iff]

include h in
/-- The same as rows. -/
theorem rows_apply (hr : ∀ k, IsReal (logit x g w r k)) (e : Fin 8) (he : e.val < 4) :
    val_main_v49 (F := Ideal) x g w (ix2 e r) = four (logit x g w r) i j e.val := by
  have e1 : idx_main_v48 (idx_main_v49 (ix2 e r)) = ix2 r (lane e) := funext fun a => Fin.ext (by match a with | ⟨0, _⟩ => rfl | ⟨1, _⟩ => rfl)
  rw [val_main_v49_apply, val_main_v48_apply, e1]
  exact table_apply h hr (lane e) he

end Cert.Reference4Ideal.Hand

end
-- ==== Proof.RouterFinite.lean ====
/-
  What the finiteness of the router's weights says.
-/
module

public import proofs.«01_k».proof.Proof.RouterRef
public import proofs.«01_k».proof.Proof.Gen.Pre_finite
public import Idealize.ShloMosaic.Lib.ReduceAll

@[expose] public section

set_option maxRecDepth 16384

noncomputable section

open Idealize.ShloMosaic Idealize.ShloMosaic.ValueIdx

namespace Cert.Router

/-! ## The weights are real -/

section Finite

open Cert.Pre_finite

/-- An absolute value below +∞ is a real number's. -/
theorem isReal_of_lt {s : Shape} (y : FVec Ideal s .f32) (hb : S_.BroadcastsInDim s (![] : Fin 0 → Fin s.rank)) (i : s.Idx)
    (hlt : cmpf .olt (Host.absf y) (broadcastInDim s ![] hb (constant S_ .f32 0x7F800000#32)) i = 1#1) : IsReal (y i) := by
  have e : broadcastInDim s ![] hb (constant S_ .f32 0x7F800000#32 : FVec Ideal S_ .f32) i = ⊤ :=
    (broadcastInDim_apply _ hb _ i (fun a => a.elim0) fun a => a.elim0).trans ofBits_top
  have h1 : FloatOps.cmpf (F := Ideal) (φ := .f32) .olt (Host.absf y i) (broadcastInDim s ![] hb (constant S_ .f32 0x7F800000#32 : FVec Ideal S_ .f32) i) = 1#1 := hlt
  rw [e] at h1
  have h2 : max (y i) (-(y i)) < (⊤ : EReal) := by
    by_contra hc
    have : BitVec.ofBool (decide (max (y i) (-(y i)) < (⊤ : EReal))) = 1#1 := h1
    simp [hc] at this
  obtain ⟨ha, hb⟩ := max_lt_iff.1 h2
  refine ⟨(y i).toReal, (EReal.coe_toReal ha.ne fun hbot => ?_).symm⟩
  rw [hbot] at hb
  simp at hb

variable (h : FVec Ideal S16384x1024 .f32) (g : FVec Ideal S1024 .f32) (w : FVec Ideal S1024x8 .f32)

theorem finite_real (j : S_.Idx) (hp : fn (F := Ideal) h g w j = 1#1) : (∀ i, IsReal (g i)) ∧ ∀ i, IsReal (w i) := by
  have both : ∀ a b : BitVec 1, IntOp.andi a b = 1#1 → a = 1#1 ∧ b = 1#1 := by decide
  obtain ⟨h2, h3⟩ := both _ _ hp
  haveI : Subsingleton S_.Idx := ⟨fun a b => funext fun k => k.elim0⟩
  exact ⟨fun i => isReal_of_lt g Facts.bcast_S_S1024 i (Host.reduce_andi_all _ _ _ _ j h2 i),
    fun i => isReal_of_lt w Facts.bcast_S_S1024x8 i (Host.reduce_andi_all _ _ _ _ j h3 i)⟩

end Finite

end Cert.Router

end
-- ==== Proof.RouterCounts.lean ====
/-
  The router's counts: how many of the tokens before a place each expert has, the counts the grid carries from point to
  point, and the two result arrays that hold them.
-/
module

public import proofs.«01_k».proof.Proof.RouterOut

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Router

/-- The number of the greatest of eight values, and of the greatest but one. -/
def fst (v : Fin 8 → EReal) : Fin 8 := (exists_top v).choose
def snd (v : Fin 8 → EReal) : Fin 8 := (exists_top v).choose_spec.choose

theorem top (v : Fin 8 → EReal) : Top v (fst v) (snd v) := (exists_top v).choose_spec.choose_spec

/-- One for the two chosen, zero for the others. -/
def chose (v : Fin 8 → EReal) (e : ℕ) : EReal := if e = (fst v).val then 1 else if e = (snd v).val then 1 else 0

variable (h : (⟨2, ![16384, 1024]⟩ : Shape).Idx → EReal) (g : (⟨1, ![1024]⟩ : Shape).Idx → EReal)
    (w : (⟨2, ![1024, 8]⟩ : Shape).Idx → EReal)

/-- Whether a token chose an expert. -/
def mark (n e : ℕ) : EReal := if hn : n < 16384 then chose (logit h g w ⟨n, hn⟩) e else 0

/-- How many of the first `n` tokens chose an expert. -/
def tally (n e : ℕ) : EReal := ∑ r ∈ Finset.range n, mark h g w r e

theorem tally_zero (e : ℕ) : tally h g w 0 e = 0 := Finset.sum_range_zero _

theorem tally_add (n k e : ℕ) : tally h g w (n + k) e = tally h g w n e + ∑ p : Fin k, mark h g w (n + p.val) e := by
  unfold tally
  rw [Finset.sum_range_add, Finset.sum_range (fun x => mark h g w (n + x) e)]

/-- No lane after the eighth is chosen. -/
theorem mark_wide (n e : ℕ) (he : 8 ≤ e) : mark h g w n e = 0 := by
  unfold mark chose
  split
  · rename_i hn
    have h1 := (fst (logit h g w ⟨n, hn⟩)).isLt
    have h2 := (snd (logit h g w ⟨n, hn⟩)).isLt
    rw [if_neg (by omega), if_neg (by omega)]
  · rfl

theorem tally_wide (n e : ℕ) (he : 8 ≤ e) : tally h g w n e = 0 := Finset.sum_eq_zero fun r _ => mark_wide h g w r e he

theorem chose_real (v : Fin 8 → EReal) (e : ℕ) : IsReal (chose v e) := by
  unfold chose
  split
  · exact ⟨1, rfl⟩
  · split
    · exact ⟨1, rfl⟩
    · exact ⟨0, rfl⟩

end Cert.Router

namespace Cert.Kernel4Ideal.Hand

open Cert.Kernel4Ideal Cert.Kernel4Ideal.Gen Cert.Kernel4Ideal.Value Cert.Common Cert.Router

/-- A column's sum. -/
theorem colSum_apply {M K : Nat} (h : (⟨2, ![M, K]⟩ : Shape).Reduces [0] ⟨1, ![K]⟩) (hacc) (x : FVec Ideal ⟨2, ![M, K]⟩ .f32) (j : Fin K) :
    multiReduction .add [0] ⟨1, ![K]⟩ x 0x00000000#32 h (.inl rfl) hacc (ix1 j) = ∑ k : Fin M, x (ix2 k j) := by
  rw [Ideal.multiReduction_add_single]
  refine Finset.sum_congr rfl fun k _ => congrArg x (funext fun a => Fin.ext ?_)
  match a with
  | ⟨0, _⟩ => rfl
  | ⟨1, _⟩ => rfl

/-- The counts after a block. -/
theorem pay2_apply (P : FVec Ideal S256x128 .f32) (C : Vec Ideal S1x128 .f32) (e : Fin 128) :
    k0_pay2 P C (ix2 0 e) = C (ix2 0 e) + ∑ p : Fin 256, P (ix2 p e) := by
  unfold k0_pay2
  simp only [addf_apply, Ideal.addf_def]
  rw [rowCast_apply]
  exact congrArg (C (ix2 0 e) + ·) (colSum_apply _ _ P e)

theorem pay3_apply (P : FVec Ideal S256x128 .f32) (C : Vec Ideal S1x128 .f32) (e : Fin 128) :
    k0_pay3 P C (ix2 0 e) = C (ix2 0 e) + ∑ p : Fin 256, P (ix2 p e) := by
  unfold k0_pay3
  simp only [shapeCast_self]
  exact pay2_apply P C e

theorem pay4_apply (P : FVec Ideal S256x128 .f32) (C : Vec Ideal S1x128 .f32) (s : Fin 8) (e : Fin 128) :
    k0_pay4 P C (ix2 s e) = C (ix2 0 e) + ∑ p : Fin 256, P (ix2 p e) := by
  unfold k0_pay4
  simp only [shapeCast_self]
  rw [rowBcast_apply (by decide)]
  exact pay2_apply P C e

theorem pay1_apply (C : Vec Ideal S1x128 .f32) (s : Fin 8) (e : Fin 128) : k0_pay1 C (ix3 0 s e) = C (ix2 0 e) := by
  unfold k0_pay1
  simp only [shapeCast_self]
  refine (shapeCast_apply _ _ (ix3 0 s e) (ix2 s e) ?_).trans (rowBcast_apply (by decide) _ _ s e)
  rw [Shape.rowMajor_val_two, Shape.rowMajor_val_three]
  show s.val * 128 + e.val = (0 * 8 + s.val) * 128 + e.val
  omega

section Counts

variable {m : (ℓ : Loc nD τ sig) → Buf (Elt Ideal) ℓ} {c : Dev nD}
variable (hg : ∀ i, IsReal (m ((c : Thread nD τ).loc main_arg1) i))
  (hw : ∀ i, IsReal (m ((c : Thread nD τ).loc main_arg2) i))

include hg hw in
theorem picks_apply (t : Fin cfg0.N) (p : Fin 256) (hb : t.val * 256 + p.val < 16384) (e : Fin 128) : picks (lg m c t) (ix2 p e)
    = mark (m ((c : Thread nD τ).loc main_arg0)) (m ((c : Thread nD τ).loc main_arg1)) (m ((c : Thread nD τ).loc main_arg2)) (t.val * 256 + p.val) e.val := by
  have hrow := row_lg c hg hw t p hb
  have hv : ∀ k, row (lg m c t) p k ≠ ⊥ := fun k => by rw [hrow]; exact (logit_real c hg hw _ k).ne_bot
  refine (pay23_apply (top (row (lg m c t) p)) hv e).trans ?_
  unfold mark
  rw [dif_pos hb, ← hrow]
  unfold chose
  simp only [num_inj]

include hg hw in
/-- The counts a point starts from are those of the tokens before its block. -/
theorem cnt_apply (n : ℕ) (hn : n < cfg0.N) (e : Fin 128) : cnt m c ⟨n, hn⟩ (ix2 0 e)
    = tally (m ((c : Thread nD τ).loc main_arg0)) (m ((c : Thread nD τ).loc main_arg1)) (m ((c : Thread nD τ).loc main_arg2)) (n * 256) e.val := by
  have hN : cfg0.N = 64 := N_0
  induction n with
  | zero =>
    unfold cnt
    rw [if_pos (by rfl), Nat.zero_mul, tally_zero]
    exact Ideal.ofBits_zero_f32
  | succ n ih =>
    have hn' : n < cfg0.N := by omega
    unfold cnt
    rw [if_neg (by show ¬ (n + 1) % 64 = 0; omega)]
    have e1 := outs_eq m c ⟨n, hn'⟩
    refine (congrFun (congrArg (fun x => x.2.2.2.2.2) e1) (ix2 0 e)).trans ((pay3_apply _ _ e).trans ?_)
    rw [ih hn', show (n + 1) * 256 = n * 256 + 256 by omega, tally_add]
    exact congrArg _ (Finset.sum_congr rfl fun p _ => picks_apply hg hw ⟨n, hn'⟩ p (by show n * 256 + p.val < 16384; omega) e)

include hg hw in
theorem G6_apply (b : Fin 64) (s : Fin 8) (e : Fin 128) : G6 m c (ix3 b s e)
    = tally (m ((c : Thread nD τ).loc main_arg0)) (m ((c : Thread nD τ).loc main_arg1)) (m ((c : Thread nD τ).loc main_arg2)) (b.val * 256) e.val := by
  have hN : cfg0.N = 64 := N_0
  have hb : b.val < cfg0.N := by omega
  have hp : pt6Of (ix3 b s e) = b.val := by
    show 1 * (b.val / 1 - 0) + 1 * (s.val / 8 - 0) + 1 * (e.val / 128 - 0) = b.val
    omega
  have hl : loc6Of (ix3 b s e) = ix3 0 s e := funext fun a => Fin.ext (by
    match a with
    | ⟨0, _⟩ => show b.val % 1 = 0; omega
    | ⟨1, _⟩ => show s.val % 8 = s.val; omega
    | ⟨2, _⟩ => show e.val % 128 = e.val; omega)
  unfold G6
  rw [dif_pos (by rw [hp]; exact hb), acc_eq m c _ (by rw [hp]; exact hb), hl]
  rw [show (⟨pt6Of (ix3 b s e), by rw [hp]; exact hb⟩ : Fin cfg0.N) = ⟨b.val, hb⟩ from Fin.ext hp]
  exact (pay1_apply _ s e).trans (cnt_apply hg hw b.val hb e)

include hg hw in
theorem G7_apply (s : Fin 8) (e : Fin 128) : G7 m c (ix2 s e)
    = tally (m ((c : Thread nD τ).loc main_arg0)) (m ((c : Thread nD τ).loc main_arg1)) (m ((c : Thread nD τ).loc main_arg2)) 16384 e.val := by
  have h63 : 63 < cfg0.N := lt_of_lt_of_eq (by decide) N_0.symm
  rw [G7_last m c, acc_eq m c 63 h63]
  refine (pay4_apply _ _ s e).trans ?_
  rw [cnt_apply hg hw 63 h63, show 16384 = 63 * 256 + 256 from rfl, tally_add]
  exact congrArg _ (Finset.sum_congr rfl fun p _ => picks_apply hg hw ⟨63, h63⟩ p (by show 63 * 256 + p.val < 16384; omega) e)

end Counts

end Cert.Kernel4Ideal.Hand

end
-- ==== Proof.RouterRanks.lean ====
/-
  The router's table in full: after the experts and the gates, a token's two ranks and then zeros.
-/
module

public import proofs.«01_k».proof.Proof.RouterCounts

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Router

/-- A token's table: the experts' numbers, the gates, how many earlier tokens chose each of the two, and zeros. -/
def entry (v : Fin 8 → EReal) (T : ℕ → EReal) (l : ℕ) : EReal :=
  if l < 4 then four v (fst v) (snd v) l else if l = 4 then T (fst v).val else if l = 5 then T (snd v).val else 0

/-- A sum of ones and zeros times values, the ones below a place, is the sum of the values below it. -/
theorem sum_below (f : ℕ → EReal) (p : Fin 256) : ∑ q : Fin 256, (if q.val < p.val then (1 : EReal) else 0) * f q.val = ∑ q : Fin p.val, f q.val := by
  simp only [ite_mul, one_mul, zero_mul]
  rw [← Finset.sum_range (fun q => if q < p.val then f q else 0), ← Finset.sum_range f, ← Finset.sum_filter]
  refine Finset.sum_congr (Finset.ext fun n => ?_) fun _ _ => rfl
  rw [Finset.mem_filter, Finset.mem_range, Finset.mem_range]
  omega

end Cert.Router

namespace Cert.Kernel4Ideal.Hand

open Cert.Kernel4Ideal Cert.Kernel4Ideal.Gen Cert.Kernel4Ideal.Value Cert.Common Cert.Router

theorem lane_eq (p : Fin 256) (e : Fin 128) (k : ℕ) (hk : k < 128) :
    IntOp.cmpi .eq (laneW (ix2 p e)) (BitVec.ofNat 32 k) = BitVec.ofBool (decide (e.val = k)) := by
  rw [laneW_apply]
  show BitVec.ofBool (BitVec.ofNat 32 e.val == BitVec.ofNat 32 k) = _
  refine congrArg BitVec.ofBool (Bool.eq_iff_iff.2 ?_)
  rw [beq_iff_eq, decide_eq_true_iff]
  refine ⟨fun hh => ?_, fun hh => by rw [hh]⟩
  have := congrArg BitVec.toNat hh
  rw [BitVec.toNat_ofNat, BitVec.toNat_ofNat] at this
  omega

/-- The mask of the earlier places. -/
theorem pay24_apply (p q : Fin 256) : (k0_pay24 : FVec Ideal S256x256 .bf16) (ix2 p q) = if q.val < p.val then 1 else 0 := by
  have e1 : IntOp.cmpi .sgt (iota .tc S256x256 32 [0] iota_S256x256_d0_w32 (ix2 p q)) (iota .tc S256x256 32 [1] iota_S256x256_d1_w32 (ix2 p q))
      = BitVec.ofBool (decide (q.val < p.val)) := by
    have a0 : iota .tc S256x256 32 [0] iota_S256x256_d0_w32 (ix2 p q) = BitVec.ofNat 32 p.val := by
      show BitVec.ofNat 32 (0 * 256 + p.val) = _
      rw [Nat.zero_mul, Nat.zero_add]
    have a1 : iota .tc S256x256 32 [1] iota_S256x256_d1_w32 (ix2 p q) = BitVec.ofNat 32 q.val := by
      show BitVec.ofNat 32 (0 * 256 + q.val) = _
      rw [Nat.zero_mul, Nat.zero_add]
    rw [a0, a1]
    show BitVec.ofBool (BitVec.slt (BitVec.ofNat 32 q.val) (BitVec.ofNat 32 p.val)) = _
    refine congrArg BitVec.ofBool ?_
    rw [BitVec.slt, toInt_small _ q.isLt, toInt_small _ p.isLt]
    simp
  show Scalar.select (IntOp.cmpi .sgt (iota .tc S256x256 32 [0] iota_S256x256_d0_w32 (ix2 p q)) (iota .tc S256x256 32 [1] iota_S256x256_d1_w32 (ix2 p q)))
    (Ideal.ofBits .f32 0x3F800000#32) (Ideal.ofBits .f32 0x00000000#32) = _
  rw [e1, select_ofBool, Ideal.ofBits_one_f32, Ideal.ofBits_zero_f32]

/-- The one-hots as the product's right operand. -/
theorem pay25_apply (L : FVec Ideal S256x128 .f32) (q : Fin 256) (e : Fin 128) : k0_pay25 L k0_pay9 k0_pay10 k0_pay11 (ix2 q e) = picks L (ix2 q e) := by
  unfold k0_pay25
  show truncf .bf16 (k0_pay23 L k0_pay9 k0_pay10 k0_pay11) bitsLt_bf16_f32 (ix2 q e) = k0_pay23 L k0_pay9 k0_pay10 k0_pay11 (ix2 q e)
  generalize k0_pay23 L k0_pay9 k0_pay10 k0_pay11 = P
  rfl

/-- A block's counts at row `p`: those before the block and those of the rows above. -/
def above (v80 : FVec Ideal S256x256 .bf16) (v81 : Vec Ideal S1x128 .f32) (v82 : FVec Ideal S256x128 .bf16) (p : Fin 256) (e : Fin 128) : EReal :=
  ∑ q, v80 (ix2 p q) * v82 (ix2 q e) + v81 (ix2 0 e)

/-- The table's lanes from the fifth. -/
theorem pay26_rest (p : Fin 256) (v47 : FVec Ideal S256x1 .f32) (v49 : IVec S256x128 1) (v59 : FVec Ideal S256x1 .f32) (v61 : IVec S256x128 1)
    (v67 v68 : FVec Ideal S256x1 .f32) (v80 : FVec Ideal S256x256 .bf16) (v81 : Vec Ideal S1x128 .f32) (v82 : FVec Ideal S256x128 .bf16)
    (e : Fin 128) (he : 4 ≤ e.val) :
    k0_pay26 laneW v47 v49 v59 v61 v67 v68 v80 v81 v82 (ix2 p e)
      = if e.val = 4 then ∑ k : Fin 128, Scalar.select (v49 (ix2 p k)) (above v80 v81 v82 p k) 0
        else if e.val = 5 then ∑ k : Fin 128, Scalar.select (v61 (ix2 p k)) (above v80 v81 v82 p k) 0 else 0 := by
  unfold k0_pay26
  simp only [shapeCast_self]
  simp only [select, cmpi, broadcast_apply]
  rw [colBcast_apply (by decide), colBcast_apply (by decide), colBcast_apply (by decide), colBcast_apply (by decide), colBcast_apply (by decide),
    colBcast_apply (by decide), colCast_apply, colCast_apply]
  have w0 : IntOp.cmpi .eq (laneW (ix2 p e)) 0#32 = BitVec.ofBool (decide (e.val = 0)) := lane_eq p e 0 (by omega)
  have w1 : IntOp.cmpi .eq (laneW (ix2 p e)) 1#32 = BitVec.ofBool (decide (e.val = 1)) := lane_eq p e 1 (by omega)
  have w2 : IntOp.cmpi .eq (laneW (ix2 p e)) 2#32 = BitVec.ofBool (decide (e.val = 2)) := lane_eq p e 2 (by omega)
  have w3 : IntOp.cmpi .eq (laneW (ix2 p e)) 3#32 = BitVec.ofBool (decide (e.val = 3)) := lane_eq p e 3 (by omega)
  have w4 : IntOp.cmpi .eq (laneW (ix2 p e)) 4#32 = BitVec.ofBool (decide (e.val = 4)) := lane_eq p e 4 (by omega)
  have w5 : IntOp.cmpi .eq (laneW (ix2 p e)) 5#32 = BitVec.ofBool (decide (e.val = 5)) := lane_eq p e 5 (by omega)
  rw [w0, w1, w2, w3, w4, w5]
  simp only [select_ofBool]
  rw [if_neg (by omega), if_neg (by omega), if_neg (by omega), if_neg (by omega)]
  have hab : ∀ k : Fin 128, addf (matmul dot_S256x256_S256x128_S256x128_1_0_0_1_n_n none v80 v82 (constant S256x128 .f32 0x00000000#32))
      (broadcastTo S256x128 v81 broadcasts_S1x128_S256x128) (ix2 p k) = above v80 v81 v82 p k := fun k =>
    congrArg₂ (· + ·) (mm_apply dot_S256x256_S256x128_S256x128_1_0_0_1_n_n_wf v80 v82 p k) (rowBcast_apply (by decide) v81 _ p k)
  have hsum : ∀ (c : IVec S256x128 1), multiReduction .add [1] S256 (fun i => Scalar.select (c i)
      (addf (matmul dot_S256x256_S256x128_S256x128_1_0_0_1_n_n none v80 v82 (constant S256x128 .f32 0x00000000#32))
        (broadcastTo S256x128 v81 broadcasts_S1x128_S256x128) i) (Scalar.ofBits (F := Ideal) .f32 0x00000000#32)) 0x00000000#32
        reduces_S256x128_S256 (.inl rfl) rfl (ix1 p) = ∑ k : Fin 128, Scalar.select (c (ix2 p k)) (above v80 v81 v82 p k) 0 := fun c =>
    (rowSum_apply _ _ _ p).trans (Finset.sum_congr rfl fun k _ => by
      rw [hab]
      exact congrArg _ Ideal.ofBits_zero_f32)
  refine congrArg₂ (fun a b => if e.val = 4 then a else b) (hsum v49) (congrArg₂ (fun a b => if e.val = 5 then a else b) (hsum v61) Ideal.ofBits_zero_f32)

section Ranks

variable {m : (ℓ : Loc nD τ sig) → Buf (Elt Ideal) ℓ} {c : Dev nD}
variable (hg : ∀ i, IsReal (m ((c : Thread nD τ).loc main_arg1) i))
  (hw : ∀ i, IsReal (m ((c : Thread nD τ).loc main_arg2) i))

include hg hw in
theorem above_apply (r : Fin 16384) (e : Fin 128) :
    above k0_pay24 (cnt m c (ptOf r)) (k0_pay25 (lg m c (ptOf r)) k0_pay9 k0_pay10 k0_pay11) (rowOf r) e
      = tally (m ((c : Thread nD τ).loc main_arg0)) (m ((c : Thread nD τ).loc main_arg1)) (m ((c : Thread nD τ).loc main_arg2)) r.val e.val := by
  have hpt : (ptOf r).val < 64 := by
    show r.val / 256 < 64
    have := r.isLt
    omega
  unfold above
  rw [cnt_apply hg hw (ptOf r).val (ptOf r).isLt e]
  have key := sum_below (fun q => mark (m ((c : Thread nD τ).loc main_arg0)) (m ((c : Thread nD τ).loc main_arg1))
    (m ((c : Thread nD τ).loc main_arg2)) ((ptOf r).val * 256 + q) e.val) (rowOf r)
  refine (congrArg (· + _) ((Finset.sum_congr rfl fun q _ => ?_).trans key)).trans ?_
  · exact congrArg₂ (fun a b : EReal => a * b) (pay24_apply (rowOf r) q) ((pay25_apply _ q e).trans (picks_apply hg hw (ptOf r) q (by omega) e))
  show _ + _ = _
  rw [add_comm, ← tally_add, place]

include hg hw in
/-- The table at every lane. -/
theorem table_full (r : Fin 16384) (e : Fin 128) : info (lg m c (ptOf r)) (cnt m c (ptOf r)) (ix2 (rowOf r) e)
    = entry (logit (m ((c : Thread nD τ).loc main_arg0)) (m ((c : Thread nD τ).loc main_arg1)) (m ((c : Thread nD τ).loc main_arg2)) r)
      (tally (m ((c : Thread nD τ).loc main_arg0)) (m ((c : Thread nD τ).loc main_arg1)) (m ((c : Thread nD τ).loc main_arg2)) r.val) e.val := by
  unfold entry
  by_cases he : e.val < 4
  · rw [if_pos he]
    exact table_apply hg hw r (top _) _ e he
  rw [if_neg he]
  have hrow := row_of hg hw r
  have hv : ∀ k, row (lg m c (ptOf r)) (rowOf r) k ≠ ⊥ := fun k => by rw [hrow]; exact (logit_real c hg hw r k).ne_bot
  have ht := top (row (lg m c (ptOf r)) (rowOf r))
  have pick : ∀ (j : Fin 8) (T : ℕ → EReal), ∑ k : Fin 128, (if k.val = j.val then T k.val else 0) = T j.val := fun j T => by
    refine (Finset.sum_eq_single (lane j) (fun k _ hk => if_neg fun hh => hk (Fin.ext hh)) (fun hk => absurd (Finset.mem_univ _) hk)).trans ?_
    exact if_pos rfl
  unfold info
  rw [show (iota .tc S256x128 32 [1] iota_S256x128_d1_w32) = laneW from rfl, pay26_rest _ _ _ _ _ _ _ _ _ _ e (by omega)]
  simp only [pay15_apply ht hv, pay19_apply ht hv, select_ofBool, above_apply hg hw r, num_inj, pick]
  rw [hrow]

include hg hw in
theorem G4_full (r : Fin 16384) (e : Fin 128) : G4 m c (ix2 r e)
    = entry (logit (m ((c : Thread nD τ).loc main_arg0)) (m ((c : Thread nD τ).loc main_arg1)) (m ((c : Thread nD τ).loc main_arg2)) r)
      (tally (m ((c : Thread nD τ).loc main_arg0)) (m ((c : Thread nD τ).loc main_arg1)) (m ((c : Thread nD τ).loc main_arg2)) r.val) e.val := by
  have hp : pt4Of (ix2 r e) = (ptOf r).val := by
    show 1 * (r.val / 256 - 0) + 1 * (e.val / 128 - 0) = r.val / 256
    omega
  have hl : loc4Of (ix2 r e) = ix2 (rowOf r) e := funext fun a => Fin.ext (by
    match a with
    | ⟨0, _⟩ => rfl
    | ⟨1, _⟩ => show e.val % 128 = e.val; omega)
  unfold G4
  rw [dif_pos (by rw [hp]; exact (ptOf r).isLt), acc_eq m c _ (by rw [hp]; exact (ptOf r).isLt), hl]
  rw [show (⟨pt4Of (ix2 r e), by rw [hp]; exact (ptOf r).isLt⟩ : Fin cfg0.N) = ptOf r from Fin.ext hp]
  exact table_full hg hw r e

include hg hw in
theorem G5_full (r : Fin 16384) (e : Fin 8) : G5 m c (ix2 e r)
    = entry (logit (m ((c : Thread nD τ).loc main_arg0)) (m ((c : Thread nD τ).loc main_arg1)) (m ((c : Thread nD τ).loc main_arg2)) r)
      (tally (m ((c : Thread nD τ).loc main_arg0)) (m ((c : Thread nD τ).loc main_arg1)) (m ((c : Thread nD τ).loc main_arg2)) r.val) e.val := by
  have hp : pt5Of (ix2 e r) = (ptOf r).val := by
    show 64 * (e.val / 8 - 0) + 1 * (r.val / 256 - 0) = r.val / 256
    omega
  have hl : loc5Of (ix2 e r) = ix2 e (rowOf r) := funext fun a => Fin.ext (by
    match a with
    | ⟨0, _⟩ => show e.val % 8 = e.val; omega
    | ⟨1, _⟩ => rfl)
  unfold G5
  rw [dif_pos (by rw [hp]; exact (ptOf r).isLt), acc_eq m c _ (by rw [hp]; exact (ptOf r).isLt), hl]
  rw [show (⟨pt5Of (ix2 e r), by rw [hp]; exact (ptOf r).isLt⟩ : Fin cfg0.N) = ptOf r from Fin.ext hp]
  exact (infoT_apply _ _ _ e).trans (table_full hg hw r (lane e))

end Ranks

end Cert.Kernel4Ideal.Hand

end
-- ==== Proof.RouterRefCounts.lean ====
/-
  The reference's counts at an index: the running counts of every expert, the two ranks of a token, and the table in full.
-/
module

public import proofs.«01_k».proof.Proof.RouterRef
public import proofs.«01_k».proof.Proof.RouterRanks
public import Idealize.ShloMosaic.Lib.Routing.OpsOne

@[expose] public section

set_option maxRecDepth 16384

noncomputable section

open Idealize.ShloMosaic Idealize.ShloMosaic.TcCoe Idealize.SL.Sem Idealize.ShloMosaic.ValueIdx

namespace Cert.Router

/-- Adding terms one after another adds their sum. -/
theorem foldl_add {ι : Type} (l : List ι) (f g : ι → EReal) (h : ∀ n ∈ l, f n = g n) (z : EReal) :
    l.foldl (fun r n => r + f n) z = z + (l.map g).sum := by
  induction l generalizing z with
  | nil => simp
  | cons a l ih =>
    rw [List.foldl_cons, ih (fun n hn => h n (List.mem_cons_of_mem _ hn)), List.map_cons, List.sum_cons, h a List.mem_cons_self, add_assoc]

/-- The window at place `j` over values padded before by `R` of them holds the first `j + 1`. -/
theorem window_sum (f : ℕ → EReal) (R j : ℕ) (hj : j ≤ R) :
    ∑ w ∈ Finset.range (R + 1), (if R ≤ j + w then f (j + w - R) else 0) = ∑ i ∈ Finset.range (j + 1), f i := by
  obtain ⟨d, rfl⟩ : ∃ d, R = j + d := ⟨R - j, by omega⟩
  rw [show j + d + 1 = d + (j + 1) by omega, Finset.sum_range_add, Finset.sum_eq_zero (fun w hw => if_neg (by have := Finset.mem_range.1 hw; omega)), zero_add]
  refine Finset.sum_congr rfl fun i _ => ?_
  rw [if_pos (by omega), show j + (d + i) - (j + d) = i by omega]

/-- A running sum down the rows of a matrix: entry `(j, c)` is the sum of column `c` to row `j`. -/
theorem running {R K C : ℕ} (hR : K + 1 = R) (x : (⟨2, ![R, C]⟩ : Shape).Idx → EReal) (f : ℕ → ℕ → EReal)
    (hx : ∀ (i : Fin R) (c : Fin C), x (ix2 i c) = f i.val c.val) (init : (⟨0, ![]⟩ : Shape).Idx → EReal) (hinit : init ix0 = 0)
    (h : (⟨2, ![R, C]⟩ : Shape).ReduceWindows (![R, 1] : Fin 2 → Nat) ![1, 1] ![K, 0] ![0, 0] ⟨2, ![R, C]⟩)
    (hu : 0 < (⟨0, ![]⟩ : Shape).numel) (j : Fin R) (c : Fin C) :
    Host.reduceWindow (· + ·) ![R, 1] ![1, 1] ![K, 0] ![0, 0] x init h hu (ix2 j c) = ∑ i ∈ Finset.range (j.val + 1), f i c.val := by
  subst hR
  have hv : init (Shape.Idx.first hu) = 0 := (congrArg init (eq_ix0 _)).trans hinit
  have hj := j.isLt
  have hc := c.isLt
  have hw0 : ∀ n, ((⟨2, ![K + 1, 1]⟩ : Shape).rowMajor.symm n 0).val = n.val := fun n => by rw [Routing.symm_col]; rfl
  have hw1 : ∀ n, ((⟨2, ![K + 1, 1]⟩ : Shape).rowMajor.symm n 1).val = 0 := fun n => by rw [Routing.symm_col]; rfl
  unfold Host.reduceWindow
  refine (foldl_add _ _ (fun n => if K ≤ j.val + n.val then f (j.val + n.val - K) c.val else 0) (fun n _ => ?_) _).trans ?_
  · have hn : n.val < K + 1 := (n.cast (Routing.numel_col _)).isLt
    dsimp only
    split
    · next hin =>
      have h0 := hin 0
      change K ≤ j.val * 1 + ((⟨2, ![K + 1, 1]⟩ : Shape).rowMajor.symm n 0).val
        ∧ j.val * 1 + ((⟨2, ![K + 1, 1]⟩ : Shape).rowMajor.symm n 0).val - K < K + 1 at h0
      rw [hw0] at h0
      rw [if_pos (by omega)]
      refine (congrArg x (funext fun a => Fin.ext ?_)).trans (hx ⟨j.val + n.val - K, by omega⟩ c)
      match a with
      | ⟨0, _⟩ =>
        show j.val * 1 + ((⟨2, ![K + 1, 1]⟩ : Shape).rowMajor.symm n 0).val - K = j.val + n.val - K
        rw [hw0, Nat.mul_one]
      | ⟨1, _⟩ =>
        show c.val * 1 + ((⟨2, ![K + 1, 1]⟩ : Shape).rowMajor.symm n 1).val - 0 = c.val
        rw [hw1]
        omega
    · next hin =>
      rw [if_neg fun hle => hin fun a => by
        match a with
        | ⟨0, _⟩ =>
          show K ≤ j.val * 1 + ((⟨2, ![K + 1, 1]⟩ : Shape).rowMajor.symm n 0).val
            ∧ j.val * 1 + ((⟨2, ![K + 1, 1]⟩ : Shape).rowMajor.symm n 0).val - K < K + 1
          rw [hw0]
          omega
        | ⟨1, _⟩ =>
          show 0 ≤ c.val * 1 + ((⟨2, ![K + 1, 1]⟩ : Shape).rowMajor.symm n 1).val ∧ c.val * 1 + ((⟨2, ![K + 1, 1]⟩ : Shape).rowMajor.symm n 1).val - 0 < C
          rw [hw1]
          omega]
      exact hv
  · rw [hv, zero_add, ← Fin.sum_univ_def, ← Finset.sum_range (fun w => if K ≤ j.val + w then f (j.val + w - K) c.val else 0)]
    rw [show (⟨2, ![K + 1, 1]⟩ : Shape).numel = K + 1 from Routing.numel_col (K + 1)]
    exact window_sum (fun i => f i c.val) K j.val (by omega)

end Cert.Router

namespace Cert.Reference4Ideal.Hand

open Cert.Reference4Ideal Cert.Reference4Ideal.Gen Cert.Reference4Ideal.Read Cert.Common Cert.Router

variable (x : (⟨S16384x1024, .f32⟩ : BufTy).Contents (Elt Ideal)) (g : (⟨S1024, .f32⟩ : BufTy).Contents (Elt Ideal))
  (w : (⟨S1024x8, .f32⟩ : BufTy).Contents (Elt Ideal))

theorem eq_word (a b : Fin 8) : IntOp.cmpi .eq (BitVec.ofNat 32 a.val) (BitVec.ofNat 32 b.val) = BitVec.ofBool (decide (a = b)) := by
  revert a b
  decide

/-- The word zero as a number. -/
theorem zero_word : FloatOps.sitofp (F := Ideal) .f32 0#32 = (0 : EReal) := by
  show (((0#32 : BitVec 32).toInt : ℝ) : EReal) = 0
  simp

theorem one_hot (r : Fin 16384) (q : Fin 2) (e : Fin 8) : val_main_v31 (F := Ideal) x g w (ix3 r q e)
    = if (if q = 0 then fst (logit x g w r) else snd (logit x g w r)) = e then 1 else 0 := by
  have e1 : idx_main_v25 (idx_main_v28 (ix3 r q e)) = ix2 r q := funext fun a => Fin.ext (by match a with | ⟨0, _⟩ => rfl | ⟨1, _⟩ => rfl)
  have e2 : ((idx_main_v27 (idx_main_v29 (ix3 r q e))) 0).val = e.val := rfl
  rw [val_main_v31_apply, val_main_v30_apply, val_main_v28_apply, val_main_v25_apply, val_main_v29_apply, val_main_v27_apply, val_main_v26_apply,
    e1, e2, indices_apply (top (logit x g w r)), eq_word]
  show ((((BitVec.ofBool (decide _)).toNat : ℕ) : ℝ) : EReal) = _
  generalize (if q = 0 then fst (logit x g w r) else snd (logit x g w r)) = i
  by_cases hh : i = e <;> simp [hh]

theorem chosen_apply (r : Fin 16384) (e : Fin 8) : val_main_v32 (F := Ideal) x g w (ix2 r e) = chose (logit x g w r) e.val := by
  have e1 : ∀ k, idx_main_v32 (ix2 r e) k = ix3 r k e := fun k => funext fun a => Fin.ext (by
    match a with
    | ⟨0, _⟩ => rfl
    | ⟨1, _⟩ => rfl
    | ⟨2, _⟩ => rfl)
  rw [val_main_v32_apply, val_main_cst_5_apply, Fin.sum_univ_two, e1, e1, one_hot, one_hot, Ideal.ofBits_def, Ideal.ofBits_zero_f32, zero_add]
  have hne := (top (logit x g w r)).ne
  unfold chose
  simp only [if_true, one_ne_zero, if_false]
  by_cases h1 : fst (logit x g w r) = e
  · have h2 : ¬ snd (logit x g w r) = e := fun hh => hne (by first | exact h1.trans hh.symm | exact hh.trans h1.symm)
    rw [if_pos h1, if_neg h2, if_pos (congrArg Fin.val h1.symm), add_zero]
  · have h1' : ¬ e.val = (fst (logit x g w r)).val := fun hh => h1 (Fin.ext hh.symm)
    rw [if_neg h1, if_neg h1', zero_add]
    by_cases h2 : snd (logit x g w r) = e
    · rw [if_pos h2, if_pos (congrArg Fin.val h2.symm)]
    · rw [if_neg h2, if_neg fun hh => h2 (Fin.ext hh.symm)]

theorem count_apply (r : Fin 16384) (e : Fin 8) : val_main_v33 (F := Ideal) x g w (ix2 r e) = tally x g w (r.val + 1) e.val := by
  unfold val_main_v33
  have hx : ∀ (i : Fin 16384) (c : Fin 8), val_main_v32 (F := Ideal) x g w (ix2 i c) = mark x g w i.val c.val := fun i c => by
    rw [chosen_apply]
    unfold mark
    rw [dif_pos i.isLt]
  generalize val_main_v32 (F := Ideal) x g w = y at hx
  have h0 : val_main_call0_call0_v0 (F := Ideal) (Shape.Idx.first h_S_) = (0 : EReal) := by
    rw [val_main_call0_call0_v0_apply, val_main_call0_call0_cst_apply]
    exact Ideal.ofBits_zero_f32
  have key := running (K := 16383) (R := 16384) (C := 8) rfl y (mark x g w) hx (fun _ => 0) rfl
    reduceWindows_S16384x8_S16384x8_w16384s1p16383_0_w1s1p0_0 h_S_ r e
  unfold Host.reduceWindowAdd
  rw [h0, Ideal.hostReduceWindowAdd_def]
  unfold Ideal.hostReduceWindowAdd
  exact key

theorem minus_apply (r : Fin 16384) (e : Fin 8) : val_main_v33 (F := Ideal) x g w (ix2 r e) - val_main_v32 (F := Ideal) x g w (ix2 r e)
    = tally x g w r.val e.val := by
  rw [count_apply, chosen_apply]
  unfold tally
  rw [Finset.sum_range_succ]
  have hm : mark x g w r.val e.val = chose (logit x g w r) e.val := by
    unfold mark
    rw [dif_pos r.isLt]
  rw [hm]
  obtain ⟨b, hb⟩ := chose_real (logit x g w r) e.val
  rw [hb]
  exact EReal.add_sub_cancel_right

/-- How many of the tokens before a token chose an expert. -/
theorem earlier_apply (r : Fin 16384) (e : Fin 8) : val_main_v34 (F := Ideal) x g w (ix2 r e) = tally x g w r.val e.val :=
  (val_main_v34_apply x g w (ix2 r e)).trans (minus_apply x g w r e)

theorem wide_apply (r : Fin 16384) (e : Fin 128) : val_main_v40 (F := Ideal) x g w (ix2 r e) = tally x g w r.val e.val := by
  have hy : ∀ (e : Fin 8), val_main_v39 (F := Ideal) x g w (ix2 r e) = tally x g w r.val e.val := fun e =>
    (val_main_v39_apply x g w (ix2 r e)).trans (minus_apply x g w r e)
  unfold val_main_v40
  generalize val_main_v39 (F := Ideal) x g w = y at hy
  by_cases he : e.val < 8
  · refine (pad_apply_of_inside _ _ _ _ _ _ _ _ (ix2 r ⟨e.val, he⟩) fun a => ?_).trans (hy ⟨e.val, he⟩)
    match a with
    | ⟨0, _⟩ => show r.val = 0 + r.val * (0 + 1); omega
    | ⟨1, _⟩ => show e.val = 0 + e.val * (0 + 1); omega
  · rw [tally_wide _ _ _ _ _ (by omega)]
    refine (pad_apply_of_not_inside _ _ _ _ _ _ _ _ (1 : Fin 2) ?_).trans ?_
    · show ¬ (0 ≤ e.val ∧ (e.val - 0) % (0 + 1) = 0 ∧ (e.val - 0) / (0 + 1) < 8)
      omega
    · exact zero_word

theorem before_apply (b : Fin 64) (s : Fin 8) (e : Fin 128) : val_main_v43 (F := Ideal) x g w (ix3 b s e) = tally x g w (b.val * 256) e.val := by
  have hb := b.isLt
  have he := e.isLt
  have e1 : idx_main_v41 (idx_main_v42 (idx_main_v43 (ix3 b s e))) = ix2 ⟨b.val * 256, by omega⟩ e := funext fun a => Fin.ext (by
    match a with
    | ⟨0, _⟩ => show ((b.val * 256 + 0) * 128 + e.val) / 128 = b.val * 256; omega
    | ⟨1, _⟩ => show ((b.val * 256 + 0) * 128 + e.val) % 128 = e.val; omega)
  rw [val_main_v43_apply, val_main_v42_apply, val_main_v41_apply, e1]
  exact wide_apply x g w _ e

theorem total_apply (s : Fin 8) (e : Fin 128) : val_main_v46 (F := Ideal) x g w (ix2 s e) = tally x g w 16384 e.val := by
  have e1 : idx_main_v46 (ix2 s e) = ix2 0 e := funext fun a => Fin.ext (by match a with | ⟨0, _⟩ => rfl | ⟨1, _⟩ => rfl)
  have hy : ∀ (e : Fin 8), val_main_v44 (F := Ideal) x g w (ix2 0 e) = tally x g w 16384 e.val := fun e => by
    have e2 : idx_main_v44 (ix2 0 e) = ix2 ⟨16383, by decide⟩ e := funext fun a => Fin.ext (by match a with | ⟨0, _⟩ => rfl | ⟨1, _⟩ => rfl)
    rw [val_main_v44_apply, e2]
    exact count_apply x g w ⟨16383, by decide⟩ e
  rw [val_main_v46_apply, e1]
  unfold val_main_v45
  generalize val_main_v44 (F := Ideal) x g w = y at hy
  by_cases he : e.val < 8
  · refine (pad_apply_of_inside _ _ _ _ _ _ _ _ (ix2 0 ⟨e.val, he⟩) fun a => ?_).trans (hy ⟨e.val, he⟩)
    match a with
    | ⟨0, _⟩ => rfl
    | ⟨1, _⟩ => show e.val = 0 + e.val * (0 + 1); omega
  · rw [tally_wide _ _ _ _ _ (by omega)]
    refine (pad_apply_of_not_inside _ _ _ _ _ _ _ _ (1 : Fin 2) ?_).trans ?_
    · show ¬ (0 ≤ e.val ∧ (e.val - 0) % (0 + 1) = 0 ∧ (e.val - 0) / (0 + 1) < 8)
      omega
    · exact zero_word

/-! ## The ranks -/

/-- A position written as a word is not wrapped. -/
theorem word_kept (a : Fin 8) : Scalar.select (IntOp.cmpi .slt (BitVec.ofNat 32 a.val) 0#32) (IntOp.addi (BitVec.ofNat 32 a.val) 8#32) (BitVec.ofNat 32 a.val)
    = BitVec.ofNat 32 a.val := by
  revert a
  decide

theorem word_inside (a : Fin 8) : IntOp.andi (IntOp.cmpi .sge (BitVec.ofNat 32 a.val) 0#32) (IntOp.cmpi .sle (BitVec.ofNat 32 a.val) 7#32) = 1#1 := by
  revert a
  decide

variable {x g w}

theorem start_apply (r : Fin 16384) (q : Fin 2) : val_main_call1_v5 (F := Ideal) x g w (ix3 r q 0)
    = BitVec.ofNat 32 (if q = 0 then fst (logit x g w r) else snd (logit x g w r)).val := by
  have hq := q.isLt
  have e1 : idx_main_call1_v5 (ix3 r q 0) = ix2 r q := funext fun a => Fin.ext (by
    match a with
    | ⟨0, _⟩ => show ((r.val * 2 + q.val) * 1 + 0) / 2 = r.val; omega
    | ⟨1, _⟩ => show ((r.val * 2 + q.val) * 1 + 0) % 2 = q.val; omega)
  rw [val_main_call1_v5_apply, e1, val_main_call1_v4_apply, val_main_call1_v3_apply, val_main_call1_v1_apply, val_main_call1_v0_apply,
    val_main_call1_c_apply, val_main_call1_v2_apply, val_main_call1_c_0_apply, indices_apply (top (logit x g w r))]
  exact word_kept _

theorem inside_apply (r : Fin 16384) (q : Fin 2) : val_main_call1_v12 (F := Ideal) x g w (ix2 r q) = 1#1 := by
  unfold val_main_call1_v12
  have h11 : val_main_call1_v11 (F := Ideal) x g w (ix3 r q 0) = 1#1 := by
    rw [val_main_call1_v11_apply, val_main_call1_v7_apply, val_main_call1_v10_apply, val_main_call1_v6_apply, val_main_call1_c_2_apply,
      val_main_call1_v9_apply, val_main_call1_v8_apply, val_main_call1_c_1_apply, start_apply]
    exact word_inside _
  generalize val_main_call1_v11 (F := Ideal) x g w = y at h11
  refine (Host.reduce_eq_fold_single (a := 2) IntOp.andi _ _ reducesTo_S16384x2x1_S16384x2_d2 (by decide) h_S_ (ix2 r q)).trans ?_
  have e : ∀ k : Fin 1, y (Shape.Reduces.lift (a := (2 : Fin 3)) (s := S16384x2x1) (t := S16384x2) (by decide) (ix2 r q) k) = 1#1 := fun k =>
    (congrArg _ (funext fun a => Fin.ext (by
      obtain rfl : k = 0 := Subsingleton.elim _ _
      match a with
      | ⟨0, _⟩ => rfl
      | ⟨1, _⟩ => rfl
      | ⟨2, _⟩ => rfl))).trans h11
  show Finset.fold IntOp.andi 1#1 (fun k : Fin 1 => y _) Finset.univ = 1#1
  rw [Finset.univ_unique, Finset.fold_singleton]
  exact (congrArg (fun z => IntOp.andi z 1#1) (e default)).trans (by decide)

theorem taken_apply (r : Fin 16384) (q : Fin 2) : val_main_call1_v13 (F := Ideal) x g w (ix2 r q)
    = tally x g w r.val (if q = 0 then fst (logit x g w r) else snd (logit x g w r)).val := by
  unfold val_main_call1_v13
  have hs := start_apply (x := x) (g := g) (w := w) r q
  have hy := earlier_apply x g w r
  generalize val_main_call1_v5 (F := Ideal) x g w = z at hs
  generalize val_main_v34 (F := Ideal) x g w = y at hy
  generalize (if q = 0 then fst (logit x g w r) else snd (logit x g w r)) = i at hs ⊢
  refine Eq.trans ?_ (hy i)
  unfold Host.gather
  refine congrArg y (funext fun a => Fin.ext ?_)
  show GatherDims.start gather_S16384x8_S16384x2x1_S16384x2_n_1_0_0_1_2_11 (ix2 r q) z a
    + GatherDims.batchCoord gather_S16384x8_S16384x2x1_S16384x2_n_1_0_0_1_2_11 (ix2 r q) a
    + GatherDims.offCoord gather_S16384x8_S16384x2x1_S16384x2_n_1_0_0_1_2_11 (ix2 r q) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S16384x8_S16384x2x1_S16384x2_n_1_0_0_1_2_11.operandBatchingDims from List.mem_singleton.mpr rfl)]
    rfl
  · rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S16384x8_S16384x2x1_S16384x2_n_1_0_0_1_2_11.startIndexMap from List.mem_singleton.mpr rfl)]
    have hsi : gather_S16384x8_S16384x2x1_S16384x2_n_1_0_0_1_2_11.siIdx (ix2 r q)
        ⟨List.idxOf (1 : Fin 2) gather_S16384x8_S16384x2x1_S16384x2_n_1_0_0_1_2_11.startIndexMap,
          List.idxOf_lt_length_iff.2 (List.mem_singleton.mpr rfl)⟩ = ix3 r q 0 := by
      funext b; refine Fin.ext ?_
      match b with
      | ⟨0, _⟩ => rfl
      | ⟨1, _⟩ => rfl
      | ⟨2, _⟩ => rfl
    rw [hsi, hs]
    show min (BitVec.ofNat 32 i.val).toInt.toNat (8 - 1) = i.val
    rw [Cert.Kernel4Ideal.Hand.toInt_small i.val (by omega)]
    have := i.isLt
    omega

theorem ranks_apply (r : Fin 16384) (q : Fin 2) : val_main_v35 (F := Ideal) x g w (ix2 r q)
    = tally x g w r.val (if q = 0 then fst (logit x g w r) else snd (logit x g w r)).val := by
  rw [val_main_v35_apply, inside_apply, taken_apply]
  rfl

/-! ## The table -/

theorem entry_apply (r : Fin 16384) (hr : ∀ k, IsReal (logit x g w r k)) (e : Fin 128) :
    val_main_v38 (F := Ideal) x g w (ix2 r e) = entry (logit x g w r) (tally x g w r.val) e.val := by
  unfold entry
  by_cases h4 : e.val < 4
  · rw [if_pos h4]
    exact table_apply (top _) hr e h4
  rw [if_neg h4]
  have hk := ranks_apply (x := x) (g := g) (w := w) r
  have hz : ∀ k : Fin 122, val_main_v37 (F := Ideal) (ix2 r k) = 0 := fun k => by
    rw [val_main_v37_apply, val_main_cst_6_apply]
    exact Ideal.ofBits_zero_f32
  unfold val_main_v38
  generalize val_main_v36 (F := Ideal) x g w = A at *
  generalize val_main_v24 (F := Ideal) x g w = B at *
  generalize val_main_v35 (F := Ideal) x g w = C at *
  generalize val_main_v37 (F := Ideal) = D at *
  by_cases h6 : e.val < 6
  · refine (concatenate_apply_piece (t := S16384x128) 1 _ _ (ix2 r e) 2 (by show 2 < 4; omega) S16384x2 C rfl rfl 4 rfl (ix2 r ⟨e.val - 4, by omega⟩) ?_ ?_).trans ((hk _).trans ?_)
    · intro b hb
      match b with
      | ⟨0, _⟩ => rfl
      | ⟨1, _⟩ => exact absurd rfl hb
    · show 4 + (e.val - 4) = e.val; omega
    · rcases (by omega : e.val = 4 ∨ e.val = 5) with he | he <;> simp [he, Fin.ext_iff]
  · rw [if_neg (by omega), if_neg (by omega)]
    refine (concatenate_apply_piece (t := S16384x128) 1 _ _ (ix2 r e) 3 (by show 3 < 4; omega) S16384x122 D rfl rfl 6 rfl (ix2 r ⟨e.val - 6, by omega⟩) ?_ ?_).trans (hz _)
    · intro b hb
      match b with
      | ⟨0, _⟩ => rfl
      | ⟨1, _⟩ => exact absurd rfl hb
    · show 6 + (e.val - 6) = e.val; omega

theorem entryT_apply (r : Fin 16384) (hr : ∀ k, IsReal (logit x g w r k)) (e : Fin 8) :
    val_main_v49 (F := Ideal) x g w (ix2 e r) = entry (logit x g w r) (tally x g w r.val) e.val := by
  have e1 : idx_main_v48 (idx_main_v49 (ix2 e r)) = ix2 r (lane e) := funext fun a => Fin.ext (by match a with | ⟨0, _⟩ => rfl | ⟨1, _⟩ => rfl)
  rw [val_main_v49_apply, val_main_v48_apply, e1]
  exact entry_apply r hr (lane e)

end Cert.Reference4Ideal.Hand

end
-- ==== Proof.Slots.lean ====
/-
  The look-ups in the expert layer's table of blocks, as plain functions of the token counts: where an expert's rows end,
  which expert a block belongs to, how many of its rows hold a token. The kernel's host code, the reference and the mask
  compute the same ones.
-/
module

public import proofs.«01_k».proof.Proof.Gen.KernelIdeal
public import Idealize.ShloMosaic.Lib.ValueIdx
public import Idealize.ShloMosaic.Lib.StableHlo.Predicate
public import proofs.«01_k».proof.Proof.Common

@[expose] public section

set_option maxRecDepth 16384

noncomputable section

namespace Cert.Slots

open Cert.KernelIdeal
open Idealize.ShloMosaic Idealize.ShloMosaic.ValueIdx

/-- A word at every entry. -/
def all8 (v : BitVec 32) : IVec S8 32 := broadcastInDim S8 ![] Facts₀.bcast_S_S8 (constantI S_ 32 v)
def all40 (v : BitVec 32) : IVec S40 32 := broadcastInDim S40 ![] Facts₀.bcast_S_S40 (constantI S_ 32 v)

/-- Division rounding down, on arrays of 8 and of 40 words. -/
def div8 (x : IVec S8 32) (v : BitVec 32) : IVec S8 32 :=
  select (andi (cmpi .ne (signi x) (broadcastInDim S8 ![] Facts₀.bcast_S_S8 (signi (constantI S_ 32 v)))) (cmpi .ne (Host.remsi x (all8 v)) (all8 0#32)))
    (subi (Host.divsi x (all8 v)) (all8 1#32)) (Host.divsi x (all8 v))
def div40 (x : IVec S40 32) (v : BitVec 32) : IVec S40 32 :=
  select (andi (cmpi .ne (signi x) (broadcastInDim S40 ![] Facts₀.bcast_S_S40 (signi (constantI S_ 32 v)))) (cmpi .ne (Host.remsi x (all40 v)) (all40 0#32)))
    (subi (Host.divsi x (all40 v)) (all40 1#32)) (Host.divsi x (all40 v))

/-- Rows an expert is given: its count rounded up to whole blocks. -/
def pad (x : IVec S8 32) : IVec S8 32 := muli (div8 x 1024#32) (all8 1024#32)
/-- Where an expert's rows end, and where they start. -/
def ends (p : IVec S8 32) : IVec S8 32 :=
  Host.reduceWindow IntOp.addi ![8] ![1] ![7] ![0] p (broadcastInDim S_ ![] Facts₀.bcast_S_S_ (constantI S_ 32 0#32)) Facts₀.reduceWindows_S8_S8_w8s1p7_0 Facts₀.h_S_
def starts (p : IVec S8 32) : IVec S8 32 := subi (ends p) p
/-- A block's first row. -/
def first : IVec S40 32 := muli (iotaInDim S40 32 0) (all40 1024#32)
/-- How many experts end at or before a block's first row. -/
def passed (x : IVec S8 32) : IVec S40 32 :=
  Host.reduce IntOp.addi (extui 32 (cmpi .sle (broadcastInDim S40x8 ![0, 1] Facts₀.bcast_S1x8_S40x8_0_1 (broadcastInDim S1x8 ![1] Facts₀.bcast_S8_S1x8_1 x))
    (broadcastInDim S40x8 ![0, 1] Facts₀.bcast_S40x1_S40x8_0_1 (broadcastInDim S40x1 ![0] Facts₀.bcast_S40_S40x1_0 first))) Facts₀.natLt_1_32)
    (constantI S_ 32 0#32) Facts₀.reducesTo_S40x8_S40_d1 Facts₀.h_S_
/-- The expert of a block. -/
def expert (x : IVec S8 32) : IVec S40 32 := minsi (passed x) (all40 7#32)
/-- An index with a negative one counted from the end. -/
def wrap (e : IVec S40 32) : IVec S40 32 := select (cmpi .slt e (all40 0#32)) (addi e (all40 8#32)) e
/-- An array of 8 words read at a block's expert. -/
def atE (x : IVec S8 32) (e : IVec S40 32) : IVec S40 32 :=
  Host.gather gather_S8_S40x1_S40_n_0_n_n_0_1_1 x (broadcastInDim S40x1 ![0] Facts₀.bcast_S40_S40x1_0 (wrap e))
/-- Rows of the block's expert not before the block. -/
def left (cnt s : IVec S8 32) (e : IVec S40 32) : IVec S40 32 := subi (atE cnt e) (subi first (atE s e))
/-- Is the block before the last expert's end? -/
def live (x : IVec S8 32) : IVec S40 1 :=
  cmpi .slt first (broadcastInDim S40 ![] Facts₀.bcast_S_S40 (shapeCast S_ (extractStridedSlice S1 ![7] x Facts₀.slices_S8_S1_7) Facts₀.shapeCasts_S1_S_))
/-- How many halves of the block hold a token, from the rows `r` it has. -/
def halves (b : IVec S40 1) (r : IVec S40 32) : IVec S40 32 :=
  select b (div40 (subi (addi (minsi (all40 1024#32) (maxsi (all40 0#32) r)) (all40 512#32)) (all40 1#32)) 512#32) (all40 0#32)

/-- The counts rounded up, as the host code starts. -/
def base (cnt : IVec S8 32) : IVec S8 32 := pad (subi (addi cnt (all8 1024#32)) (all8 1#32))
/-- The two tables of the kernel. -/
def tabE (cnt : IVec S8 32) : IVec S40 32 := expert (ends (base cnt))
def rowsOf (cnt : IVec S8 32) : IVec S40 32 := left cnt (starts (base cnt)) (tabE cnt)
def tabV (cnt : IVec S8 32) : IVec S40 32 := halves (live (ends (base cnt))) (rowsOf cnt)

/-- Adding 1024 and taking one off is adding 1023. -/
theorem base_eq (cnt : IVec S8 32) : base cnt = pad (addi cnt (all8 1023#32)) := by
  refine congrArg pad (funext fun i => ?_)
  show (cnt i + 1024#32) - 1#32 = cnt i + 1023#32
  rw [BitVec.sub_eq_add_neg, BitVec.add_assoc]; rfl

/-- No more than eight experts end before a block. -/
theorem passed_le (x : IVec S8 32) (b : Fin 40) : (passed x (ix1 b)).toNat ≤ 8 := by
  refine (le_of_eq (Idealize.ShloMosaic.StableHlo.Predicate.toNat_reduce_count_cols (n := 40) (m := 8) (by decide) _ Facts₀.natLt_1_32 Facts₀.reducesTo_S40x8_S40_d1 Facts₀.h_S_ (ix1 b))).trans ?_
  exact (Finset.card_le_univ _).trans (le_of_eq (Fintype.card_fin 8))

/-- A small count keeps its value under the lower clip. -/
theorem small_cases : ∀ n : Fin 9, IntOp.minsi 7#32 (IntOp.maxsi 0#32 (BitVec.ofNat 32 n.val)) = IntOp.minsi (BitVec.ofNat 32 n.val) 7#32
    ∧ (IntOp.minsi (BitVec.ofNat 32 n.val) 7#32).toNat ≤ 7 ∧ (IntOp.minsi (BitVec.ofNat 32 n.val) 7#32).toNat = min n.val 7 := by
  decide +kernel

theorem small (a : BitVec 32) (h : a.toNat ≤ 8) : IntOp.minsi 7#32 (IntOp.maxsi 0#32 a) = IntOp.minsi a 7#32 ∧ (IntOp.minsi a 7#32).toNat ≤ 7 := by
  have e : a = BitVec.ofNat 32 a.toNat := by simp
  have := small_cases ⟨a.toNat, by omega⟩
  rw [show (⟨a.toNat, by omega⟩ : Fin 9).val = a.toNat from rfl, ← e] at this
  exact ⟨this.1, this.2.1⟩

/-- A block's expert is one of the eight. -/
theorem expert_le (x : IVec S8 32) (b : Fin 40) : (expert x (ix1 b)).toNat ≤ 7 := (small _ (passed_le x b)).2

/-- Clipping the count at both ends gives the same expert. -/
theorem clip_eq (x : IVec S8 32) : minsi (all40 7#32) (maxsi (all40 0#32) (passed x)) = expert x := by
  funext i
  obtain ⟨b, rfl⟩ : ∃ b : Fin 40, i = ix1 b := ⟨_, eq_ix1 i⟩
  exact (small _ (passed_le x b)).1

/-- A word's sign, and one word divided by another rounding down. -/
def sg (x : BitVec 32) : BitVec 32 := if x = 0 then 0 else if x.msb then -1 else 1
def div1 (x v : BitVec 32) : BitVec 32 :=
  Scalar.select (IntOp.andi (IntOp.cmpi .ne (sg x) (sg v)) (IntOp.cmpi .ne (IntOp.remsi .host x v) (0#32)))
    (IntOp.subi (IntOp.divsi .host x v) 1#32) (IntOp.divsi .host x v)

/-- The rows of a block that can hold a token: none below, no more than the block has. -/
def held (a : BitVec 32) : BitVec 32 := IntOp.minsi 1024#32 (IntOp.maxsi 0#32 a)

theorem halves_at (b : IVec S40 1) (r : IVec S40 32) (t : Fin 40) :
    halves b r (ix1 t) = Scalar.select (b (ix1 t)) (div1 (IntOp.subi (IntOp.addi (held (r (ix1 t))) 512#32) 1#32) 512#32) 0#32 := rfl

/-- The number of halves, for each number of rows a block can have. -/
theorem div_cases : ∀ n : Fin 1025, (div1 (IntOp.subi (IntOp.addi (BitVec.ofNat 32 n.val) 512#32) 1#32) 512#32).toNat = (n.val + 511) / 512 := by
  decide +kernel

/-- `held` is the number itself between 0 and 1024, and any row below the number is below it. -/
theorem held_spec (a : BitVec 32) : ∃ n : Fin 1025, held a = BitVec.ofNat 32 n.val ∧
    ∀ r : ℕ, r < 1024 → IntOp.cmpi .slt (BitVec.ofNat 32 r) a = 1#1 → r < n.val := by
  have h1024 : (1024#32).toInt = 1024 := by decide
  have h0 : (0#32).toInt = 0 := by decide
  have hl : ∀ x y : BitVec 32, x.slt y = decide (x.toInt < y.toInt) := fun _ _ => rfl
  refine ⟨⟨(min 1024 (max 0 a.toInt)).toNat, by omega⟩, ?_, fun r hr h => ?_⟩
  · show held a = BitVec.ofNat 32 (min 1024 (max 0 a.toInt)).toNat
    unfold held IntOp.minsi IntOp.maxsi
    rw [hl a, h0]
    by_cases hn : a.toInt < 0
    · rw [if_pos (decide_eq_true hn), show (min 1024 (max 0 a.toInt)).toNat = 0 by omega]; rfl
    · have hd : ¬(decide (a.toInt < 0)) = true := by simpa using hn
      simp only [if_neg hd, hl, h1024]
      by_cases hg : 1024 < a.toInt
      · rw [if_pos (decide_eq_true hg), show (min 1024 (max 0 a.toInt)).toNat = 1024 by omega]
      · rw [if_neg (by simpa using hg), show (min 1024 (max 0 a.toInt)).toNat = a.toInt.toNat by omega]
        have ht := a.isLt
        have e : a.toInt.toNat = a.toNat := by
          rw [BitVec.toInt_eq_toNat_cond] at hn ⊢
          split at hn <;> omega
        rw [e]; simp
  · have hs : (BitVec.ofNat 32 r).toInt < a.toInt := by
      by_contra hc
      have : IntOp.cmpi .slt (BitVec.ofNat 32 r) a = 0#1 := by
        show BitVec.ofBool (decide _) = _
        rw [decide_eq_false hc]; rfl
      rw [this] at h; exact absurd h (by decide)
    have hr' : (BitVec.ofNat 32 r).toInt = r := by
      rw [BitVec.toInt_eq_toNat_cond, BitVec.toNat_ofNat, Nat.mod_eq_of_lt (by omega), if_pos (by omega)]
    show r < (min 1024 (max 0 a.toInt)).toNat
    omega

/-- A block with no row before the last end has no half. Otherwise the halves cover each row that holds a token, and there are
    one or two of them as soon as there is such a row. -/
theorem halves_spec (b : IVec S40 1) (a : IVec S40 32) (t : Fin 40) (r : ℕ) (hr : r < 1024) (hb : b (ix1 t) = 1#1)
    (h : IntOp.cmpi .slt (BitVec.ofNat 32 r) (a (ix1 t)) = 1#1) :
    (halves b a (ix1 t) = 1#32 ∧ r < 512) ∨ halves b a (ix1 t) = 2#32 := by
  obtain ⟨n, e, hn⟩ := held_spec (a (ix1 t))
  have hrn := hn r hr h
  have hd := div_cases n
  rw [halves_at, hb, select_one, e]
  have hlt := n.isLt
  by_cases hs : n.val ≤ 512
  · refine Or.inl ⟨BitVec.eq_of_toNat_eq ?_, by omega⟩
    rw [hd]; show _ = 1; omega
  · refine Or.inr (BitVec.eq_of_toNat_eq ?_)
    rw [hd]; show _ = 2; omega

/-- There are never more than two halves. -/
theorem halves_le (b : IVec S40 1) (a : IVec S40 32) (t : Fin 40) : (halves b a (ix1 t)).toNat ≤ 2 := by
  obtain ⟨n, e, -⟩ := held_spec (a (ix1 t))
  have hd := div_cases n
  have hlt := n.isLt
  rw [halves_at, e]
  have two : ∀ x : BitVec 1, x = 1#1 ∨ x = 0#1 := by decide
  rcases two (b (ix1 t)) with h | h
  · rw [h, select_one, hd]; omega
  · rw [h, select_zero]; exact Nat.zero_le _

theorem tabV_le (cnt : IVec S8 32) (t : Fin 40) : (tabV cnt (ix1 t)).toNat ≤ 2 := halves_le _ _ t
theorem tabE_le (cnt : IVec S8 32) (t : Fin 40) : (tabE cnt (ix1 t)).toNat ≤ 7 := expert_le _ t

/-- The tile of the hidden layer a grid point takes, from its place `j` and its block's halves `v`: the last one for a block
    with nothing to do. -/
def tile (v : BitVec 32) (j : ℕ) : ℕ :=
  (Scalar.addi (Scalar.muli (BitVec.ofNat 32 j) (Scalar.minsi v 1#32)) (Scalar.muli 6#32 (Scalar.subi 1#32 (Scalar.minsi v 1#32)))).toNat

theorem tile_le (v : BitVec 32) (j : ℕ) (hv : v.toNat ≤ 2) (hj : j < 7) : tile v j ≤ 6 := by
  have all : ∀ (a : Fin 3) (b : Fin 7), tile (BitVec.ofNat 32 a.val) b.val ≤ 6 := by decide +kernel
  have e : v = BitVec.ofNat 32 v.toNat := by simp
  rw [e]; exact all ⟨v.toNat, by omega⟩ ⟨j, hj⟩

theorem tile_used (v : BitVec 32) (j : ℕ) (hv : v = 1#32 ∨ v = 2#32) (hj : j < 7) : tile v j = j := by
  have all : ∀ b : Fin 7, tile 1#32 b.val = b.val ∧ tile 2#32 b.val = b.val := by decide +kernel
  rcases hv with rfl | rfl
  · exact (all ⟨j, hj⟩).1
  · exact (all ⟨j, hj⟩).2

end Cert.Slots

end
-- ==== Proof.ExpertsCases.lean ====
/-
  The expert kernel, one grid point at a time: what each case of its body leaves in the accumulator and in the output
  block, as terms of the input blocks and of the number of sub-blocks the routing table names.
-/
module

public import proofs.«01_k».proof.Proof.Common
public import proofs.«01_k».proof.Proof.Gen.KernelIdeal.Frame.RunL
public import Idealize.ShloMosaic.Lib.Tactic
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

theorem hz : (![0, 0] : Fin 2 → Nat) = fun _ => 0 := funext fun a => by fin_cases a <;> rfl

/-- The left and right halves of a block of columns, the upper and lower halves of a block of rows, and the upper half of
    the accumulator. -/
abbrev colsL : Rect S1x1x1024x512 := Rect.unit (s := S1x1x1024x512) ![0, 0, 0, 0] S1x1x1024x256.size inb_S1x1x1024x512_S1x1x1024x256_0_0_0_0
abbrev colsR : Rect S1x1x1024x512 := Rect.unit (s := S1x1x1024x512) ![0, 0, 0, 256] S1x1x1024x256.size inb_S1x1x1024x512_S1x1x1024x256_0_0_0_256
abbrev rowsL : Rect S1x1x512x1024 := Rect.unit (s := S1x1x512x1024) ![0, 0, 0, 0] S1x1x256x1024.size inb_S1x1x512x1024_S1x1x256x1024_0_0_0_0
abbrev rowsR : Rect S1x1x512x1024 := Rect.unit (s := S1x1x512x1024) ![0, 0, 256, 0] S1x1x256x1024.size inb_S1x1x512x1024_S1x1x256x1024_0_0_256_0
abbrev upper : Rect S1024x1024 := Rect.unit (s := S1024x1024) ![0, 0] S512x1024.size inb_S1024x1024_S512x1024_0_0

/-- One tile's step on all rows of a block. -/
def stepF (x : Vec F S1024x1024 .bf16) (w1 w3 : Vec F S1x1x1024x512 .f32) (w2 : Vec F S1x1x512x1024 .f32) (acc : Vec F S1024x1024 .f32) :
    Vec F S1024x1024 .f32 :=
  k0_pay2 acc x (k0_pay5 x (View.ld w1 colsL) (View.ld w3 colsL) (View.ld w2 rowsL)) (k0_pay6 x (View.ld w1 colsR))
    (View.ld w3 colsR) (View.ld w2 rowsR)

/-- One tile's step on the upper half of the rows. -/
def stepU (x : Vec F S1024x1024 .bf16) (w1 w3 : Vec F S1x1x1024x512 .f32) (w2 : Vec F S1x1x512x1024 .f32) (acc : Vec F S1024x1024 .f32) :
    Vec F S512x1024 .f32 :=
  k0_pay3 (View.ld acc upper) (View.ld x upper) (k0_pay7 (View.ld x upper) (View.ld w1 colsL) (View.ld w3 colsL) (View.ld w2 rowsL))
    (k0_pay8 (View.ld x upper) (View.ld w1 colsR)) (View.ld w3 colsR) (View.ld w2 rowsR)

/-- The same with the lower half of the rows kept. -/
def stepH (x : Vec F S1024x1024 .bf16) (w1 w3 : Vec F S1x1x1024x512 .f32) (w2 : Vec F S1x1x512x1024 .f32) (acc : Vec F S1024x1024 .f32) :
    Vec F S1024x1024 .f32 :=
  fun y => if h : (y 0).val < 512 then stepU x w1 w3 w2 acc (ix2 ⟨(y 0).val, h⟩ (y 1)) else acc y

/-- The table's entry at a grid point. -/
abbrev tv (c : Dev nD) (i : grid0.Coords) (xt1 : TbBuf0 (F := F) c tbM0_1) : BitVec 32 :=
  tbM0_1.view.readAt (Elt F) (Rect.unit (s := S40) (k0_off1 i) S1.size (k0_off1_inb i)).toLoadRect xt1 (Shape.Idx.first (numel1_S1.symm ▸ Nat.one_pos))

/-- A tile's step as the table's entry `v` directs: all rows, the upper half, or none. -/
def stepV (v : BitVec 32) (x : Vec F S1024x1024 .bf16) (w1 w3 : Vec F S1x1x1024x512 .f32) (w2 : Vec F S1x1x512x1024 .f32)
    (acc : Vec F S1024x1024 .f32) : Vec F S1024x1024 .f32 :=
  if v = 2#32 then stepF x w1 w3 w2 acc else if v = 1#32 then stepH x w1 w3 w2 acc else acc

/-- Storing over the upper half of the rows keeps the lower half. -/
theorem read_upper {sp : Space} (v : View sig .tc sp S1024x1024 .f32) (f : v.ty.Contents (Elt F)) (w : Vec F S512x1024 .f32)
    (L : List (View.Piece (Elt F) S1024x1024 .f32)) (acc : Vec F S1024x1024 .f32) (hL : v.read (Elt F) (v.writes (Elt F) f L) = acc) :
    v.read (Elt F) (v.writes (Elt F) f ((⟨upper, w⟩ : View.Piece (Elt F) S1024x1024 .f32) :: L))
      = fun y => if h : (y 0).val < 512 then w (ix2 ⟨(y 0).val, h⟩ (y 1)) else acc y := by
  funext y
  by_cases h : (y 0).val < 512
  · rw [dif_pos h]
    exact View.read_writes_cons_rows_of_mem v f _ w L y (ix2 ⟨(y 0).val, h⟩ (y 1)) rfl (Nat.zero_add _).symm rfl
  · rw [dif_neg h, ← hL]
    exact View.read_writes_cons_rows_of_not_mem (W := 512) v f _ w L y rfl rfl (.inr (by omega))

variable (c : Dev nD) (i : grid0.Coords) (a4 : Memref sig .tc .vmem S1024x1024 .bf16) (h4 : a4.IsWhole)
  (a5 : Memref sig .tc .vmem S1x1x1024x512 .f32) (h5 : a5.IsWhole) (a6 : Memref sig .tc .vmem S1x1x1024x512 .f32) (h6 : a6.IsWhole)
  (a7 : Memref sig .tc .vmem S1x1x512x1024 .f32) (h7 : a7.IsWhole) (a8 : Memref sig .tc .vmem S1024x1024 .bf16) (h8 : a8.IsWhole)
  (a9 : Memref sig .tc .vmem S1024x1024 .f32) (h9 : a9.IsWhole)
  (x : Vec F S1024x1024 .bf16) (w1 w3 : Vec F S1x1x1024x512 .f32) (w2 : Vec F S1x1x512x1024 .f32)
  (xt0 : TbBuf0 (F := F) c tbM0_0) (xt1 : TbBuf0 (F := F) c tbM0_1) (acc : Vec F S1024x1024 .f32)

theorem sB (hc0 : cond0_0 i) (hc3 : ¬cond0_3 i) (hc1 : cond0_1 i (tv c i xt1)) (hc2 : ¬cond0_2 i (tv c i xt1)) (f : a9.view.ty.Contents (Elt F)) :
    a9.view.read (Elt F) (a9.view.writes (Elt F) f (kernelRun0_B c i a4 h4 a5 h5 a6 h6 a7 h7 a8 h8 a9 h9 hc0 hc3 x w1 w3 w2 xt0 xt1 hc1 hc2).2.1)
      = stepF x w1 w3 w2 k0_pay1 := by
  rw [View.read_writes_eq_canon _ _ _ (View.cover_of_wholeMem (kernelRun0_B c i a4 h4 a5 h5 a6 h6 a7 h7 a8 h8 a9 h9 hc0 hc3 x w1 w3 w2 xt0 xt1 hc1 hc2).2.1 (by sl_whole_mem))]
  unfold kernelRun0_B
  dsimp only
  sl_unfold_words
  rw [View.canon_cons_unit_zero (S := S1024x1024) hz]
  simp only [View.readCov_unit_zero (S := S1024x1024) _ hz]
  unfold stepF
  simp only [View.readAt_eq_ld, h4.read_unread, h5.read_unread, h6.read_unread, h7.read_unread, View.ld_unit_zero (S := S1024x1024) hz]

theorem sC (hc0 : cond0_0 i) (hc3 : ¬cond0_3 i) (hc1 : ¬cond0_1 i (tv c i xt1)) (hc2 : cond0_2 i (tv c i xt1)) (f : a9.view.ty.Contents (Elt F)) :
    a9.view.read (Elt F) (a9.view.writes (Elt F) f (kernelRun0_C c i a4 h4 a5 h5 a6 h6 a7 h7 a8 h8 a9 h9 hc0 hc3 x w1 w3 w2 xt0 xt1 hc1 hc2).2.1)
      = stepH x w1 w3 w2 k0_pay1 := by
  unfold kernelRun0_C
  dsimp only
  sl_unfold_words
  refine (read_upper a9.view f _ _ k0_pay1 ?_).trans ?_
  · rw [View.read_writes_eq_canon _ _ _ (View.cover_of_wholeMem _ (by sl_whole_mem)), View.canon_unit_zero hz]
  · rw [View.readCov_eq_canon_ld _ _ _ (View.cover_of_wholeMem _ (by sl_whole_mem)), View.canon_unit_zero hz]
    unfold stepH stepU
    simp only [View.readAt_eq_ld, h4.read_unread, h5.read_unread, h6.read_unread, h7.read_unread]

theorem sD (hc0 : cond0_0 i) (hc3 : ¬cond0_3 i) (hc1 : ¬cond0_1 i (tv c i xt1)) (hc2 : ¬cond0_2 i (tv c i xt1)) (f : a9.view.ty.Contents (Elt F)) :
    a9.view.read (Elt F) (a9.view.writes (Elt F) f (kernelRun0_D c i a4 h4 a5 h5 a6 h6 a7 h7 a8 h8 a9 h9 hc0 hc3 x w1 w3 w2 xt0 xt1 hc1 hc2).2.1)
      = k0_pay1 := by
  rw [View.read_writes_eq_canon _ _ _ (View.cover_of_wholeMem (kernelRun0_D c i a4 h4 a5 h5 a6 h6 a7 h7 a8 h8 a9 h9 hc0 hc3 x w1 w3 w2 xt0 xt1 hc1 hc2).2.1 (by sl_whole_mem))]
  unfold kernelRun0_D
  dsimp only
  sl_unfold_words
  rw [View.canon_unit_zero hz]

theorem sG (hc0 : ¬cond0_0 i) (hc3 : ¬cond0_3 i) (hc1 : ¬cond0_1 i (tv c i xt1)) (hc2 : cond0_2 i (tv c i xt1)) :
    a9.view.read (Elt F) (a9.view.writes (Elt F) (h9.unread acc) (kernelRun0_G c i a4 h4 a5 h5 a6 h6 a7 h7 a8 h8 a9 h9 hc0 hc3 x w1 w3 w2 xt0 xt1 acc hc1 hc2).2.1)
      = stepH x w1 w3 w2 acc := by
  unfold kernelRun0_G
  dsimp only
  sl_unfold_words
  refine (read_upper a9.view _ _ [] acc (h9.read_unread _)).trans ?_
  unfold stepH stepU
  simp only [View.readAt_eq_ld, h4.read_unread, h5.read_unread, h6.read_unread, h7.read_unread, h9.read_unread]

theorem sF (hc0 : ¬cond0_0 i) (hc3 : ¬cond0_3 i) (hc1 : cond0_1 i (tv c i xt1)) (hc2 : ¬cond0_2 i (tv c i xt1)) (f : a9.view.ty.Contents (Elt F)) :
    a9.view.read (Elt F) (a9.view.writes (Elt F) f (kernelRun0_F c i a4 h4 a5 h5 a6 h6 a7 h7 a8 h8 a9 h9 hc0 hc3 x w1 w3 w2 xt0 xt1 acc hc1 hc2).2.1)
      = stepF x w1 w3 w2 acc := by
  rw [View.read_writes_eq_canon _ _ _ (View.cover_of_wholeMem (kernelRun0_F c i a4 h4 a5 h5 a6 h6 a7 h7 a8 h8 a9 h9 hc0 hc3 x w1 w3 w2 xt0 xt1 acc hc1 hc2).2.1 (by sl_whole_mem))]
  unfold kernelRun0_F
  dsimp only
  sl_unfold_words
  rw [View.canon_unit_zero hz]
  unfold stepF
  simp only [View.readAt_eq_ld, h4.read_unread, h5.read_unread, h6.read_unread, h7.read_unread, h9.read_unread, View.ld_unit_zero (S := S1024x1024) hz]

theorem sJ (hc0 : ¬cond0_0 i) (hc3 : cond0_3 i) (hc1 : cond0_1 i (tv c i xt1)) (hc2 : ¬cond0_2 i (tv c i xt1)) (f : a9.view.ty.Contents (Elt F)) :
    a9.view.read (Elt F) (a9.view.writes (Elt F) f (kernelRun0_J c i a4 h4 a5 h5 a6 h6 a7 h7 a8 h8 a9 h9 hc0 hc3 x w1 w3 w2 xt0 xt1 acc hc1 hc2).2.1)
      = stepF x w1 w3 w2 acc := by
  rw [View.read_writes_eq_canon _ _ _ (View.cover_of_wholeMem (kernelRun0_J c i a4 h4 a5 h5 a6 h6 a7 h7 a8 h8 a9 h9 hc0 hc3 x w1 w3 w2 xt0 xt1 acc hc1 hc2).2.1 (by sl_whole_mem))]
  unfold kernelRun0_J
  dsimp only
  sl_unfold_words
  rw [View.canon_unit_zero hz]
  unfold stepF
  simp only [View.readAt_eq_ld, h4.read_unread, h5.read_unread, h6.read_unread, h7.read_unread, h9.read_unread, View.ld_unit_zero (S := S1024x1024) hz]

theorem sK (hc0 : ¬cond0_0 i) (hc3 : cond0_3 i) (hc1 : ¬cond0_1 i (tv c i xt1)) (hc2 : cond0_2 i (tv c i xt1)) :
    a9.view.read (Elt F) (a9.view.writes (Elt F) (h9.unread acc) (kernelRun0_K c i a4 h4 a5 h5 a6 h6 a7 h7 a8 h8 a9 h9 hc0 hc3 x w1 w3 w2 xt0 xt1 acc hc1 hc2).2.1)
      = stepH x w1 w3 w2 acc := by
  unfold kernelRun0_K
  dsimp only
  sl_unfold_words
  refine (read_upper a9.view _ _ [] acc (h9.read_unread _)).trans ?_
  unfold stepH stepU
  simp only [View.readAt_eq_ld, h4.read_unread, h5.read_unread, h6.read_unread, h7.read_unread, h9.read_unread]

theorem oK (hc0 : ¬cond0_0 i) (hc3 : cond0_3 i) (hc1 : ¬cond0_1 i (tv c i xt1)) (hc2 : cond0_2 i (tv c i xt1)) (f : a8.view.ty.Contents (Elt F)) :
    a8.view.read (Elt F) (a8.view.writes (Elt F) f (kernelRun0_K c i a4 h4 a5 h5 a6 h6 a7 h7 a8 h8 a9 h9 hc0 hc3 x w1 w3 w2 xt0 xt1 acc hc1 hc2).1)
      = k0_pay4 (stepH x w1 w3 w2 acc) := by
  rw [View.read_writes_eq_canon _ _ _ (View.cover_of_tiledL (kernelRun0_K c i a4 h4 a5 h5 a6 h6 a7 h7 a8 h8 a9 h9 hc0 hc3 x w1 w3 w2 xt0 xt1 acc hc1 hc2).1 S1024x1024.size (by sl_kernel_rfl))]
  unfold kernelRun0_K
  dsimp only
  sl_unfold_words
  rw [View.canon_unit_zero hz]
  refine congrArg k0_pay4 (Eq.trans ?_ (sK c i a4 h4 a5 h5 a6 h6 a7 h7 a8 h8 a9 h9 x w1 w3 w2 xt0 xt1 acc hc0 hc3 hc1 hc2))
  rw [View.readAt_eq_ld, View.ld_unit_zero (S := S1024x1024) hz]
  rfl

theorem oJ (hc0 : ¬cond0_0 i) (hc3 : cond0_3 i) (hc1 : cond0_1 i (tv c i xt1)) (hc2 : ¬cond0_2 i (tv c i xt1)) (f : a8.view.ty.Contents (Elt F)) :
    a8.view.read (Elt F) (a8.view.writes (Elt F) f (kernelRun0_J c i a4 h4 a5 h5 a6 h6 a7 h7 a8 h8 a9 h9 hc0 hc3 x w1 w3 w2 xt0 xt1 acc hc1 hc2).1)
      = k0_pay4 (stepF x w1 w3 w2 acc) := by
  rw [View.read_writes_eq_canon _ _ _ (View.cover_of_tiledL (kernelRun0_J c i a4 h4 a5 h5 a6 h6 a7 h7 a8 h8 a9 h9 hc0 hc3 x w1 w3 w2 xt0 xt1 acc hc1 hc2).1 S1024x1024.size (by sl_kernel_rfl))]
  unfold kernelRun0_J
  dsimp only
  sl_unfold_words
  rw [View.canon_unit_zero hz]
  simp only [View.readCov_unit_zero (S := S1024x1024) _ hz]
  unfold stepF
  simp only [View.readAt_eq_ld, h4.read_unread, h5.read_unread, h6.read_unread, h7.read_unread, h9.read_unread, View.ld_unit_zero (S := S1024x1024) hz]

theorem oL (hc0 : ¬cond0_0 i) (hc3 : cond0_3 i) (hc1 : ¬cond0_1 i (tv c i xt1)) (hc2 : ¬cond0_2 i (tv c i xt1)) (f : a8.view.ty.Contents (Elt F)) :
    a8.view.read (Elt F) (a8.view.writes (Elt F) f (kernelRun0_L c i a4 h4 a5 h5 a6 h6 a7 h7 a8 h8 a9 h9 hc0 hc3 x w1 w3 w2 xt0 xt1 acc hc1 hc2).1)
      = k0_pay4 acc := by
  rw [View.read_writes_eq_canon _ _ _ (View.cover_of_tiledL (kernelRun0_L c i a4 h4 a5 h5 a6 h6 a7 h7 a8 h8 a9 h9 hc0 hc3 x w1 w3 w2 xt0 xt1 acc hc1 hc2).1 S1024x1024.size (by sl_kernel_rfl))]
  unfold kernelRun0_L
  dsimp only
  sl_unfold_words
  rw [View.canon_unit_zero hz]
  simp only [View.readAt_eq_ld, h9.read_unread, View.ld_unit_zero (S := S1024x1024) hz]

theorem c1_iff (v : BitVec 32) : cond0_1 i v ↔ v = 2#32 := by
  unfold cond0_1
  by_cases h : v = 2#32
  · subst h; exact ⟨fun _ => rfl, fun _ => by decide⟩
  · refine ⟨fun hc => absurd hc ?_, fun hv => absurd hv h⟩
    rw [show Scalar.cmpi .eq v 2#32 = 0#1 from by simp only [Scalar.cmpi, IntOp.cmpi, beq_eq_false_iff_ne.mpr h]; rfl]
    decide

theorem c2_iff (v : BitVec 32) : cond0_2 i v ↔ v = 1#32 := by
  unfold cond0_2
  by_cases h : v = 1#32
  · subst h; exact ⟨fun _ => rfl, fun _ => by decide⟩
  · refine ⟨fun hc => absurd hc ?_, fun hv => absurd hv h⟩
    rw [show Scalar.cmpi .eq v 1#32 = 0#1 from by simp only [Scalar.cmpi, IntOp.cmpi, beq_eq_false_iff_ne.mpr h]; rfl]
    decide

end Cert.KernelIdeal.Hand

end
-- ==== Proof.ExpertsBody.lean ====
/-
  The expert kernel's body at one grid point, as a statement about what it owns before and after: at a block's first tile,
  at its middle tiles and at its last one.
-/
module

public import proofs.«01_k».proof.Proof.ExpertsCases
public import Idealize.ShloMosaic.Lib.Tactic
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (c : Dev nD) (i : grid0.Coords) (a4 : Memref sig .tc .vmem S1024x1024 .bf16) (h4 : a4.IsWhole)
  (a5 : Memref sig .tc .vmem S1x1x1024x512 .f32) (h5 : a5.IsWhole) (a6 : Memref sig .tc .vmem S1x1x1024x512 .f32) (h6 : a6.IsWhole)
  (a7 : Memref sig .tc .vmem S1x1x512x1024 .f32) (h7 : a7.IsWhole) (a8 : Memref sig .tc .vmem S1024x1024 .bf16) (h8 : a8.IsWhole)
  (a9 : Memref sig .tc .vmem S1024x1024 .f32) (h9 : a9.IsWhole)
  (x : Vec F S1024x1024 .bf16) (w1 w3 : Vec F S1x1x1024x512 .f32) (w2 : Vec F S1x1x512x1024 .f32)
  (xt0 : TbBuf0 (F := F) c tbM0_0) (xt1 : TbBuf0 (F := F) c tbM0_1) (acc : Vec F S1024x1024 .f32)

theorem two_ne_one {v : BitVec 32} (h : v = 2#32) : ¬cond0_2 i v := fun hc => by
  rw [c2_iff] at hc; rw [h] at hc; exact absurd hc (by decide)

/-- At a block's first tile: the accumulator, whatever it held, ends at the first tile's step over zeros. -/
theorem body_first (hc0 : cond0_0 i) (hc3 : ¬cond0_3 i) (xi : Vec F S1024x1024 .bf16) (E : Set ℕ) (K : PUnit → sProp 𝕄) :
    iprop(owns (c : Thread nD τ) a4 fullShare x ∗ owns (c : Thread nD τ) a5 fullShare w1 ∗ owns (c : Thread nD τ) a6 fullShare w3 ∗ owns (c : Thread nD τ) a7 fullShare w2 ∗ owns (c : Thread nD τ) a8 fullShare xi ∗ (∃ d, owns (c : Thread nD τ) a9 fullShare d) ∗ tbPt0 c tbM0_0 xt0 ∗ tbPt0 c tbM0_1 xt1
        ∗ (iprop(owns (c : Thread nD τ) a4 fullShare x ∗ owns (c : Thread nD τ) a5 fullShare w1 ∗ owns (c : Thread nD τ) a6 fullShare w3 ∗ owns (c : Thread nD τ) a7 fullShare w2 ∗ owns (c : Thread nD τ) a8 fullShare xi ∗ owns (c : Thread nD τ) a9 fullShare (stepV (tv c i xt1) x w1 w3 w2 k0_pay1) ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 a4 h4 a5 h5 a6 h6 a7 h7 a8 h8 a9 h9) K := by
  by_cases e2 : tv c i xt1 = 2#32
  · have hc1 : cond0_1 i (tv c i xt1) := (c1_iff i _).mpr e2
    have hc2 : ¬cond0_2 i (tv c i xt1) := two_ne_one i e2
    rw [show stepV (tv c i xt1) x w1 w3 w2 k0_pay1 = stepF x w1 w3 w2 k0_pay1 from if_pos e2]
    iintro ⟨H0, H1, H2, H3, H4, HS0, HT0, HT1, Hk⟩
    iapply ((kernelRun0_B c i a4 h4 a5 h5 a6 h6 a7 h7 a8 h8 a9 h9 hc0 hc3 x w1 w3 w2 xt0 xt1 hc1 hc2).2.2 xi E K)
    isplitl [H0]; · iexact H0
    isplitl [H1]; · iexact H1
    isplitl [H2]; · iexact H2
    isplitl [H3]; · iexact H3
    isplitl [H4]; · iexact H4
    isplitl [HS0]; · iexact HS0
    isplitl [HT0]; · iexact HT0
    isplitl [HT1]; · iexact HT1
    iintro ⟨H0, H1, H2, H3, H4, ⟨%es, HS0⟩, HT0, HT1⟩
    iapply Hk
    isplitl [H0]; · iexact H0
    isplitl [H1]; · iexact H1
    isplitl [H2]; · iexact H2
    isplitl [H3]; · iexact H3
    isplitl [H4]; · iexact H4
    isplitl [HS0]
    · unfold owns; iexists _; isplitr
      swap; · iexact HS0
      ipureintro; exact sB c i a4 h4 a5 h5 a6 h6 a7 h7 a8 h8 a9 h9 x w1 w3 w2 xt0 xt1 hc0 hc3 hc1 hc2 _
    isplitl [HT0]; · iexact HT0
    iexact HT1
  have hc1 : ¬cond0_1 i (tv c i xt1) := fun h => e2 ((c1_iff i _).mp h)
  by_cases e1 : tv c i xt1 = 1#32
  · have hc2 : cond0_2 i (tv c i xt1) := (c2_iff i _).mpr e1
    rw [show stepV (tv c i xt1) x w1 w3 w2 k0_pay1 = stepH x w1 w3 w2 k0_pay1 from (if_neg e2).trans (if_pos e1)]
    iintro ⟨H0, H1, H2, H3, H4, HS0, HT0, HT1, Hk⟩
    iapply ((kernelRun0_C c i a4 h4 a5 h5 a6 h6 a7 h7 a8 h8 a9 h9 hc0 hc3 x w1 w3 w2 xt0 xt1 hc1 hc2).2.2 xi E K)
    isplitl [H0]; · iexact H0
    isplitl [H1]; · iexact H1
    isplitl [H2]; · iexact H2
    isplitl [H3]; · iexact H3
    isplitl [H4]; · iexact H4
    isplitl [HS0]; · iexact HS0
    isplitl [HT0]; · iexact HT0
    isplitl [HT1]; · iexact HT1
    iintro ⟨H0, H1, H2, H3, H4, ⟨%es, HS0⟩, HT0, HT1⟩
    iapply Hk
    isplitl [H0]; · iexact H0
    isplitl [H1]; · iexact H1
    isplitl [H2]; · iexact H2
    isplitl [H3]; · iexact H3
    isplitl [H4]; · iexact H4
    isplitl [HS0]
    · unfold owns; iexists _; isplitr
      swap; · iexact HS0
      ipureintro; exact sC c i a4 h4 a5 h5 a6 h6 a7 h7 a8 h8 a9 h9 x w1 w3 w2 xt0 xt1 hc0 hc3 hc1 hc2 _
    isplitl [HT0]; · iexact HT0
    iexact HT1
  · have hc2 : ¬cond0_2 i (tv c i xt1) := fun h => e1 ((c2_iff i _).mp h)
    rw [show stepV (tv c i xt1) x w1 w3 w2 k0_pay1 = k0_pay1 from (if_neg e2).trans (if_neg e1)]
    iintro ⟨H0, H1, H2, H3, H4, HS0, HT0, HT1, Hk⟩
    iapply ((kernelRun0_D c i a4 h4 a5 h5 a6 h6 a7 h7 a8 h8 a9 h9 hc0 hc3 x w1 w3 w2 xt0 xt1 hc1 hc2).2.2 xi E K)
    isplitl [H0]; · iexact H0
    isplitl [H1]; · iexact H1
    isplitl [H2]; · iexact H2
    isplitl [H3]; · iexact H3
    isplitl [H4]; · iexact H4
    isplitl [HS0]; · iexact HS0
    isplitl [HT0]; · iexact HT0
    isplitl [HT1]; · iexact HT1
    iintro ⟨H0, H1, H2, H3, H4, ⟨%es, HS0⟩, HT0, HT1⟩
    iapply Hk
    isplitl [H0]; · iexact H0
    isplitl [H1]; · iexact H1
    isplitl [H2]; · iexact H2
    isplitl [H3]; · iexact H3
    isplitl [H4]; · iexact H4
    isplitl [HS0]
    · unfold owns; iexists _; isplitr
      swap; · iexact HS0
      ipureintro; exact sD c i a4 h4 a5 h5 a6 h6 a7 h7 a8 h8 a9 h9 x w1 w3 w2 xt0 xt1 hc0 hc3 hc1 hc2 _
    isplitl [HT0]; · iexact HT0
    iexact HT1

/-- At a block's middle tiles: the accumulator takes one step. -/
theorem body_mid (hc0 : ¬cond0_0 i) (hc3 : ¬cond0_3 i) (xi : Vec F S1024x1024 .bf16) (E : Set ℕ) (K : PUnit → sProp 𝕄) :
    iprop(owns (c : Thread nD τ) a4 fullShare x ∗ owns (c : Thread nD τ) a5 fullShare w1 ∗ owns (c : Thread nD τ) a6 fullShare w3 ∗ owns (c : Thread nD τ) a7 fullShare w2 ∗ owns (c : Thread nD τ) a8 fullShare xi ∗ owns (c : Thread nD τ) a9 fullShare acc ∗ tbPt0 c tbM0_0 xt0 ∗ tbPt0 c tbM0_1 xt1
        ∗ (iprop(owns (c : Thread nD τ) a4 fullShare x ∗ owns (c : Thread nD τ) a5 fullShare w1 ∗ owns (c : Thread nD τ) a6 fullShare w3 ∗ owns (c : Thread nD τ) a7 fullShare w2 ∗ owns (c : Thread nD τ) a8 fullShare xi ∗ owns (c : Thread nD τ) a9 fullShare (stepV (tv c i xt1) x w1 w3 w2 acc) ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 a4 h4 a5 h5 a6 h6 a7 h7 a8 h8 a9 h9) K := by
  by_cases e2 : tv c i xt1 = 2#32
  · have hc1 : cond0_1 i (tv c i xt1) := (c1_iff i _).mpr e2
    have hc2 : ¬cond0_2 i (tv c i xt1) := two_ne_one i e2
    rw [show stepV (tv c i xt1) x w1 w3 w2 acc = stepF x w1 w3 w2 acc from if_pos e2]
    iintro ⟨H0, H1, H2, H3, H4, HS0, HT0, HT1, Hk⟩
    iapply ((kernelRun0_F c i a4 h4 a5 h5 a6 h6 a7 h7 a8 h8 a9 h9 hc0 hc3 x w1 w3 w2 xt0 xt1 acc hc1 hc2).2.2 xi E K)
    isplitl [H0]; · iexact H0
    isplitl [H1]; · iexact H1
    isplitl [H2]; · iexact H2
    isplitl [H3]; · iexact H3
    isplitl [H4]; · iexact H4
    isplitl [HS0]; · iexact HS0
    isplitl [HT0]; · iexact HT0
    isplitl [HT1]; · iexact HT1
    iintro ⟨H0, H1, H2, H3, H4, ⟨%es, HS0⟩, HT0, HT1⟩
    iapply Hk
    isplitl [H0]; · iexact H0
    isplitl [H1]; · iexact H1
    isplitl [H2]; · iexact H2
    isplitl [H3]; · iexact H3
    isplitl [H4]; · iexact H4
    isplitl [HS0]
    · unfold owns; iexists _; isplitr
      swap; · iexact HS0
      ipureintro; exact sF c i a4 h4 a5 h5 a6 h6 a7 h7 a8 h8 a9 h9 x w1 w3 w2 xt0 xt1 acc hc0 hc3 hc1 hc2 _
    isplitl [HT0]; · iexact HT0
    iexact HT1
  have hc1 : ¬cond0_1 i (tv c i xt1) := fun h => e2 ((c1_iff i _).mp h)
  by_cases e1 : tv c i xt1 = 1#32
  · have hc2 : cond0_2 i (tv c i xt1) := (c2_iff i _).mpr e1
    rw [show stepV (tv c i xt1) x w1 w3 w2 acc = stepH x w1 w3 w2 acc from (if_neg e2).trans (if_pos e1)]
    iintro ⟨H0, H1, H2, H3, H4, HS0, HT0, HT1, Hk⟩
    iapply ((kernelRun0_G c i a4 h4 a5 h5 a6 h6 a7 h7 a8 h8 a9 h9 hc0 hc3 x w1 w3 w2 xt0 xt1 acc hc1 hc2).2.2 xi E K)
    isplitl [H0]; · iexact H0
    isplitl [H1]; · iexact H1
    isplitl [H2]; · iexact H2
    isplitl [H3]; · iexact H3
    isplitl [H4]; · iexact H4
    isplitl [HS0]; · iexact HS0
    isplitl [HT0]; · iexact HT0
    isplitl [HT1]; · iexact HT1
    iintro ⟨H0, H1, H2, H3, H4, HS0, HT0, HT1⟩
    iapply Hk
    isplitl [H0]; · iexact H0
    isplitl [H1]; · iexact H1
    isplitl [H2]; · iexact H2
    isplitl [H3]; · iexact H3
    isplitl [H4]; · iexact H4
    isplitl [HS0]
    · unfold owns; iexists _; isplitr
      swap; · iexact HS0
      ipureintro; exact sG c i a4 h4 a5 h5 a6 h6 a7 h7 a8 h8 a9 h9 x w1 w3 w2 xt0 xt1 acc hc0 hc3 hc1 hc2
    isplitl [HT0]; · iexact HT0
    iexact HT1
  · have hc2 : ¬cond0_2 i (tv c i xt1) := fun h => e1 ((c2_iff i _).mp h)
    rw [show stepV (tv c i xt1) x w1 w3 w2 acc = acc from (if_neg e2).trans (if_neg e1)]
    iintro ⟨H0, H1, H2, H3, H4, HS0, HT0, HT1, Hk⟩
    iapply ((kernelRun0_H c i a4 h4 a5 h5 a6 h6 a7 h7 a8 h8 a9 h9 hc0 hc3 x w1 w3 w2 xt0 xt1 acc hc1 hc2).2.2 xi E K)
    isplitl [H0]; · iexact H0
    isplitl [H1]; · iexact H1
    isplitl [H2]; · iexact H2
    isplitl [H3]; · iexact H3
    isplitl [H4]; · iexact H4
    isplitl [HS0]; · iexact HS0
    isplitl [HT0]; · iexact HT0
    isplitl [HT1]; · iexact HT1
    iintro ⟨H0, H1, H2, H3, H4, HS0, HT0, HT1⟩
    iapply Hk
    isplitl [H0]; · iexact H0
    isplitl [H1]; · iexact H1
    isplitl [H2]; · iexact H2
    isplitl [H3]; · iexact H3
    isplitl [H4]; · iexact H4
    isplitl [HS0]; · iexact HS0
    isplitl [HT0]; · iexact HT0
    iexact HT1

/-- At a block's last tile: the accumulator takes the last step and the output block is the accumulator in the output's format. -/
theorem body_last (hc0 : ¬cond0_0 i) (hc3 : cond0_3 i) (E : Set ℕ) (K : PUnit → sProp 𝕄) :
    iprop(owns (c : Thread nD τ) a4 fullShare x ∗ owns (c : Thread nD τ) a5 fullShare w1 ∗ owns (c : Thread nD τ) a6 fullShare w3 ∗ owns (c : Thread nD τ) a7 fullShare w2 ∗ (∃ d, owns (c : Thread nD τ) a8 fullShare d) ∗ owns (c : Thread nD τ) a9 fullShare acc ∗ tbPt0 c tbM0_0 xt0 ∗ tbPt0 c tbM0_1 xt1
        ∗ (iprop(owns (c : Thread nD τ) a4 fullShare x ∗ owns (c : Thread nD τ) a5 fullShare w1 ∗ owns (c : Thread nD τ) a6 fullShare w3 ∗ owns (c : Thread nD τ) a7 fullShare w2 ∗ owns (c : Thread nD τ) a8 fullShare (k0_pay4 (stepV (tv c i xt1) x w1 w3 w2 acc)) ∗ owns (c : Thread nD τ) a9 fullShare (stepV (tv c i xt1) x w1 w3 w2 acc) ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 a4 h4 a5 h5 a6 h6 a7 h7 a8 h8 a9 h9) K := by
  by_cases e2 : tv c i xt1 = 2#32
  · have hc1 : cond0_1 i (tv c i xt1) := (c1_iff i _).mpr e2
    have hc2 : ¬cond0_2 i (tv c i xt1) := two_ne_one i e2
    rw [show stepV (tv c i xt1) x w1 w3 w2 acc = stepF x w1 w3 w2 acc from if_pos e2]
    iintro ⟨H0, H1, H2, H3, H4, HS0, HT0, HT1, Hk⟩
    iapply ((kernelRun0_J c i a4 h4 a5 h5 a6 h6 a7 h7 a8 h8 a9 h9 hc0 hc3 x w1 w3 w2 xt0 xt1 acc hc1 hc2).2.2 E K)
    isplitl [H0]; · iexact H0
    isplitl [H1]; · iexact H1
    isplitl [H2]; · iexact H2
    isplitl [H3]; · iexact H3
    isplitl [H4]; · iexact H4
    isplitl [HS0]; · iexact HS0
    isplitl [HT0]; · iexact HT0
    isplitl [HT1]; · iexact HT1
    iintro ⟨H0, H1, H2, H3, ⟨%e4, H4⟩, ⟨%es, HS0⟩, HT0, HT1⟩
    iapply Hk
    isplitl [H0]; · iexact H0
    isplitl [H1]; · iexact H1
    isplitl [H2]; · iexact H2
    isplitl [H3]; · iexact H3
    isplitl [H4]
    · unfold owns; iexists _; isplitr
      swap; · iexact H4
      ipureintro; exact oJ c i a4 h4 a5 h5 a6 h6 a7 h7 a8 h8 a9 h9 x w1 w3 w2 xt0 xt1 acc hc0 hc3 hc1 hc2 _
    isplitl [HS0]
    · unfold owns; iexists _; isplitr
      swap; · iexact HS0
      ipureintro; exact sJ c i a4 h4 a5 h5 a6 h6 a7 h7 a8 h8 a9 h9 x w1 w3 w2 xt0 xt1 acc hc0 hc3 hc1 hc2 _
    isplitl [HT0]; · iexact HT0
    iexact HT1
  have hc1 : ¬cond0_1 i (tv c i xt1) := fun h => e2 ((c1_iff i _).mp h)
  by_cases e1 : tv c i xt1 = 1#32
  · have hc2 : cond0_2 i (tv c i xt1) := (c2_iff i _).mpr e1
    rw [show stepV (tv c i xt1) x w1 w3 w2 acc = stepH x w1 w3 w2 acc from (if_neg e2).trans (if_pos e1)]
    iintro ⟨H0, H1, H2, H3, H4, HS0, HT0, HT1, Hk⟩
    iapply ((kernelRun0_K c i a4 h4 a5 h5 a6 h6 a7 h7 a8 h8 a9 h9 hc0 hc3 x w1 w3 w2 xt0 xt1 acc hc1 hc2).2.2 E K)
    isplitl [H0]; · iexact H0
    isplitl [H1]; · iexact H1
    isplitl [H2]; · iexact H2
    isplitl [H3]; · iexact H3
    isplitl [H4]; · iexact H4
    isplitl [HS0]; · iexact HS0
    isplitl [HT0]; · iexact HT0
    isplitl [HT1]; · iexact HT1
    iintro ⟨H0, H1, H2, H3, ⟨%e4, H4⟩, HS0, HT0, HT1⟩
    iapply Hk
    isplitl [H0]; · iexact H0
    isplitl [H1]; · iexact H1
    isplitl [H2]; · iexact H2
    isplitl [H3]; · iexact H3
    isplitl [H4]
    · unfold owns; iexists _; isplitr
      swap; · iexact H4
      ipureintro; exact oK c i a4 h4 a5 h5 a6 h6 a7 h7 a8 h8 a9 h9 x w1 w3 w2 xt0 xt1 acc hc0 hc3 hc1 hc2 _
    isplitl [HS0]
    · unfold owns; iexists _; isplitr
      swap; · iexact HS0
      ipureintro; exact sK c i a4 h4 a5 h5 a6 h6 a7 h7 a8 h8 a9 h9 x w1 w3 w2 xt0 xt1 acc hc0 hc3 hc1 hc2
    isplitl [HT0]; · iexact HT0
    iexact HT1
  · have hc2 : ¬cond0_2 i (tv c i xt1) := fun h => e1 ((c2_iff i _).mp h)
    rw [show stepV (tv c i xt1) x w1 w3 w2 acc = acc from (if_neg e2).trans (if_neg e1)]
    iintro ⟨H0, H1, H2, H3, H4, HS0, HT0, HT1, Hk⟩
    iapply ((kernelRun0_L c i a4 h4 a5 h5 a6 h6 a7 h7 a8 h8 a9 h9 hc0 hc3 x w1 w3 w2 xt0 xt1 acc hc1 hc2).2.2 E K)
    isplitl [H0]; · iexact H0
    isplitl [H1]; · iexact H1
    isplitl [H2]; · iexact H2
    isplitl [H3]; · iexact H3
    isplitl [H4]; · iexact H4
    isplitl [HS0]; · iexact HS0
    isplitl [HT0]; · iexact HT0
    isplitl [HT1]; · iexact HT1
    iintro ⟨H0, H1, H2, H3, ⟨%e4, H4⟩, HS0, HT0, HT1⟩
    iapply Hk
    isplitl [H0]; · iexact H0
    isplitl [H1]; · iexact H1
    isplitl [H2]; · iexact H2
    isplitl [H3]; · iexact H3
    isplitl [H4]
    · unfold owns; iexists _; isplitr
      swap; · iexact H4
      ipureintro; exact oL c i a4 h4 a5 h5 a6 h6 a7 h7 a8 h8 a9 h9 x w1 w3 w2 xt0 xt1 acc hc0 hc3 hc1 hc2 _
    isplitl [HS0]; · iexact HS0
    isplitl [HT0]; · iexact HT0
    iexact HT1

end Cert.KernelIdeal.Hand

end
-- ==== Proof.ExpertsFrame.lean ====
/-
  The expert kernel's run: what the accumulator holds after each grid point, the pipeline's proof data over it, and the
  run of the whole program with the argument arrays kept and every counter back at zero.
-/
module

public import proofs.«01_k».proof.Proof.ExpertsBody
public import Idealize.ShloMosaic.Lib.Claim
public import Idealize.ShloMosaic.Lib.Tactic
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One grid point's step on the accumulator. -/
def pstep (hO : Ok m) (c : Dev nD) (t : Fin (cfgM m hO).N) (acc : Vec F S1024x1024 .f32) : Vec F S1024x1024 .f32 :=
  stepV (tv c (grid0.coords t) (tbl m 1)) (iblk m hO c 0 t) (iblk m hO c 1 t) (iblk m hO c 2 t) (iblk m hO c 3 t) acc

/-- The accumulator after grid point `n`. -/
def accAt (hO : Ok m) (c : Dev nD) : (n : ℕ) → n < (cfgM m hO).N → Vec F S1024x1024 .f32
  | 0, hn => pstep m hO c ⟨0, hn⟩ k0_pay1
  | n + 1, hn => pstep m hO c ⟨n + 1, hn⟩ (if (n + 1) % 7 = 0 then k0_pay1 else accAt hO c n (Nat.lt_of_succ_lt hn))

theorem accAt_first (hO : Ok m) (c : Dev nD) (t : Fin (cfgM m hO).N) (h0 : t.val % 7 = 0) :
    accAt m hO c t.val t.isLt = pstep m hO c t k0_pay1 := by
  obtain ⟨n, hn⟩ := t
  cases n with
  | zero => rfl
  | succ n => exact congrArg (pstep m hO c _) (if_pos h0)

theorem accAt_next (hO : Ok m) (c : Dev nD) (t : Fin (cfgM m hO).N) (h0 : ¬t.val % 7 = 0) :
    accAt m hO c t.val t.isLt = pstep m hO c t (accAt m hO c (t.val - 1) (Nat.lt_of_le_of_lt (Nat.sub_le _ _) t.isLt)) := by
  obtain ⟨n, hn⟩ := t
  cases n with
  | zero => exact absurd (Nat.zero_mod _) h0
  | succ n => exact congrArg (pstep m hO c _) (if_neg h0)

/-- The invariant before position `n`: nothing known of the accumulator at the start, afterwards what the point before left. -/
def Inv (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(owns (c : Thread nD τ) scM0_0 fullShare (accAt m hO c n hn) ∗ (∃ r, prngReg c r)) ∗ Pipeline.ΦT pre0 (tbl m) c)

theorem Inv_zero (hO : Ok m) (c : Dev nD) (n : ℕ) (h : n ≤ (cfgM m hO).N) (hn : n = 0) :
    Inv m hO c n h = iprop(Pipeline.ΦA spec0 c ∗ Pipeline.ΦT pre0 (tbl m) c) := by
  subst hn; rfl

theorem Inv_succ (hO : Ok m) (c : Dev nD) (n : ℕ) (hn : n < (cfgM m hO).N) :
    Inv m hO c (n + 1) hn
      = iprop(iprop(owns (c : Thread nD τ) scM0_0 fullShare (accAt m hO c n hn) ∗ (∃ r, prngReg c r)) ∗ Pipeline.ΦT pre0 (tbl m) c) := rfl

theorem Inv_pos (hO : Ok m) (c : Dev nD) (n : ℕ) (h : n ≤ (cfgM m hO).N) (hn : n ≠ 0) :
    Inv m hO c n h
      = iprop(iprop(owns (c : Thread nD τ) scM0_0 fullShare (accAt m hO c (n - 1) (by omega)) ∗ (∃ r, prngReg c r)) ∗ Pipeline.ΦT pre0 (tbl m) c) := by
  cases n with
  | zero => exact absurd rfl hn
  | succ n => rfl

/-- The proof data: each input's buffer keeps its block, the output's holds the accumulator in its format. -/
def pdat (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => k0_pay4 (accAt m hO c t.val t.isLt)
  Φ t := Inv m hO c t.val (Nat.le_of_lt_succ t.isLt)
  q _ := fullShare
  owed _ := 0

theorem pdat_A (hO : Ok m) (c : Dev nD) (w : Fin (cfgM m hO).W) : (pdat m hO 0 c).A w = V m c (Pipeline.arrRef spec0 w) := by
  dsimp only [pdat]

theorem pdat_Φ (hO : Ok m) (c : Dev nD) (t : Fin (cfgM m hO).N) :
    (pdat m hO 0 c).Φ t.castSucc = Inv m hO c t.val (Nat.le_of_lt t.isLt) := by
  dsimp only [pdat]; exact Pipeline.Dat.Φ_castSucc (Inv m hO c) t

theorem af0 (hO : Ok m) (c : Dev nD) (t : Fin (cfgM m hO).N) : (pdat m hO 0 c).after 0 t = iblk m hO c 0 t := by dsimp only [pdat]; try rfl
theorem af1 (hO : Ok m) (c : Dev nD) (t : Fin (cfgM m hO).N) : (pdat m hO 0 c).after 1 t = iblk m hO c 1 t := by dsimp only [pdat]; try rfl
theorem af2 (hO : Ok m) (c : Dev nD) (t : Fin (cfgM m hO).N) : (pdat m hO 0 c).after 2 t = iblk m hO c 2 t := by dsimp only [pdat]; try rfl
theorem af3 (hO : Ok m) (c : Dev nD) (t : Fin (cfgM m hO).N) : (pdat m hO 0 c).after 3 t = iblk m hO c 3 t := by dsimp only [pdat]; try rfl
theorem af4 (hO : Ok m) (c : Dev nD) (t : Fin (cfgM m hO).N) : (pdat m hO 0 c).after 4 t = k0_pay4 (accAt m hO c t.val t.isLt) := by dsimp only [pdat]; try rfl

theorem be0 (hO : Ok m) (c : Dev nD) (t : Fin (cfgM m hO).N) (d) : (pdat m hO 0 c).before 0 t d = iblk m hO c 0 t :=
  before0_0_of m hO (pdat m hO 0 c) (pdat_A m hO c 0) (af0 m hO c) t d
theorem be1 (hO : Ok m) (c : Dev nD) (t : Fin (cfgM m hO).N) (d) : (pdat m hO 0 c).before 1 t d = iblk m hO c 1 t :=
  before0_1_of m hO (pdat m hO 0 c) (pdat_A m hO c 1) (af1 m hO c) t d
theorem be2 (hO : Ok m) (c : Dev nD) (t : Fin (cfgM m hO).N) (d) : (pdat m hO 0 c).before 2 t d = iblk m hO c 2 t :=
  before0_2_of m hO (pdat m hO 0 c) (pdat_A m hO c 2) (af2 m hO c) t d
theorem be3 (hO : Ok m) (c : Dev nD) (t : Fin (cfgM m hO).N) (d) : (pdat m hO 0 c).before 3 t d = iblk m hO c 3 t :=
  before0_3_of m hO (pdat m hO 0 c) (pdat_A m hO c 3) (af3 m hO c) t d

/-- What the body is called with at point `t`, window by window, and what it returns. -/
def bPre (hO : Ok m) (c : Dev nD) (t : Fin (cfgM m hO).N) : sProp 𝕄 :=
  iprop((pdat m hO 0 c).Φ t.castSucc ∗ (pdat m hO 0 c).owesAt () t.castSucc
    ∗ (∃ d, owns (c : Thread nD τ) (ms0_0 m hO t) fullShare ((pdat m hO 0 c).before 0 t d))
    ∗ (∃ d, owns (c : Thread nD τ) (ms0_1 m hO t) fullShare ((pdat m hO 0 c).before 1 t d))
    ∗ (∃ d, owns (c : Thread nD τ) (ms0_2 m hO t) fullShare ((pdat m hO 0 c).before 2 t d))
    ∗ (∃ d, owns (c : Thread nD τ) (ms0_3 m hO t) fullShare ((pdat m hO 0 c).before 3 t d))
    ∗ (∃ d, owns (c : Thread nD τ) (ms0_4 m hO t) fullShare ((pdat m hO 0 c).before 4 t d)))

def bPost (hO : Ok m) (c : Dev nD) (t : Fin (cfgM m hO).N) : sProp 𝕄 :=
  iprop((pdat m hO 0 c).Φ t.succ ∗ (pdat m hO 0 c).owesAt () t.succ
    ∗ (pdat m hO 0 c).leavesExact 0 t
    ∗ (pdat m hO 0 c).leavesExact 1 t
    ∗ (pdat m hO 0 c).leavesExact 2 t
    ∗ (pdat m hO 0 c).leavesExact 3 t
    ∗ (pdat m hO 0 c).leavesExact 4 t)

theorem lv0 (hO : Ok m) (c : Dev nD) (t : Fin (cfgM m hO).N) :
    (pdat m hO 0 c).leavesExact 0 t = owns (c : Thread nD τ) (ms0_0 m hO t) fullShare (iblk m hO c 0 t) :=
  (show (pdat m hO 0 c).leavesExact 0 t = owns (c : Thread nD τ) (ms0_0 m hO t) fullShare ((pdat m hO 0 c).after 0 t) from by
    unfold Dat.leavesExact; rw [liveAt0_0 m hO t]; try rfl).trans (by rw [af0])
theorem lv1 (hO : Ok m) (c : Dev nD) (t : Fin (cfgM m hO).N) :
    (pdat m hO 0 c).leavesExact 1 t = owns (c : Thread nD τ) (ms0_1 m hO t) fullShare (iblk m hO c 1 t) :=
  (show (pdat m hO 0 c).leavesExact 1 t = owns (c : Thread nD τ) (ms0_1 m hO t) fullShare ((pdat m hO 0 c).after 1 t) from by
    unfold Dat.leavesExact; rw [liveAt0_1 m hO t]; try rfl).trans (by rw [af1])
theorem lv2 (hO : Ok m) (c : Dev nD) (t : Fin (cfgM m hO).N) :
    (pdat m hO 0 c).leavesExact 2 t = owns (c : Thread nD τ) (ms0_2 m hO t) fullShare (iblk m hO c 2 t) :=
  (show (pdat m hO 0 c).leavesExact 2 t = owns (c : Thread nD τ) (ms0_2 m hO t) fullShare ((pdat m hO 0 c).after 2 t) from by
    unfold Dat.leavesExact; rw [liveAt0_2 m hO t]; try rfl).trans (by rw [af2])
theorem lv3 (hO : Ok m) (c : Dev nD) (t : Fin (cfgM m hO).N) :
    (pdat m hO 0 c).leavesExact 3 t = owns (c : Thread nD τ) (ms0_3 m hO t) fullShare (iblk m hO c 3 t) :=
  (show (pdat m hO 0 c).leavesExact 3 t = owns (c : Thread nD τ) (ms0_3 m hO t) fullShare ((pdat m hO 0 c).after 3 t) from by
    unfold Dat.leavesExact; rw [liveAt0_3 m hO t]; try rfl).trans (by rw [af3])
theorem lv4 (hO : Ok m) (c : Dev nD) (t : Fin (cfgM m hO).N) (h0 : ¬cond0_0 (grid0.coords t)) (h3 : cond0_3 (grid0.coords t)) :
    (pdat m hO 0 c).leavesExact 4 t = owns (c : Thread nD τ) (ms0_4 m hO t) fullShare (k0_pay4 (accAt m hO c t.val t.isLt)) :=
  (show (pdat m hO 0 c).leavesExact 4 t = owns (c : Thread nD τ) (ms0_4 m hO t) fullShare ((pdat m hO 0 c).after 4 t) from by
    unfold Dat.leavesExact; rw [liveAt0_4_L m hO t h0 h3]; try rfl).trans (by rw [af4])

set_option maxHeartbeats 1600000 in
/-- The body at any point takes the invariant one step on. -/
theorem body_ok (hO : Ok m) (c : Dev nD) (t : Fin (cfgM m hO).N) :
    bPre m hO c t ⊢ wp frame (wpE (defs₀ (F := F)) Variants.none c none) Set.univ (bodyAt0 (adm m hO) t) (fun _ => bPost m hO c t) := by
  unfold bPre bPost bodyAt0
  simp only [be0, be1, be2, be3]
  rw [show (pdat m hO 0 c).owesAt () t.succ = (pdat m hO 0 c).owesAt () t.castSucc from rfl]
  rw [show (pdat m hO 0 c).Φ t.succ = Inv m hO c (t.val + 1) t.isLt from rfl, Inv_succ, PhiT0_eq, lv0, lv1, lv2, lv3, pdat_Φ m hO c t]
  by_cases h0 : t.val % 7 = 0
  · have hc0 : cond0_0 (grid0.coords t) := (hcond0_0 t).mpr h0
    have hc3 : ¬cond0_3 (grid0.coords t) := fun h => by have := (hcond0_3 t).mp h; omega
    rw [Dat.leavesExact_idle (pdat m hO 0 c) 4 t (idleAt0_4_D m hO t hc0 hc3) (noFlush0_4_D m hO t hc0 hc3), accAt_first m hO c t h0]
    unfold pstep
    by_cases hz : t.val = 0
    · rw [Inv_zero m hO c _ _ hz, PhiT0_eq, PhiA0_eq]
      iintro ⟨⟨⟨HS0, Hg⟩, ⟨HT0, HT1⟩⟩, Ho, ⟨%d0, H0⟩, ⟨%d1, H1⟩, ⟨%d2, H2⟩, ⟨%d3, H3⟩, ⟨%d4, H4⟩⟩
      iapply (body_first c (grid0.coords t) _ _ _ _ _ _ _ _ _ _ _ _ (iblk m hO c 0 t) (iblk m hO c 1 t) (iblk m hO c 2 t) (iblk m hO c 3 t) (tbl m 0) (tbl m 1) hc0 hc3 _ Set.univ _)
      isplitl [H0]; · iexact H0
      isplitl [H1]; · iexact H1
      isplitl [H2]; · iexact H2
      isplitl [H3]; · iexact H3
      isplitl [H4]; · iexact H4
      isplitl [HS0]; · iexact HS0
      isplitl [HT0]; · iexact HT0
      isplitl [HT1]; · iexact HT1
      iintro ⟨H0, H1, H2, H3, H4, HS0, HT0, HT1⟩
      isplitl [HS0 Hg HT0 HT1]
      · isplitl [HS0 Hg]
        · isplitl [HS0]
          · iexact HS0
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4
    · rw [Inv_pos m hO c _ _ hz, PhiT0_eq]
      iintro ⟨⟨⟨HS0, Hg⟩, ⟨HT0, HT1⟩⟩, Ho, ⟨%d0, H0⟩, ⟨%d1, H1⟩, ⟨%d2, H2⟩, ⟨%d3, H3⟩, ⟨%d4, H4⟩⟩
      iapply (body_first c (grid0.coords t) _ _ _ _ _ _ _ _ _ _ _ _ (iblk m hO c 0 t) (iblk m hO c 1 t) (iblk m hO c 2 t) (iblk m hO c 3 t) (tbl m 0) (tbl m 1) hc0 hc3 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HT0]; · iexact HT0
      isplitl [HT1]; · iexact HT1
      iintro ⟨H0, H1, H2, H3, H4, HS0, HT0, HT1⟩
      isplitl [HS0 Hg HT0 HT1]
      · isplitl [HS0 Hg]
        · isplitl [HS0]
          · iexact HS0
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4
  · have hc0 : ¬cond0_0 (grid0.coords t) := fun h => h0 ((hcond0_0 t).mp h)
    have hz : t.val ≠ 0 := fun h => h0 (by rw [h])
    rw [Inv_pos m hO c _ _ hz, PhiT0_eq]
    by_cases h3 : t.val % 7 = 6
    · have hc3 : cond0_3 (grid0.coords t) := (hcond0_3 t).mpr h3
      rw [lv4 m hO c t hc0 hc3, accAt_next m hO c t h0]
      unfold pstep
      iintro ⟨⟨⟨HS0, Hg⟩, ⟨HT0, HT1⟩⟩, Ho, ⟨%d0, H0⟩, ⟨%d1, H1⟩, ⟨%d2, H2⟩, ⟨%d3, H3⟩, ⟨%d4, H4⟩⟩
      iapply (body_last c (grid0.coords t) _ _ _ _ _ _ _ _ _ _ _ _ (iblk m hO c 0 t) (iblk m hO c 1 t) (iblk m hO c 2 t) (iblk m hO c 3 t) (tbl m 0) (tbl m 1) _ hc0 hc3 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HT0]; · iexact HT0
      isplitl [HT1]; · iexact HT1
      iintro ⟨H0, H1, H2, H3, H4, HS0, HT0, HT1⟩
      isplitl [HS0 Hg HT0 HT1]
      · isplitl [HS0 Hg]
        · isplitl [HS0]
          · iexact HS0
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4
    · have hc3 : ¬cond0_3 (grid0.coords t) := fun h => h3 ((hcond0_3 t).mp h)
      rw [Dat.leavesExact_idle (pdat m hO 0 c) 4 t (idleAt0_4_H m hO t hc0 hc3) (noFlush0_4_H m hO t hc0 hc3), accAt_next m hO c t h0]
      unfold pstep
      iintro ⟨⟨⟨HS0, Hg⟩, ⟨HT0, HT1⟩⟩, Ho, ⟨%d0, H0⟩, ⟨%d1, H1⟩, ⟨%d2, H2⟩, ⟨%d3, H3⟩, ⟨%d4, H4⟩⟩
      iapply (body_mid c (grid0.coords t) _ _ _ _ _ _ _ _ _ _ _ _ (iblk m hO c 0 t) (iblk m hO c 1 t) (iblk m hO c 2 t) (iblk m hO c 3 t) (tbl m 0) (tbl m 1) _ hc0 hc3 _ Set.univ _)
      isplitl [H0]; · iexact H0
      isplitl [H1]; · iexact H1
      isplitl [H2]; · iexact H2
      isplitl [H3]; · iexact H3
      isplitl [H4]; · iexact H4
      isplitl [HS0]; · iexact HS0
      isplitl [HT0]; · iexact HT0
      isplitl [HT1]; · iexact HT1
      iintro ⟨H0, H1, H2, H3, H4, HS0, HT0, HT1⟩
      isplitl [HS0 Hg HT0 HT1]
      · isplitl [HS0 Hg]
        · isplitl [HS0]
          · iexact HS0
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4

theorem row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation at every point. -/
theorem obligation (hO : Ok m) (c : Dev nD) : BodyObligation (pdat (F := F) m hO 0 c) (defs₀ (F := F)) Variants.none () Set.univ := fun t => by
  rw [bigSep_W0, bigSep_W0, row m hO]
  exact triple_restated (body_ok m hO c t) rfl .rfl fun _ => .rfl

theorem into (hO : Ok m) (c : Dev nD) : iprop(Pipeline.ΦA spec0 c ∗ Pipeline.ΦT pre0 (tbl m) c) ⊢ (pdat m hO 0 c).Φ 0 := by
  rw [show (pdat m hO 0 c).Φ 0 = Inv m hO c 0 (Nat.zero_le _) from rfl, Inv_zero m hO c 0 _ rfl]

theorem outof (hO : Ok m) (c : Dev nD) : (pdat m hO 0 c).Φ (Fin.last (cfgM m hO).N) ⊢ Pipeline.ΦA spec0 c := by
  have hN : (cfgM m hO).N = 280 := N_0
  rw [show (pdat m hO 0 c).Φ (Fin.last (cfgM m hO).N) = Inv m hO c (Fin.last (cfgM m hO).N).val (Nat.le_of_lt_succ (Fin.last (cfgM m hO).N).isLt) from rfl,
    Inv_pos m hO c _ _ (by rw [Fin.val_last]; omega), PhiA0_eq]
  iintro ⟨⟨HS0, Hg⟩, -⟩
  isplitl [HS0]
  · iexists _; iexact HS0
  iexact Hg

set_option maxHeartbeats 4000000 in
set_option backward.isDefEq.respectTransparency.types false in
/-- The run of the whole program: each array of the pipeline at what the proof data computes, every other array kept, every
    counter at zero. -/
theorem runs (hO : Ok m) : θ_run defs (onTc (τ := τ) (main (F := F))) (s₀ m ρ)
    (fun r => (Pipeline.FramePost (Pipeline.pin pcfgs fun _ => adm m hO) (pdat m hO) 0 (V m)) r ∧ r.2.sem = fun _ => 0) :=
  Pipeline.θ_run_frameP_track (Q' := _) pcfgs (fun _ => adm m hO) (pdat m hO) (0 : Fin 1) launch0 defs₀ Variants.none m ρ main
    (hbody := fun c => (obligation m hO c).loose) (hshare := fun c => (pdat m hO 0 c).share_full fun _ => rfl)
    (howed := fun _ _ => rfl) (V := V m) (hmain := hmain m Variants.none) (hA := pdat_A m hO) (hpf := V_pre m)
    (hin := into m hO) (hout := outof m hO)

/-- The argument arrays end unchanged and every counter at zero. -/
theorem keeps (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ hO (pdat m hO) (pdat_A m hO) ((θ_run defs _ _).mono (fun _ h => h.1) (runs m ρ hO)))
    ((θ_run defs _ _).mono (fun _ h => h.2) (runs m ρ hO))

end Cert.KernelIdeal.Hand

end
-- ==== Proof.ExpertsTables.lean ====
/-
  The tables the expert kernel prefetches, as the plain functions of the counts.
-/
module

public import proofs.«01_k».proof.Proof.Gen.KernelIdeal.Frame.RunL
public import proofs.«01_k».proof.Proof.Slots
public import Idealize.ShloMosaic.Lib.StableHlo.RunRead
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.ShloMosaic.StableHlo

variable {F : FTy → Type} [FloatOps F]

section
variable (W : Valuation τ sig (Elt F))

theorem r0 : after hostOps0 W main_v3 = (subi (addi (W main_arg1) (Slots.all8 1024#32)) (Slots.all8 1#32) : IVec S8 32) := by
  after_reads_simp; rfl
theorem r0c : after hostOps0 W main_c_1 = (constantI S_ 32 1024#32 : IVec S_ 32) := by
  after_reads_simp
theorem r1 (h : W main_c_1 = (constantI S_ 32 1024#32 : IVec S_ 32)) : after hostOps0_1 W main_v4 = (Slots.div8 (W main_v3) 1024#32 : IVec S8 32) := by
  after_reads_simp; rw [h]; rfl
theorem r2 : after hostOps0_2 W main_v6 = (muli (W main_v4) (Slots.all8 1024#32) : IVec S8 32) := by
  after_reads_simp; rfl
attribute [local irreducible] Host.reduceWindow in
theorem r3 : after hostOps0_3 W main_v7 = (Slots.ends (W main_v6) : IVec S8 32) := by
  after_reads_simp; rfl
theorem r4 : after hostOps0_4 W main_v20 = (Slots.expert (W main_v7) : IVec S40 32) := by
  after_reads_simp; rfl
theorem r4f : after hostOps0_4 W main_v11 = (Slots.first : IVec S40 32) := by
  after_reads_simp; rfl
theorem r4l : after hostOps0_4 W main_v36 = (Slots.left (W main_arg1) (subi (W main_v7) (W main_v6)) (Slots.expert (W main_v7)) : IVec S40 32) := by
  after_reads_simp; rfl
theorem r4a : after hostOps0_4 W main_c_10 = (constantI S_ 32 0#32 : IVec S_ 32) := by
  after_reads_simp
theorem r4b : after hostOps0_4 W main_c_11 = (constantI S_ 32 1024#32 : IVec S_ 32) := by
  after_reads_simp
theorem r5 (h0 : W main_c_10 = (constantI S_ 32 0#32 : IVec S_ 32)) (h1 : W main_c_11 = (constantI S_ 32 1024#32 : IVec S_ 32)) :
    after hostOps0_5 W main_v37 = (minsi (Slots.all40 1024#32) (maxsi (Slots.all40 0#32) (W main_v36)) : IVec S40 32) := by
  after_reads_simp; rw [h0, h1]; rfl
theorem r6 (h : W main_v11 = (Slots.first : IVec S40 32)) : after hostOps0_6 W main_v41 = (Slots.live (W main_v7) : IVec S40 1) := by
  after_reads_simp; rw [h]; rfl
theorem r6s : after hostOps0_6 W main_v45 = (subi (addi (W main_v37) (Slots.all40 512#32)) (Slots.all40 1#32) : IVec S40 32) := by
  after_reads_simp; rfl
theorem r6c : after hostOps0_6 W main_c_14 = (constantI S_ 32 512#32 : IVec S_ 32) := by
  after_reads_simp
theorem r7 (h : W main_c_14 = (constantI S_ 32 512#32 : IVec S_ 32)) : after hostOps0_7 W main_v46 = (Slots.div40 (W main_v45) 512#32 : IVec S40 32) := by
  after_reads_simp; rw [h]; rfl
theorem r8 : after hostOps0_8 W main_c_15 = (constantI S_ 32 0#32 : IVec S_ 32) := by
  after_reads_simp
theorem r9 (h : W main_c_15 = (constantI S_ 32 0#32 : IVec S_ 32)) : after hostOps0_9 W main_v47 = (select (W main_v41) (W main_v46) (Slots.all40 0#32) : IVec S40 32) := by
  after_reads_simp; rw [h]; rfl
theorem k0_arg1 : after hostOps0 W main_arg1 = W main_arg1 := by after_reads_simp
theorem k1_arg1 : after hostOps0_1 W main_arg1 = W main_arg1 := by after_reads_simp
theorem k2_arg1 : after hostOps0_2 W main_arg1 = W main_arg1 := by after_reads_simp
theorem k3_arg1 : after hostOps0_3 W main_arg1 = W main_arg1 := by after_reads_simp
theorem k3_v6 : after hostOps0_3 W main_v6 = W main_v6 := by after_reads_simp
theorem k4_v7 : after hostOps0_4 W main_v7 = W main_v7 := by after_reads_simp
theorem k5_v7 : after hostOps0_5 W main_v7 = W main_v7 := by after_reads_simp
theorem k5_v11 : after hostOps0_5 W main_v11 = W main_v11 := by after_reads_simp
theorem k5_v20 : after hostOps0_5 W main_v20 = W main_v20 := by after_reads_simp
theorem k6_v20 : after hostOps0_6 W main_v20 = W main_v20 := by after_reads_simp
theorem k7_v20 : after hostOps0_7 W main_v20 = W main_v20 := by after_reads_simp
theorem k7_v41 : after hostOps0_7 W main_v41 = W main_v41 := by after_reads_simp
theorem k8_v20 : after hostOps0_8 W main_v20 = W main_v20 := by after_reads_simp
theorem k8_v41 : after hostOps0_8 W main_v41 = W main_v41 := by after_reads_simp
theorem k8_v46 : after hostOps0_8 W main_v46 = W main_v46 := by after_reads_simp
theorem k9_v20 : after hostOps0_9 W main_v20 = W main_v20 := by after_reads_simp
end

variable (m : (ℓ : Loc nD τ sig) → Buf (Elt F) ℓ) (c : Dev nD)

/-- The host code's lines one after another. -/
abbrev st0 : Valuation τ sig (Elt F) := fun b => m (c, b)
abbrev st4 : Valuation τ sig (Elt F) := after hostOps0_3 (after hostOps0_2 (after hostOps0_1 (after hostOps0 (st0 m c))))
abbrev st7 : Valuation τ sig (Elt F) := after hostOps0_6 (after hostOps0_5 (after hostOps0_4 (st4 m c)))

theorem V_split (b : Ref sig .tc) : V m c b = after hostOps0_9 (after hostOps0_8 (after hostOps0_7 (st7 m c))) b := by
  simp only [V, List.flatten_cons, List.flatten_nil, List.append_nil, after_append]

/-- The counts the program is given. -/
abbrev counts : IVec S8 32 := m ((c : Thread nD τ).loc main_arg1)

theorem st4_arg1 : st4 m c main_arg1 = counts m c := by
  unfold st4; rw [k3_arg1, k2_arg1, k1_arg1, k0_arg1]
theorem st4_v6 : st4 m c main_v6 = Slots.base (counts m c) := by
  unfold st4; rw [k3_v6, r2, r1 _ (r0c _), r0]; rfl
theorem st4_v7 : st4 m c main_v7 = Slots.ends (Slots.base (counts m c)) := by
  rw [← st4_v6 m c]; unfold st4; rw [r3, k3_v6]

/-- The first table is each block's expert. -/
theorem V_tabE : V m c main_v20 = (Slots.tabE (counts m c) : IVec S40 32) := by
  rw [V_split, k9_v20, k8_v20, k7_v20]; unfold st7; rw [k6_v20, k5_v20, r4, st4_v7]; rfl

theorem st7_v41 : st7 m c main_v41 = (Slots.live (Slots.ends (Slots.base (counts m c))) : IVec S40 1) := by
  unfold st7; rw [r6 _ (by rw [k5_v11, r4f]), k5_v7, k4_v7, st4_v7]

/-- The second table is each block's number of halves. -/
theorem V_tabV : V m c main_v47 = (Slots.tabV (counts m c) : IVec S40 32) := by
  rw [V_split, r9 _ (r8 _), k8_v41, k7_v41, k8_v46, st7_v41, r7 _ (by unfold st7; exact r6c _)]; unfold st7; rw [r6s, r5 _ (r4a _) (r4b _), r4l, st4_v7, st4_v6, st4_arg1]
  rfl

/-- The point of a table a grid point looks at is its block's. -/
theorem point_eq (i : grid0.Coords) (h : ∀ a, (k0_off1 i) a + S1.size a ≤ S40.size a) (h1 : (Rect.unit (s := S40) (k0_off1 i) S1.size h).shape.numel = 1) :
    (Rect.unit (s := S40) (k0_off1 i) S1.size h).point h1 = ix1 (i 0) := by
  refine funext fun a => Fin.ext ?_
  match a with
  | ⟨0, _⟩ =>
    have h0 : (BitVec.ofNat 32 (i 0).val).toNat = (i 0).val := by
      have : (i 0).val < 40 := (i 0).isLt
      rw [BitVec.toNat_ofNat]; omega
    have hf : ∀ x : Fin 1, x.val = 0 := fun x => by omega
    refine Eq.trans (b := (BitVec.ofNat 32 (i 0).val).toNat + 1 * 0) ?_ (by rw [h0]; rfl)
    exact congrArg (fun n => (BitVec.ofNat 32 (i 0).val).toNat + 1 * n) (hf _)

theorem map1_eq (pf : pre0.Contents (Elt F)) (i : grid0.Coords) :
    cc0_transform_1 k0_off1_inb numel1_S1 pf i = ![0, BitVec.toNat (w := 32) (pf 0 (ix1 (i 0))), 0, Slots.tile (pf 1 (ix1 (i 0))) (i 1).val] :=
  congrArg (fun p : S40.Idx => (![0, BitVec.toNat (w := 32) (pf 0 p), 0, Slots.tile (pf 1 p) (i 1).val] : Fin 4 → ℕ)) (point_eq i (k0_off1_inb i) numel1_S1)
theorem map2_eq (pf : pre0.Contents (Elt F)) (i : grid0.Coords) :
    cc0_transform_2 k0_off1_inb numel1_S1 pf i = ![0, BitVec.toNat (w := 32) (pf 0 (ix1 (i 0))), 0, Slots.tile (pf 1 (ix1 (i 0))) (i 1).val] :=
  congrArg (fun p : S40.Idx => (![0, BitVec.toNat (w := 32) (pf 0 p), 0, Slots.tile (pf 1 p) (i 1).val] : Fin 4 → ℕ)) (point_eq i (k0_off1_inb i) numel1_S1)
theorem map3_eq (pf : pre0.Contents (Elt F)) (i : grid0.Coords) :
    cc0_transform_3 k0_off1_inb numel1_S1 pf i = ![0, BitVec.toNat (w := 32) (pf 0 (ix1 (i 0))), Slots.tile (pf 1 (ix1 (i 0))) (i 1).val, 0] :=
  congrArg (fun p : S40.Idx => (![0, BitVec.toNat (w := 32) (pf 0 p), Slots.tile (pf 1 p) (i 1).val, 0] : Fin 4 → ℕ)) (point_eq i (k0_off1_inb i) numel1_S1)

theorem tbl0 : tbl m 0 = (Slots.tabE (counts m 0) : IVec S40 32) := V_tabE m 0
theorem tbl1 : tbl m 1 = (Slots.tabV (counts m 0) : IVec S40 32) := V_tabV m 0

/-- Every block the tables name lies inside its array. -/
theorem ok : Ok m := by
  have he : ∀ i : grid0.Coords, BitVec.toNat (w := 32) (tbl m 0 (ix1 (i 0))) ≤ 7 := fun i => by
    rw [tbl0]; exact Slots.tabE_le (counts m 0) (i 0)
  have ht : ∀ i : grid0.Coords, Slots.tile (tbl m 1 (ix1 (i 0))) (i 1).val ≤ 6 := fun i => by
    rw [tbl1]; exact Slots.tile_le _ _ (Slots.tabV_le (counts m 0) (i 0)) (i 1).isLt
  refine ⟨fun i => ⟨fun a => ?_, .inl rfl⟩, fun i => ⟨fun a => ?_, .inl rfl⟩, fun i => ⟨fun a => ?_, .inl rfl⟩⟩
  · have h1 := he i; have h2 := ht i
    rw [map1_eq]
    match a with
    | ⟨0, _⟩ => show (0 + 1) * 1 ≤ 2; omega
    | ⟨1, _⟩ => show (BitVec.toNat (w := 32) (tbl m 0 (ix1 (i 0))) + 1) * 1 ≤ 8; omega
    | ⟨2, _⟩ => show (0 + 1) * 1024 ≤ 1024; omega
    | ⟨3, _⟩ => show (Slots.tile (tbl m 1 (ix1 (i 0))) (i 1).val + 1) * 512 ≤ 3584; omega
  · have h1 := he i; have h2 := ht i
    rw [map2_eq]
    match a with
    | ⟨0, _⟩ => show (0 + 1) * 1 ≤ 2; omega
    | ⟨1, _⟩ => show (BitVec.toNat (w := 32) (tbl m 0 (ix1 (i 0))) + 1) * 1 ≤ 8; omega
    | ⟨2, _⟩ => show (0 + 1) * 1024 ≤ 1024; omega
    | ⟨3, _⟩ => show (Slots.tile (tbl m 1 (ix1 (i 0))) (i 1).val + 1) * 512 ≤ 3584; omega
  · have h1 := he i; have h2 := ht i
    rw [map3_eq]
    match a with
    | ⟨0, _⟩ => show (0 + 1) * 1 ≤ 2; omega
    | ⟨1, _⟩ => show (BitVec.toNat (w := 32) (tbl m 0 (ix1 (i 0))) + 1) * 1 ≤ 8; omega
    | ⟨2, _⟩ => show (Slots.tile (tbl m 1 (ix1 (i 0))) (i 1).val + 1) * 512 ≤ 3584; omega
    | ⟨3, _⟩ => show (0 + 1) * 1024 ≤ 1024; omega

end Cert.KernelIdeal.Hand

end
-- ==== Proof.ExpertsSteps.lean ====
/-
  One tile's step of the expert kernel at the ideal values: on each row it works on, the accumulator plus the sums over
  the tile's two halves of gated columns times the rows of the second weights.
-/
module

public import proofs.«01_k».proof.Proof.ExpertsCases

@[expose] public section

noncomputable section

open Idealize.ShloMosaic Idealize.ShloMosaic.TcCoe Idealize.SL.Sem Idealize.ShloMosaic.ValueIdx

namespace Cert.KernelIdeal.Hand

open Cert.KernelIdeal Cert.KernelIdeal.Gen Cert.Common

/-- Rows times one column of a block's half. -/
theorem prod_apply {M : Nat} (wf : DotDims.WF ⟨2, ![M, 1024]⟩ ⟨2, ![1024, 256]⟩ ⟨2, ![M, 256]⟩ [1] [0] [0] [1] [] [])
    (xn : FVec Ideal ⟨2, ![M, 1024]⟩ .bf16) (w : Vec Ideal S1x1x1024x256 .f32) (i : Fin M) (q : Fin 256) :
    FloatOps.matmul (F := Ideal) (φ₁ := .bf16)
      (⟨[1], [0], [0], [1], [], [], wf⟩ : DotDims ⟨2, ![M, 1024]⟩ ⟨2, ![1024, 256]⟩ ⟨2, ![M, 256]⟩) none xn
      (truncf .bf16 (shapeCast S1024x256 w shapeCasts_S1x1x1024x256_S1024x256) bitsLt_bf16_f32 : FVec Ideal S1024x256 .bf16)
      (constant ⟨2, ![M, 256]⟩ .f32 0x00000000#32) (ix2 i q) = ∑ k : Fin 1024, xn (ix2 i k) * w (ix4 0 0 k q) := by
  refine (mm_apply wf _ _ i q).trans (Finset.sum_congr rfl fun k _ => ?_)
  exact congrArg _ (drop4_apply w shapeCasts_S1x1x1024x256_S1024x256 k q)

/-- What a tile adds at row `i` and column `j`: the sums over its two halves. -/
def gain (x : Fin 1024 → EReal) (w1 w3 : Vec Ideal S1x1x1024x512 .f32) (w2 : Vec Ideal S1x1x512x1024 .f32) (j : Fin 1024) : EReal :=
  (∑ q : Fin 256, hid x (fun k => w1 (ix4 0 0 k ⟨q.val, by omega⟩)) (fun k => w3 (ix4 0 0 k ⟨q.val, by omega⟩)) * w2 (ix4 0 0 ⟨q.val, by omega⟩ j))
    + ∑ q : Fin 256, hid x (fun k => w1 (ix4 0 0 k ⟨256 + q.val, by omega⟩)) (fun k => w3 (ix4 0 0 k ⟨256 + q.val, by omega⟩))
        * w2 (ix4 0 0 ⟨256 + q.val, by omega⟩ j)

theorem ld_colsL (w : Vec Ideal S1x1x1024x512 .f32) (k : Fin 1024) (q : Fin 256) :
    View.ld w colsL (ix4 0 0 k q) = w (ix4 0 0 k ⟨q.val, by omega⟩) := by
  refine congrArg w (funext fun a => Fin.ext ?_)
  match a with
  | ⟨0, _⟩ => rfl
  | ⟨1, _⟩ => rfl
  | ⟨2, _⟩ => show 0 + 1 * k.val = k.val; omega
  | ⟨3, _⟩ => show 0 + 1 * q.val = q.val; omega

theorem ld_colsR (w : Vec Ideal S1x1x1024x512 .f32) (k : Fin 1024) (q : Fin 256) :
    View.ld w colsR (ix4 0 0 k q) = w (ix4 0 0 k ⟨256 + q.val, by omega⟩) := by
  refine congrArg w (funext fun a => Fin.ext ?_)
  match a with
  | ⟨0, _⟩ => rfl
  | ⟨1, _⟩ => rfl
  | ⟨2, _⟩ => show 0 + 1 * k.val = k.val; omega
  | ⟨3, _⟩ => show 256 + 1 * q.val = 256 + q.val; omega

theorem ld_rowsL (w : Vec Ideal S1x1x512x1024 .f32) (q : Fin 256) (j : Fin 1024) :
    View.ld w rowsL (ix4 0 0 q j) = w (ix4 0 0 ⟨q.val, by omega⟩ j) := by
  refine congrArg w (funext fun a => Fin.ext ?_)
  match a with
  | ⟨0, _⟩ => rfl
  | ⟨1, _⟩ => rfl
  | ⟨2, _⟩ => show 0 + 1 * q.val = q.val; omega
  | ⟨3, _⟩ => show 0 + 1 * j.val = j.val; omega

theorem ld_rowsR (w : Vec Ideal S1x1x512x1024 .f32) (q : Fin 256) (j : Fin 1024) :
    View.ld w rowsR (ix4 0 0 q j) = w (ix4 0 0 ⟨256 + q.val, by omega⟩ j) := by
  refine congrArg w (funext fun a => Fin.ext ?_)
  match a with
  | ⟨0, _⟩ => rfl
  | ⟨1, _⟩ => rfl
  | ⟨2, _⟩ => show 256 + 1 * q.val = 256 + q.val; omega
  | ⟨3, _⟩ => show 0 + 1 * j.val = j.val; omega

theorem ld_upper {φ : EltTy} (w : Vec Ideal S1024x1024 φ) (i : Fin 512) (j : Fin 1024) :
    View.ld w upper (ix2 i j) = w (ix2 ⟨i.val, by omega⟩ j) := by
  refine congrArg w (funext fun a => Fin.ext ?_)
  match a with
  | ⟨0, _⟩ => show 0 + 1 * i.val = i.val; omega
  | ⟨1, _⟩ => show 0 + 1 * j.val = j.val; omega

/-- A tile's step on all rows. -/
theorem stepF_apply (x : Vec Ideal S1024x1024 .bf16) (w1 w3 : Vec Ideal S1x1x1024x512 .f32) (w2 : Vec Ideal S1x1x512x1024 .f32)
    (acc : Vec Ideal S1024x1024 .f32) (i j : Fin 1024) :
    stepF x w1 w3 w2 acc (ix2 i j) = acc (ix2 i j) + gain (fun k => x (ix2 i k)) w1 w3 w2 j := by
  unfold stepF k0_pay2 k0_pay5 k0_pay6 gain
  simp only [shapeCast_self, addf_apply, Ideal.addf_def, matmul]
  refine congrArg (acc (ix2 i j) + ·) (congrArg₂ (· + ·) ?_ ?_)
  · refine (gated_apply dot_S1024x256_S256x1024_S1024x1024_1_0_0_1_n_n_wf _ _ _ _ i j).trans (Finset.sum_congr rfl fun q _ => ?_)
    refine congrArg₂ (· * ·) (congrArg₂ gate ?_ ?_) ?_
    · exact (prod_apply dot_S1024x1024_S1024x256_S1024x256_1_0_0_1_n_n_wf _ _ i q).trans (Finset.sum_congr rfl fun k _ => congrArg (x (ix2 i k) * ·) (ld_colsL w1 k q))
    · exact (prod_apply dot_S1024x1024_S1024x256_S1024x256_1_0_0_1_n_n_wf _ _ i q).trans (Finset.sum_congr rfl fun k _ => congrArg (x (ix2 i k) * ·) (ld_colsL w3 k q))
    · exact (drop4_apply _ shapeCasts_S1x1x256x1024_S256x1024 q j).trans (ld_rowsL w2 q j)
  · refine (gated_apply dot_S1024x256_S256x1024_S1024x1024_1_0_0_1_n_n_wf _ _ _ _ i j).trans (Finset.sum_congr rfl fun q _ => ?_)
    refine congrArg₂ (· * ·) (congrArg₂ gate ?_ ?_) ?_
    · exact (prod_apply dot_S1024x1024_S1024x256_S1024x256_1_0_0_1_n_n_wf _ _ i q).trans (Finset.sum_congr rfl fun k _ => congrArg (x (ix2 i k) * ·) (ld_colsR w1 k q))
    · exact (prod_apply dot_S1024x1024_S1024x256_S1024x256_1_0_0_1_n_n_wf _ _ i q).trans (Finset.sum_congr rfl fun k _ => congrArg (x (ix2 i k) * ·) (ld_colsR w3 k q))
    · exact (drop4_apply _ shapeCasts_S1x1x256x1024_S256x1024 q j).trans (ld_rowsR w2 q j)

/-- A tile's step on the upper half of the rows. -/
theorem stepU_apply (x : Vec Ideal S1024x1024 .bf16) (w1 w3 : Vec Ideal S1x1x1024x512 .f32) (w2 : Vec Ideal S1x1x512x1024 .f32)
    (acc : Vec Ideal S1024x1024 .f32) (i : Fin 512) (j : Fin 1024) :
    stepU x w1 w3 w2 acc (ix2 i j) = acc (ix2 ⟨i.val, by omega⟩ j) + gain (fun k => x (ix2 ⟨i.val, by omega⟩ k)) w1 w3 w2 j := by
  unfold stepU k0_pay3 k0_pay7 k0_pay8 gain
  simp only [shapeCast_self, addf_apply, Ideal.addf_def, matmul]
  refine congrArg₂ (· + ·) (ld_upper acc i j) (congrArg₂ (· + ·) ?_ ?_)
  · refine (gated_apply dot_S512x256_S256x1024_S512x1024_1_0_0_1_n_n_wf _ _ _ _ i j).trans (Finset.sum_congr rfl fun q _ => ?_)
    refine congrArg₂ (· * ·) (congrArg₂ gate ?_ ?_) ?_
    · exact (prod_apply dot_S512x1024_S1024x256_S512x256_1_0_0_1_n_n_wf _ _ i q).trans (Finset.sum_congr rfl fun k _ => congrArg₂ (· * ·) (ld_upper x i k) (ld_colsL w1 k q))
    · exact (prod_apply dot_S512x1024_S1024x256_S512x256_1_0_0_1_n_n_wf _ _ i q).trans (Finset.sum_congr rfl fun k _ => congrArg₂ (· * ·) (ld_upper x i k) (ld_colsL w3 k q))
    · exact (drop4_apply _ shapeCasts_S1x1x256x1024_S256x1024 q j).trans (ld_rowsL w2 q j)
  · refine (gated_apply dot_S512x256_S256x1024_S512x1024_1_0_0_1_n_n_wf _ _ _ _ i j).trans (Finset.sum_congr rfl fun q _ => ?_)
    refine congrArg₂ (· * ·) (congrArg₂ gate ?_ ?_) ?_
    · exact (prod_apply dot_S512x1024_S1024x256_S512x256_1_0_0_1_n_n_wf _ _ i q).trans (Finset.sum_congr rfl fun k _ => congrArg₂ (· * ·) (ld_upper x i k) (ld_colsR w1 k q))
    · exact (prod_apply dot_S512x1024_S1024x256_S512x256_1_0_0_1_n_n_wf _ _ i q).trans (Finset.sum_congr rfl fun k _ => congrArg₂ (· * ·) (ld_upper x i k) (ld_colsR w3 k q))
    · exact (drop4_apply _ shapeCasts_S1x1x256x1024_S256x1024 q j).trans (ld_rowsR w2 q j)

/-- A tile's step on a row the block's number of halves covers. -/
theorem stepV_apply (v : BitVec 32) (x : Vec Ideal S1024x1024 .bf16) (w1 w3 : Vec Ideal S1x1x1024x512 .f32) (w2 : Vec Ideal S1x1x512x1024 .f32)
    (acc : Vec Ideal S1024x1024 .f32) (i j : Fin 1024) (h : (v = 1#32 ∧ i.val < 512) ∨ v = 2#32) :
    stepV v x w1 w3 w2 acc (ix2 i j) = acc (ix2 i j) + gain (fun k => x (ix2 i k)) w1 w3 w2 j := by
  unfold stepV
  rcases h with ⟨rfl, hi⟩ | rfl
  · rw [if_neg (by decide), if_pos rfl]
    unfold stepH
    refine (dif_pos (show ((ix2 i j : S1024x1024.Idx) 0).val < 512 from hi)).trans ?_
    exact stepU_apply x w1 w3 w2 acc ⟨i.val, hi⟩ j
  · rw [if_pos rfl]
    exact stepF_apply x w1 w3 w2 acc i j

end Cert.KernelIdeal.Hand

end
-- ==== Proof.Experts.lean ====
/-
  The expert call's result array: on the rows that hold a token, each row is its block's expert applied to it.
-/
module

public import proofs.«01_k».proof.Proof.ExpertsSteps
public import proofs.«01_k».proof.Proof.ExpertsTables
public import proofs.«01_k».proof.Proof.ExpertsFrame

@[expose] public section

noncomputable section

open Idealize.ShloMosaic Idealize.ShloMosaic.TcCoe Idealize.SL.Sem Idealize.ShloMosaic.ValueIdx
open Idealize.ShloMosaic.Pipeline (Dat)

namespace Cert.Experts

open Cert.Common

/-- The expert of block `b`. -/
def ex (cnt : IVec ⟨1, ![8]⟩ 32) (b : Fin 40) : Fin 8 :=
  ⟨BitVec.toNat (w := 32) (Slots.tabE cnt (ix1 b)), Nat.lt_succ_of_le (Slots.tabE_le cnt b)⟩

/-- Hidden column `q`'s share of expert `e`'s result at row `r` and column `j`. -/
def col (xs : (⟨2, ![40960, 1024]⟩ : Shape).Idx → EReal) (w1 w3 : (⟨4, ![2, 8, 1024, 3584]⟩ : Shape).Idx → EReal)
    (w2 : (⟨4, ![2, 8, 3584, 1024]⟩ : Shape).Idx → EReal) (e : Fin 8) (r : Fin 40960) (j : Fin 1024) (q : Fin 3584) : EReal :=
  hid (fun k => xs (ix2 r k)) (fun k => w1 (ix4 0 e k q)) (fun k => w3 (ix4 0 e k q)) * w2 (ix4 0 e q j)

/-- The block of a row. -/
def blkOf (r : Fin 40960) : Fin 40 := ⟨r.val / 1024, by omega⟩

/-- The result at row `r` and column `j`. -/
def at_ (xs : (⟨2, ![40960, 1024]⟩ : Shape).Idx → EReal) (cnt : IVec ⟨1, ![8]⟩ 32) (w1 w3 : (⟨4, ![2, 8, 1024, 3584]⟩ : Shape).Idx → EReal)
    (w2 : (⟨4, ![2, 8, 3584, 1024]⟩ : Shape).Idx → EReal) (r : Fin 40960) (j : Fin 1024) : EReal :=
  ∑ q, col xs w1 w3 w2 (ex cnt (blkOf r)) r j q

/-- The whole result. -/
def spec (xs : (⟨2, ![40960, 1024]⟩ : Shape).Idx → EReal) (cnt : IVec ⟨1, ![8]⟩ 32) (w1 w3 : (⟨4, ![2, 8, 1024, 3584]⟩ : Shape).Idx → EReal)
    (w2 : (⟨4, ![2, 8, 3584, 1024]⟩ : Shape).Idx → EReal) (i : (⟨2, ![40960, 1024]⟩ : Shape).Idx) : EReal :=
  at_ xs cnt w1 w3 w2 (i 0) (i 1)

/-- Row `i` of block `b`. -/
def rowOf (b : Fin 40) (i : Fin 1024) : Fin 40960 := ⟨b.val * 1024 + i.val, by omega⟩

end Cert.Experts

namespace Cert.KernelIdeal.Hand

open Cert.KernelIdeal Cert.KernelIdeal.Gen Cert.Common Cert.Experts

variable (m : (ℓ : Loc nD τ sig) → Buf (Elt Ideal) ℓ) (ρ : Dev nD → PrngReg)

/-- The arguments' contents. -/
abbrev aX (c : Dev nD) : S40960x1024.Idx → EReal := m ((c : Thread nD τ).loc main_arg0)
abbrev aW1 (c : Dev nD) : S2x8x1024x3584.Idx → EReal := m ((c : Thread nD τ).loc main_arg2)
abbrev aW3 (c : Dev nD) : S2x8x1024x3584.Idx → EReal := m ((c : Thread nD τ).loc main_arg3)
abbrev aW2 (c : Dev nD) : S2x8x3584x1024.Idx → EReal := m ((c : Thread nD τ).loc main_arg4)

/-- The input blocks at point `t`. -/
abbrev ib0 (hO : Ok m) (c : Dev nD) (t : Fin (cfgM m hO).N) : Vec Ideal S1024x1024 .bf16 := iblk m hO c 0 t
abbrev ib1 (hO : Ok m) (c : Dev nD) (t : Fin (cfgM m hO).N) : Vec Ideal S1x1x1024x512 .f32 := iblk m hO c 1 t
abbrev ib2 (hO : Ok m) (c : Dev nD) (t : Fin (cfgM m hO).N) : Vec Ideal S1x1x1024x512 .f32 := iblk m hO c 2 t
abbrev ib3 (hO : Ok m) (c : Dev nD) (t : Fin (cfgM m hO).N) : Vec Ideal S1x1x512x1024 .f32 := iblk m hO c 3 t

/-- A grid point's block and tile. -/
theorem crd (t : Fin grid0.N) : (grid0.coords t 0).val = t.val / 7 ∧ (grid0.coords t 1).val = t.val % 7 := by
  have ht : t.val < 280 := lt_of_lt_of_eq t.isLt N_0
  have e0 : (grid0.coords t 0).val = t.val / 7 % 40 := Pipeline.Grid.coords_val t 0 (by decide) rfl
  have e1 : (grid0.coords t 1).val = t.val / 1 % 7 := Pipeline.Grid.coords_val t 1 (by decide) rfl
  exact ⟨by omega, by omega⟩

/-- The block of point `t`. -/
def bOf (t : Fin grid0.N) : Fin 40 := ⟨t.val / 7, by have := lt_of_lt_of_eq t.isLt N_0; omega⟩

theorem crd0 (t : Fin grid0.N) : (grid0.coords t 0 : Fin 40) = bOf t := Fin.ext (crd t).1

/-- Is row `i` one of those the halves of block `b` cover? -/
def Used (b : Fin 40) (i : Fin 1024) : Prop :=
  (Slots.tabV (counts m 0) (ix1 b) = 1#32 ∧ i.val < 512) ∨ Slots.tabV (counts m 0) (ix1 b) = 2#32

theorem Used.tab {b : Fin 40} {i : Fin 1024} (h : Used m b i) :
    Slots.tabV (counts m 0) (ix1 b) = 1#32 ∨ Slots.tabV (counts m 0) (ix1 b) = 2#32 := h.imp And.left id

/-- The table's entry at a point is its block's. -/
theorem tv_eq (t : Fin grid0.N) : tv 0 (grid0.coords t) (tbl m 1) = Slots.tabV (counts m 0) (ix1 (bOf t)) := by
  refine Eq.trans (b := (tbl m 1 : IVec S40 32) (ix1 (bOf t))) ?_ (congrFun (tbl1 m) _)
  rw [← crd0 t]
  exact congrArg (tbl m 1 : IVec S40 32) (point_eq (grid0.coords t) (k0_off1_inb _) numel1_S1)

/-- Where the windows of rows stand at a point. -/
theorem at0 (t : Fin grid0.N) : cc0_transform_0 (grid0.coords t) = ![t.val / 7, 0] := by
  have ht : t.val < 280 := lt_of_lt_of_eq t.isLt N_0
  have e : (BitVec.ofNat 32 (grid0.coords t 0).val).toNat = t.val / 7 := by
    rw [(crd t).1, BitVec.toNat_ofNat]; omega
  exact congrArg (fun n => (![n, 0] : Fin 2 → ℕ)) e
theorem at4 (t : Fin grid0.N) : cc0_transform_4 (grid0.coords t) = ![t.val / 7, 0] := by
  have ht : t.val < 280 := lt_of_lt_of_eq t.isLt N_0
  have e : (BitVec.ofNat 32 (grid0.coords t 0).val).toNat = t.val / 7 := by
    rw [(crd t).1, BitVec.toNat_ofNat]; omega
  exact congrArg (fun n => (![n, 0] : Fin 2 → ℕ)) e

/-- Where the weights' windows stand at a point of a block with rows to do. -/
theorem at1 (t : Fin grid0.N) (h : Slots.tabV (counts m 0) (ix1 (bOf t)) = 1#32 ∨ Slots.tabV (counts m 0) (ix1 (bOf t)) = 2#32) :
    cc0_transform_1 k0_off1_inb numel1_S1 (tbl m) (grid0.coords t) = ![0, (ex (counts m 0) (bOf t)).val, 0, t.val % 7] := by
  rw [map1_eq, tbl0, tbl1, show (ix1 (grid0.coords t 0) : S40.Idx) = ix1 (bOf t) from congrArg ix1 (crd0 t), (crd t).2,
    Slots.tile_used _ _ h (Nat.mod_lt _ (by decide))]
  rfl
theorem at2 (t : Fin grid0.N) (h : Slots.tabV (counts m 0) (ix1 (bOf t)) = 1#32 ∨ Slots.tabV (counts m 0) (ix1 (bOf t)) = 2#32) :
    cc0_transform_2 k0_off1_inb numel1_S1 (tbl m) (grid0.coords t) = ![0, (ex (counts m 0) (bOf t)).val, 0, t.val % 7] := by
  rw [map2_eq, tbl0, tbl1, show (ix1 (grid0.coords t 0) : S40.Idx) = ix1 (bOf t) from congrArg ix1 (crd0 t), (crd t).2,
    Slots.tile_used _ _ h (Nat.mod_lt _ (by decide))]
  rfl
theorem at3 (t : Fin grid0.N) (h : Slots.tabV (counts m 0) (ix1 (bOf t)) = 1#32 ∨ Slots.tabV (counts m 0) (ix1 (bOf t)) = 2#32) :
    cc0_transform_3 k0_off1_inb numel1_S1 (tbl m) (grid0.coords t) = ![0, (ex (counts m 0) (bOf t)).val, t.val % 7, 0] := by
  rw [map3_eq, tbl0, tbl1, show (ix1 (grid0.coords t 0) : S40.Idx) = ix1 (bOf t) from congrArg ix1 (crd0 t), (crd t).2,
    Slots.tile_used _ _ h (Nat.mod_lt _ (by decide))]
  rfl

/-! A window's block of an array, read at an index: the array at the block's place. -/

section
variable (a : (pcfg0 (F := Ideal)).Adm) (t : Fin (cfg0 a).N)

theorem rd0 (g : S40960x1024.Idx → EReal) (x : S1024x1024.Idx) (y : S40960x1024.Idx)
    (h : ∀ k, (y k).val = cc0_transform_0 (grid0.coords t) k * S1024x1024.size k + 1 * (x k).val) :
    (((cfg0 a).win 0).blk t).view.read (Elt Ideal) g x = g y :=
  congrArg g (funext fun k => Fin.ext (h k).symm)

theorem rd1 (g : S2x8x1024x3584.Idx → EReal) (x : S1x1x1024x512.Idx) (y : S2x8x1024x3584.Idx)
    (h : ∀ k, (y k).val = cc0_transform_1 k0_off1_inb numel1_S1 a.1 (grid0.coords t) k * S1x1x1024x512.size k + 1 * (x k).val) :
    (((cfg0 a).win 1).blk t).view.read (Elt Ideal) g x = g y :=
  congrArg g (funext fun k => Fin.ext (h k).symm)

theorem rd2 (g : S2x8x1024x3584.Idx → EReal) (x : S1x1x1024x512.Idx) (y : S2x8x1024x3584.Idx)
    (h : ∀ k, (y k).val = cc0_transform_2 k0_off1_inb numel1_S1 a.1 (grid0.coords t) k * S1x1x1024x512.size k + 1 * (x k).val) :
    (((cfg0 a).win 2).blk t).view.read (Elt Ideal) g x = g y :=
  congrArg g (funext fun k => Fin.ext (h k).symm)

theorem rd3 (g : S2x8x3584x1024.Idx → EReal) (x : S1x1x512x1024.Idx) (y : S2x8x3584x1024.Idx)
    (h : ∀ k, (y k).val = cc0_transform_3 k0_off1_inb numel1_S1 a.1 (grid0.coords t) k * S1x1x512x1024.size k + 1 * (x k).val) :
    (((cfg0 a).win 3).blk t).view.read (Elt Ideal) g x = g y :=
  congrArg g (funext fun k => Fin.ext (h k).symm)

theorem rd4 (g : S40960x1024.Idx → EReal) (x : S1024x1024.Idx) (y : S40960x1024.Idx)
    (h : ∀ k, (y k).val = cc0_transform_4 (grid0.coords t) k * S1024x1024.size k + 1 * (x k).val) :
    (((cfg0 a).win 4).blk t).view.read (Elt Ideal) g x = g y :=
  congrArg g (funext fun k => Fin.ext (h k).symm)

theorem ct4 (g : S1024x1024.Idx → EReal) (x : S1024x1024.Idx) : ((cfg0 a).win 4).cut (grid0.coords t) g x = g x := by
  show g (((cfg0 a).win 4).xinj (grid0.coords t) x) = g x
  refine congrArg g (funext fun k => Fin.ext ?_)
  match k with
  | ⟨0, _⟩ => rfl
  | ⟨1, _⟩ => rfl
end

theorem blk0 (hO : Ok m) (c : Dev nD) (t : Fin (cfgM m hO).N) (i k : Fin 1024) :
    ib0 m hO c t (ix2 i k) = aX m c (ix2 (rowOf (bOf t) i) k) := by
  rw [show aX m c = V m c main_arg0 from (V_main_arg0 m c).symm]
  refine rd0 (adm m hO) t (V m c main_arg0) (ix2 i k) _ fun a => ?_
  rw [at0]
  match a with
  | ⟨0, _⟩ => show t.val / 7 * 1024 + i.val = t.val / 7 * 1024 + 1 * i.val; omega
  | ⟨1, _⟩ => show k.val = 0 * 1024 + 1 * k.val; omega

theorem blk1 (hO : Ok m) (c : Dev nD) (t : Fin (cfgM m hO).N)
    (h : Slots.tabV (counts m 0) (ix1 (bOf t)) = 1#32 ∨ Slots.tabV (counts m 0) (ix1 (bOf t)) = 2#32)
    (k : Fin 1024) (q : Fin 512) (hq : 512 * (t.val % 7) + q.val < 3584) :
    ib1 m hO c t (ix4 0 0 k q) = aW1 m c (ix4 0 (ex (counts m 0) (bOf t)) k ⟨512 * (t.val % 7) + q.val, hq⟩) := by
  rw [show aW1 m c = V m c main_arg2 from (V_main_arg2 m c).symm]
  refine rd1 (adm m hO) t (V m c main_arg2) (ix4 0 0 k q) _ fun a => ?_
  refine Eq.trans ?_ (congrArg (fun f : Fin 4 → ℕ => f a * S1x1x1024x512.size a + 1 * ((ix4 0 0 k q : S1x1x1024x512.Idx) a).val) (at1 m t h).symm)
  match a with
  | ⟨0, _⟩ => rfl
  | ⟨1, _⟩ => show (ex (counts m 0) (bOf t)).val = (ex (counts m 0) (bOf t)).val * 1 + 1 * 0; omega
  | ⟨2, _⟩ => show k.val = 0 * 1024 + 1 * k.val; omega
  | ⟨3, _⟩ => show 512 * (t.val % 7) + q.val = t.val % 7 * 512 + 1 * q.val; omega

theorem blk2 (hO : Ok m) (c : Dev nD) (t : Fin (cfgM m hO).N)
    (h : Slots.tabV (counts m 0) (ix1 (bOf t)) = 1#32 ∨ Slots.tabV (counts m 0) (ix1 (bOf t)) = 2#32)
    (k : Fin 1024) (q : Fin 512) (hq : 512 * (t.val % 7) + q.val < 3584) :
    ib2 m hO c t (ix4 0 0 k q) = aW3 m c (ix4 0 (ex (counts m 0) (bOf t)) k ⟨512 * (t.val % 7) + q.val, hq⟩) := by
  rw [show aW3 m c = V m c main_arg3 from (V_main_arg3 m c).symm]
  refine rd2 (adm m hO) t (V m c main_arg3) (ix4 0 0 k q) _ fun a => ?_
  refine Eq.trans ?_ (congrArg (fun f : Fin 4 → ℕ => f a * S1x1x1024x512.size a + 1 * ((ix4 0 0 k q : S1x1x1024x512.Idx) a).val) (at2 m t h).symm)
  match a with
  | ⟨0, _⟩ => rfl
  | ⟨1, _⟩ => show (ex (counts m 0) (bOf t)).val = (ex (counts m 0) (bOf t)).val * 1 + 1 * 0; omega
  | ⟨2, _⟩ => show k.val = 0 * 1024 + 1 * k.val; omega
  | ⟨3, _⟩ => show 512 * (t.val % 7) + q.val = t.val % 7 * 512 + 1 * q.val; omega

theorem blk3 (hO : Ok m) (c : Dev nD) (t : Fin (cfgM m hO).N)
    (h : Slots.tabV (counts m 0) (ix1 (bOf t)) = 1#32 ∨ Slots.tabV (counts m 0) (ix1 (bOf t)) = 2#32)
    (q : Fin 512) (j : Fin 1024) (hq : 512 * (t.val % 7) + q.val < 3584) :
    ib3 m hO c t (ix4 0 0 q j) = aW2 m c (ix4 0 (ex (counts m 0) (bOf t)) ⟨512 * (t.val % 7) + q.val, hq⟩ j) := by
  rw [show aW2 m c = V m c main_arg4 from (V_main_arg4 m c).symm]
  refine rd3 (adm m hO) t (V m c main_arg4) (ix4 0 0 q j) _ fun a => ?_
  refine Eq.trans ?_ (congrArg (fun f : Fin 4 → ℕ => f a * S1x1x512x1024.size a + 1 * ((ix4 0 0 q j : S1x1x512x1024.Idx) a).val) (at3 m t h).symm)
  match a with
  | ⟨0, _⟩ => rfl
  | ⟨1, _⟩ => show (ex (counts m 0) (bOf t)).val = (ex (counts m 0) (bOf t)).val * 1 + 1 * 0; omega
  | ⟨2, _⟩ => show 512 * (t.val % 7) + q.val = t.val % 7 * 512 + 1 * q.val; omega
  | ⟨3, _⟩ => show j.val = 0 * 1024 + 1 * j.val; omega

/-- One hidden column's share, from the blocks at point `t`. -/
theorem col_blk (hO : Ok m) (c : Dev nD) (t : Fin (cfgM m hO).N)
    (h : Slots.tabV (counts m 0) (ix1 (bOf t)) = 1#32 ∨ Slots.tabV (counts m 0) (ix1 (bOf t)) = 2#32)
    (i j : Fin 1024) (q : Fin 512) (hq : 512 * (t.val % 7) + q.val < 3584) :
    hid (fun k => ib0 m hO c t (ix2 i k)) (fun k => ib1 m hO c t (ix4 0 0 k q))
        (fun k => ib2 m hO c t (ix4 0 0 k q)) * ib3 m hO c t (ix4 0 0 q j)
      = col (aX m c) (aW1 m c) (aW3 m c) (aW2 m c) (ex (counts m 0) (bOf t)) (rowOf (bOf t) i) j ⟨512 * (t.val % 7) + q.val, hq⟩ := by
  unfold col
  refine congrArg₂ (· * ·) ?_ (blk3 m hO c t h q j hq)
  rw [show (fun k => ib0 m hO c t (ix2 i k)) = fun k => aX m c (ix2 (rowOf (bOf t) i) k) from funext fun k => blk0 m hO c t i k]
  exact congrArg₂ (hid _) (funext fun k => blk1 m hO c t h k q hq) (funext fun k => blk2 m hO c t h k q hq)

/-- One tile's step takes the sum over the first `t % 7` tiles to the sum over one more, on a row the block's halves cover. -/
theorem step_blk (hO : Ok m) (t : Fin (cfgM m hO).N) (acc : Vec Ideal S1024x1024 .f32) (i j : Fin 1024) (h : Used m (bOf t) i)
    (ha : acc (ix2 i j) = part (col (aX m 0) (aW1 m 0) (aW3 m 0) (aW2 m 0) (ex (counts m 0) (bOf t)) (rowOf (bOf t) i) j) (t.val % 7)) :
    pstep m hO 0 t acc (ix2 i j)
      = part (col (aX m 0) (aW1 m 0) (aW3 m 0) (aW2 m 0) (ex (counts m 0) (bOf t)) (rowOf (bOf t) i) j) (t.val % 7 + 1) := by
  have h7 : t.val % 7 < 7 := Nat.mod_lt _ (by decide)
  have hv := h.tab
  unfold pstep
  rw [part_succ _ _ h7, ← ha, tv_eq m t]
  refine (stepV_apply _ _ _ _ _ acc i j h).trans (congrArg (acc (ix2 i j) + ·) (congrArg₂ (· + ·) ?_ ?_))
  · exact Finset.sum_congr rfl fun q _ => col_blk m hO 0 t hv i j ⟨q.val, by omega⟩ (by dsimp only; omega)
  · refine Finset.sum_congr rfl fun q _ => (col_blk m hO 0 t hv i j ⟨256 + q.val, by omega⟩ (by dsimp only; omega)).trans ?_
    exact congrArg _ (Fin.ext (by show 512 * (t.val % 7) + (256 + q.val) = 512 * (t.val % 7) + 256 + q.val; omega))

/-- After point `n` the accumulator holds the tiles so far, on the rows the block's halves cover. -/
theorem inv (hO : Ok m) : ∀ (n : ℕ) (hn : n < (cfgM m hO).N) (i j : Fin 1024), Used m (bOf ⟨n, hn⟩) i →
    accAt m hO 0 n hn (ix2 i j)
      = part (col (aX m 0) (aW1 m 0) (aW3 m 0) (aW2 m 0) (ex (counts m 0) (bOf ⟨n, hn⟩)) (rowOf (bOf ⟨n, hn⟩) i) j) (n % 7 + 1) := by
  intro n
  induction n using Nat.strong_induction_on with
  | _ n ih =>
  intro hn i j h
  by_cases h0 : n % 7 = 0
  · rw [accAt_first m hO 0 ⟨n, hn⟩ h0]
    refine step_blk m hO ⟨n, hn⟩ _ i j h ?_
    rw [show ((⟨n, hn⟩ : Fin (cfgM m hO).N).val % 7) = 0 from h0, part_zero]
    exact Ideal.ofBits_zero_f32
  · have hp : n - 1 < (cfgM m hO).N := by omega
    have hb : bOf ⟨n - 1, hp⟩ = bOf ⟨n, hn⟩ := Fin.ext (by show (n - 1) / 7 = n / 7; omega)
    have hm : (n - 1) % 7 + 1 = n % 7 := by omega
    have p := ih (n - 1) (by omega) hp i j (by rw [hb]; exact h)
    rw [hb, hm] at p
    rw [accAt_next m hO 0 ⟨n, hn⟩ h0]
    exact step_blk m hO ⟨n, hn⟩ _ i j h p

theorem accAt_congr (hO : Ok m) (c : Dev nD) {n n' : ℕ} (e : n = n') (hn : n < (cfgM m hO).N) (hn' : n' < (cfgM m hO).N) :
    accAt m hO c n hn = accAt m hO c n' hn' := by subst e; rfl

/-- The last point of a row's block. -/
theorem lastPt (hO : Ok m) (r : Fin 40960) : 7 * (r.val / 1024) + 6 < (cfgM m hO).N :=
  lt_of_lt_of_eq (by omega) N_0.symm

/-- What the result array ends with: each row as its block's last point leaves it. -/
def G (hO : Ok m) (c : Dev nD) : S40960x1024.Idx → EReal := fun y =>
  accAt m hO c (7 * ((y 0).val / 1024) + 6) (lastPt m hO (y 0)) (ix2 ⟨(y 0).val % 1024, Nat.mod_lt _ (by decide)⟩ (y 1))

/-- Block `t / 7` of it, read at row `p` and column `q`. -/
theorem read_G (hO : Ok m) (c : Dev nD) (t : Fin (cfgM m hO).N) (h6 : t.val % 7 = 6) (p q : Fin 1024) :
    (((cfgM m hO).win 4).blk t).view.read (Elt Ideal) (G m hO c) (ix2 p q) = accAt m hO c t.val t.isLt (ix2 p q) := by
  refine (rd4 (adm m hO) t (G m hO c) (ix2 p q) (ix2 (rowOf (bOf t) p) q) fun a => ?_).trans ?_
  · rw [at4]
    match a with
    | ⟨0, _⟩ => show t.val / 7 * 1024 + p.val = t.val / 7 * 1024 + 1 * p.val; omega
    | ⟨1, _⟩ => show q.val = 0 * 1024 + 1 * q.val; omega
  · have hp := p.isLt
    have hn : 7 * (((rowOf (bOf t) p).val) / 1024) + 6 = t.val := by show 7 * ((t.val / 7 * 1024 + p.val) / 1024) + 6 = t.val; omega
    refine (congrFun (accAt_congr m hO c hn (lastPt m hO (rowOf (bOf t) p)) t.isLt) _).trans ?_
    exact congrArg (fun i => accAt m hO c t.val t.isLt (ix2 i q)) (Fin.ext (by show (t.val / 7 * 1024 + p.val) % 1024 = p.val; omega))

/-- A point that writes back writes its block of it. -/
theorem flushed_eq (hO : Ok m) (c : Dev nD) (t : Fin (cfgM m hO).N) (hf : ((cfgM m hO).win 4).flush t = true) :
    (pdat m hO 0 c).flushed 4 t = (((cfgM m hO).win 4).blk t).view.read (Elt Ideal) (G m hO c) := by
  have h6 : t.val % 7 = 6 := (flush0_4 (adm m hO) t).mp hf
  show ((cfgM m hO).win 4).cut (grid0.coords t) ((pdat m hO 0 c).after 4 t) = _
  rw [af4]
  refine funext fun (y : S1024x1024.Idx) => ?_
  obtain ⟨p, q, rfl⟩ : ∃ (p q : Fin 1024), y = ix2 p q := ⟨_, _, eq_ix2 y⟩
  exact (ct4 (adm m hO) t (accAt m hO c t.val t.isLt) (ix2 p q)).trans (read_G m hO c t h6 p q).symm

/-- The result array ends so: every row lies in the block its block's last point writes back. -/
theorem final (hO : Ok m) (c : Dev nD) : (pdat m hO 0 c).arrAt 4 (cfgM m hO).N = G m hO c :=
  (pdat m hO 0 c).arrAt_eq_of_cover 4 (G m hO c) (flushed_eq m hO c) fun (i : S40960x1024.Idx) => by
    have h0 : (i 0 : Nat) < 40960 := (i 0).isLt
    have h1 : (i 1 : Nat) < 1024 := (i 1).isLt
    have ht : 7 * ((i 0 : Nat) / 1024) + 6 < (cfgM m hO).N := lt_of_lt_of_eq (by omega) N_0.symm
    refine ⟨⟨7 * ((i 0 : Nat) / 1024) + 6, ht⟩, (flush0_4 (adm m hO) _).mpr (by dsimp only; omega), ?_⟩
    show i ∈ ((View.whole main_v48).slice (Rect.block (s := S40960x1024) S1024x1024.size (cc0_transform_4 (grid0.coords ⟨7 * ((i 0 : Nat) / 1024) + 6, ht⟩)) (hinb0_4 _))).set
    rw [View.set_slice_whole]
    refine Rect.mem_set_unit.mpr ?_
    have e := at4 ⟨7 * ((i 0 : Nat) / 1024) + 6, ht⟩
    intro a
    match a with
    | ⟨0, _⟩ =>
      show cc0_transform_4 (grid0.coords ⟨7 * ((i 0 : Nat) / 1024) + 6, ht⟩) 0 * 1024 ≤ (i 0 : Nat) ∧ (i 0 : Nat) < cc0_transform_4 (grid0.coords ⟨7 * ((i 0 : Nat) / 1024) + 6, ht⟩) 0 * 1024 + 1024
      rw [e]
      show (7 * ((i 0 : Nat) / 1024) + 6) / 7 * 1024 ≤ (i 0 : Nat) ∧ (i 0 : Nat) < (7 * ((i 0 : Nat) / 1024) + 6) / 7 * 1024 + 1024
      omega
    | ⟨1, _⟩ =>
      show cc0_transform_4 (grid0.coords ⟨7 * ((i 0 : Nat) / 1024) + 6, ht⟩) 1 * 1024 ≤ (i 1 : Nat) ∧ (i 1 : Nat) < cc0_transform_4 (grid0.coords ⟨7 * ((i 0 : Nat) / 1024) + 6, ht⟩) 1 * 1024 + 1024
      rw [e]
      show 0 * 1024 ≤ (i 1 : Nat) ∧ (i 1 : Nat) < 0 * 1024 + 1024
      omega

/-- On a row the halves of its block cover, the result is the expert's. -/
theorem G_used (hO : Ok m) (r : Fin 40960) (j : Fin 1024)
    (h : (Slots.tabV (counts m 0) (ix1 (blkOf r)) = 1#32 ∧ r.val % 1024 < 512) ∨ Slots.tabV (counts m 0) (ix1 (blkOf r)) = 2#32) :
    G m hO 0 (ix2 r j) = spec (aX m 0) (counts m 0) (aW1 m 0) (aW3 m 0) (aW2 m 0) (ix2 r j) := by
  have hr := r.isLt
  have hb : bOf ⟨7 * (r.val / 1024) + 6, lastPt m hO r⟩ = blkOf r := Fin.ext (by show (7 * (r.val / 1024) + 6) / 7 = r.val / 1024; omega)
  have hrow : rowOf (blkOf r) ⟨r.val % 1024, Nat.mod_lt _ (by decide)⟩ = r := Fin.ext (by show r.val / 1024 * 1024 + r.val % 1024 = r.val; omega)
  have e := inv m hO (7 * (r.val / 1024) + 6) (lastPt m hO r) ⟨r.val % 1024, Nat.mod_lt _ (by decide)⟩ j (by rw [hb]; exact h)
  rw [hb, hrow, show (7 * (r.val / 1024) + 6) % 7 + 1 = 7 by omega, part_seven] at e
  exact e

end Cert.KernelIdeal.Hand

end
-- ==== Proof.ExpertsRef.lean ====
/-
  The experts' reference read entry by entry: its index columns, the weights it takes by them and its three products.
-/
module

public import proofs.«01_k».proof.Proof.Experts
public import proofs.«01_k».proof.Proof.Gen.ReferenceIdeal.Run
public import proofs.«01_k».proof.Proof.Gen.ReferenceIdeal.Read

@[expose] public section

noncomputable section

open Idealize.ShloMosaic Idealize.ShloMosaic.TcCoe Idealize.SL.Sem Idealize.ShloMosaic.ValueIdx

namespace Cert.ReferenceIdeal.Hand

open Cert.ReferenceIdeal Cert.ReferenceIdeal.Read Cert.Common Cert.Experts

/-- Four index columns side by side, read in one row: the first, the third and the fourth are zero, the second is kept. -/
theorem cols (f0 f1 f2 f3 : S40x1.Idx → BitVec 32)
    (h : Shape.Concatenates [S40x1, S40x1, S40x1, S40x1] S40x4 1) (b : Fin 40) :
    concatenate S40x4 1 [⟨S40x1, f0⟩, ⟨S40x1, f1⟩, ⟨S40x1, f2⟩, ⟨S40x1, f3⟩] h (ix2 b 0) = f0 (ix2 b 0)
    ∧ concatenate S40x4 1 [⟨S40x1, f0⟩, ⟨S40x1, f1⟩, ⟨S40x1, f2⟩, ⟨S40x1, f3⟩] h (ix2 b 1) = f1 (ix2 b 0) := by
  constructor
  · refine concatenate_apply_piece (t := S40x4) 1 [⟨S40x1, f0⟩, ⟨S40x1, f1⟩, ⟨S40x1, f2⟩, ⟨S40x1, f3⟩] h (ix2 b 0) 0 (by show 0 < 4; omega) S40x1 f0 rfl rfl 0 rfl (ix2 b 0) ?_ rfl
    intro a ha
    match a with
    | ⟨0, _⟩ => rfl
    | ⟨1, _⟩ => exact absurd rfl ha
  · refine concatenate_apply_piece (t := S40x4) 1 [⟨S40x1, f0⟩, ⟨S40x1, f1⟩, ⟨S40x1, f2⟩, ⟨S40x1, f3⟩] h (ix2 b 1) 1 (by show 1 < 4; omega) S40x1 f1 rfl rfl 1 rfl (ix2 b 0) ?_ rfl
    intro a ha
    match a with
    | ⟨0, _⟩ => rfl
    | ⟨1, _⟩ => exact absurd rfl ha

/-- A taken block of a first or third weight: layer zero, the expert named by the second index column. -/
theorem take13 {α : Type} (x : S2x8x1024x3584.Idx → α) (idx : S40x4.Idx → BitVec 32) (b : Fin 40) (e : Fin 8)
    (k : Fin 1024) (q : Fin 3584) (h0 : idx (ix2 b 0) = 0#32) (h1 : (idx (ix2 b 1)).toInt.toNat = e.val) :
    Host.gather gather_S2x8x1024x3584_S40x4_S40x1x1x1024x3584_1234_n_n_n_0123_1_1110243584 x idx (ix5 b 0 0 k q)
      = x (ix4 0 e k q) := by
  have hm : ∀ a, a ∈ GatherDims.startIndexMap gather_S2x8x1024x3584_S40x4_S40x1x1x1024x3584_1234_n_n_n_0123_1_1110243584 := by decide
  have hk : ∀ a, a ∈ GatherDims.sKept gather_S2x8x1024x3584_S40x4_S40x1x1x1024x3584_1234_n_n_n_0123_1_1110243584 := by decide
  unfold Host.gather
  refine congrArg x (funext fun a => Fin.ext ?_)
  show GatherDims.start _ _ _ a + GatherDims.batchCoord _ _ a + GatherDims.offCoord _ _ a = _
  rw [GatherDims.batchCoord_eq_zero _ _ _ List.not_mem_nil]
  unfold GatherDims.start GatherDims.offCoord
  match a with
  | ⟨0, _⟩ =>
    rw [dif_pos (hm _), dif_pos (hk _)]
    rw [show GatherDims.siIdx gather_S2x8x1024x3584_S40x4_S40x1x1x1024x3584_1234_n_n_n_0123_1_1110243584 (ix5 b 0 0 k q) ⟨_, _⟩ = ix2 b 0 from by
      funext c; refine Fin.ext ?_
      match c with
      | ⟨0, _⟩ => rfl
      | ⟨1, _⟩ => rfl, h0]
    rfl
  | ⟨1, _⟩ =>
    rw [dif_pos (hm _), dif_pos (hk _)]
    rw [show GatherDims.siIdx gather_S2x8x1024x3584_S40x4_S40x1x1x1024x3584_1234_n_n_n_0123_1_1110243584 (ix5 b 0 0 k q) ⟨_, _⟩ = ix2 b 1 from by
      funext c; refine Fin.ext ?_
      match c with
      | ⟨0, _⟩ => rfl
      | ⟨1, _⟩ => rfl, h1]
    show min e.val 7 + 0 + 0 = e.val
    have := e.isLt
    omega
  | ⟨2, _⟩ =>
    rw [dif_pos (hm _), dif_pos (hk _)]
    have z : Shape.size S2x8x1024x3584 2 - GatherDims.sliceSizes gather_S2x8x1024x3584_S40x4_S40x1x1x1024x3584_1234_n_n_n_0123_1_1110243584 2 = 0 := Nat.sub_self 1024
    show min _ (Shape.size S2x8x1024x3584 2 - GatherDims.sliceSizes gather_S2x8x1024x3584_S40x4_S40x1x1x1024x3584_1234_n_n_n_0123_1_1110243584 2) + 0 + k.val = k.val
    rw [z]; omega
  | ⟨3, _⟩ =>
    rw [dif_pos (hm _), dif_pos (hk _)]
    have z : Shape.size S2x8x1024x3584 3 - GatherDims.sliceSizes gather_S2x8x1024x3584_S40x4_S40x1x1x1024x3584_1234_n_n_n_0123_1_1110243584 3 = 0 := Nat.sub_self 3584
    show min _ (Shape.size S2x8x1024x3584 3 - GatherDims.sliceSizes gather_S2x8x1024x3584_S40x4_S40x1x1x1024x3584_1234_n_n_n_0123_1_1110243584 3) + 0 + q.val = q.val
    rw [z]; omega

/-- A taken block of a second weight: layer zero, the expert named by the second index column. -/
theorem take2 {α : Type} (x : S2x8x3584x1024.Idx → α) (idx : S40x4.Idx → BitVec 32) (b : Fin 40) (e : Fin 8)
    (k : Fin 3584) (q : Fin 1024) (h0 : idx (ix2 b 0) = 0#32) (h1 : (idx (ix2 b 1)).toInt.toNat = e.val) :
    Host.gather gather_S2x8x3584x1024_S40x4_S40x1x1x3584x1024_1234_n_n_n_0123_1_1135841024 x idx (ix5 b 0 0 k q)
      = x (ix4 0 e k q) := by
  have hm : ∀ a, a ∈ GatherDims.startIndexMap gather_S2x8x3584x1024_S40x4_S40x1x1x3584x1024_1234_n_n_n_0123_1_1135841024 := by decide
  have hk : ∀ a, a ∈ GatherDims.sKept gather_S2x8x3584x1024_S40x4_S40x1x1x3584x1024_1234_n_n_n_0123_1_1135841024 := by decide
  unfold Host.gather
  refine congrArg x (funext fun a => Fin.ext ?_)
  show GatherDims.start _ _ _ a + GatherDims.batchCoord _ _ a + GatherDims.offCoord _ _ a = _
  rw [GatherDims.batchCoord_eq_zero _ _ _ List.not_mem_nil]
  unfold GatherDims.start GatherDims.offCoord
  match a with
  | ⟨0, _⟩ =>
    rw [dif_pos (hm _), dif_pos (hk _)]
    rw [show GatherDims.siIdx gather_S2x8x3584x1024_S40x4_S40x1x1x3584x1024_1234_n_n_n_0123_1_1135841024 (ix5 b 0 0 k q) ⟨_, _⟩ = ix2 b 0 from by
      funext c; refine Fin.ext ?_
      match c with
      | ⟨0, _⟩ => rfl
      | ⟨1, _⟩ => rfl, h0]
    rfl
  | ⟨1, _⟩ =>
    rw [dif_pos (hm _), dif_pos (hk _)]
    rw [show GatherDims.siIdx gather_S2x8x3584x1024_S40x4_S40x1x1x3584x1024_1234_n_n_n_0123_1_1135841024 (ix5 b 0 0 k q) ⟨_, _⟩ = ix2 b 1 from by
      funext c; refine Fin.ext ?_
      match c with
      | ⟨0, _⟩ => rfl
      | ⟨1, _⟩ => rfl, h1]
    show min e.val 7 + 0 + 0 = e.val
    have := e.isLt
    omega
  | ⟨2, _⟩ =>
    rw [dif_pos (hm _), dif_pos (hk _)]
    have z : Shape.size S2x8x3584x1024 2 - GatherDims.sliceSizes gather_S2x8x3584x1024_S40x4_S40x1x1x3584x1024_1234_n_n_n_0123_1_1135841024 2 = 0 := Nat.sub_self 3584
    show min _ (Shape.size S2x8x3584x1024 2 - GatherDims.sliceSizes gather_S2x8x3584x1024_S40x4_S40x1x1x3584x1024_1234_n_n_n_0123_1_1135841024 2) + 0 + k.val = k.val
    rw [z]; omega
  | ⟨3, _⟩ =>
    rw [dif_pos (hm _), dif_pos (hk _)]
    have z : Shape.size S2x8x3584x1024 3 - GatherDims.sliceSizes gather_S2x8x3584x1024_S40x4_S40x1x1x3584x1024_1234_n_n_n_0123_1_1135841024 3 = 0 := Nat.sub_self 1024
    show min _ (Shape.size S2x8x3584x1024 3 - GatherDims.sliceSizes gather_S2x8x3584x1024_S40x4_S40x1x1x3584x1024_1234_n_n_n_0123_1_1135841024 3) + 0 + q.val = q.val
    rw [z]; omega

/-- The reference's table of experts is the call's. -/
theorem v16_eq (x1 : S8.Idx → BitVec 32) : val_main_v16 (F := Ideal) x1 = Slots.tabE x1 := by
  unfold Slots.tabE
  rw [Slots.base_eq, ← Slots.clip_eq]
  rfl

/-- A flat place's block. -/
theorem flat (b r : ℕ) (h : r < 3670016) (n : ℕ) (hn : n = b * 3670016 + r) : n / 3670016 = b := by omega

/-- An index that is not negative is not wrapped. -/
theorem wrap (x : BitVec 32) (h : x.toNat ≤ 7) : Scalar.select (Scalar.cmpi .slt x 0#32) (Scalar.addi x 8#32) x = x := by
  have all : ∀ a : Fin 8, Scalar.select (Scalar.cmpi .slt (BitVec.ofNat 32 a.val) 0#32) (Scalar.addi (BitVec.ofNat 32 a.val) 8#32)
      (BitVec.ofNat 32 a.val) = BitVec.ofNat 32 a.val := by decide
  have e : x = BitVec.ofNat 32 x.toNat := by simp
  rw [e]; exact all ⟨x.toNat, by omega⟩

/-- A table entry read as an index is its expert. -/
theorem entry (x1 : S8.Idx → BitVec 32) (b : Fin 40) : (@BitVec.toInt 32 (Slots.tabE x1 (ix1 b))).toNat = (ex x1 b).val := by
  have h := Slots.tabE_le x1 b
  show _ = BitVec.toNat (w := 32) (Slots.tabE x1 (ix1 b))
  have e : @BitVec.toInt 32 (Slots.tabE x1 (ix1 b)) = (BitVec.toNat (w := 32) (Slots.tabE x1 (ix1 b)) : Int) :=
    BitVec.toInt_eq_toNat_of_lt (by omega)
  rw [e]; rfl

/-- The first weights' expert column. -/
theorem v26_eq (x1 : S8.Idx → BitVec 32) (b : Fin 40) : val_main_v26 (F := Ideal) x1 (ix1 b) = Slots.tabE x1 (ix1 b) := by
  rw [val_main_v26_apply, v16_eq]
  refine Eq.trans ?_ (wrap (Slots.tabE x1 (ix1 b)) (Slots.tabE_le x1 b))
  rw [val_main_v23_apply, val_main_v25_apply, v16_eq]
  rfl

/-- The first weights' index columns. -/
theorem v37_at (x1 : S8.Idx → BitVec 32) (b : Fin 40) :
    val_main_v37 (F := Ideal) x1 (ix2 b 0) = 0#32 ∧ (@BitVec.toInt 32 (val_main_v37 (F := Ideal) x1 (ix2 b 1))).toNat = (ex x1 b).val := by
  unfold val_main_v37
  have h := cols (val_main_v33 (F := Ideal)) (val_main_v34 (F := Ideal) x1) (val_main_v35 (F := Ideal)) (val_main_v36 (F := Ideal))
    Facts₀.concatenates_S40x1_S40x1_S40x1_S40x1_S40x4_d1 b
  refine ⟨h.1.trans ?_, ?_⟩
  · rw [val_main_v33_apply]; rfl
  · have e : val_main_v34 (F := Ideal) x1 (ix2 b 0) = Slots.tabE x1 (ix1 b) := by
      rw [val_main_v34_apply]
      refine (congrArg (val_main_v26 (F := Ideal) x1) (funext fun a => Fin.ext ?_)).trans (v26_eq x1 b)
      match a with
      | ⟨0, _⟩ => rfl
    refine (congrArg (fun z => (@BitVec.toInt 32 z).toNat) (h.2.trans e)).trans (entry x1 b)

/-- The third weights' expert column. -/
theorem v49_eq (x1 : S8.Idx → BitVec 32) (b : Fin 40) : val_main_v49 (F := Ideal) x1 (ix1 b) = Slots.tabE x1 (ix1 b) := by
  rw [val_main_v49_apply, v16_eq]
  refine Eq.trans ?_ (wrap (Slots.tabE x1 (ix1 b)) (Slots.tabE_le x1 b))
  rw [val_main_v46_apply, val_main_v48_apply, v16_eq]
  rfl

/-- The third weights' index columns. -/
theorem v60_at (x1 : S8.Idx → BitVec 32) (b : Fin 40) :
    val_main_v60 (F := Ideal) x1 (ix2 b 0) = 0#32 ∧ (@BitVec.toInt 32 (val_main_v60 (F := Ideal) x1 (ix2 b 1))).toNat = (ex x1 b).val := by
  unfold val_main_v60
  have h := cols (val_main_v56 (F := Ideal)) (val_main_v57 (F := Ideal) x1) (val_main_v58 (F := Ideal)) (val_main_v59 (F := Ideal))
    Facts₀.concatenates_S40x1_S40x1_S40x1_S40x1_S40x4_d1 b
  refine ⟨h.1.trans ?_, ?_⟩
  · rw [val_main_v56_apply]; rfl
  · have e : val_main_v57 (F := Ideal) x1 (ix2 b 0) = Slots.tabE x1 (ix1 b) := by
      rw [val_main_v57_apply]
      refine (congrArg (val_main_v49 (F := Ideal) x1) (funext fun a => Fin.ext ?_)).trans (v49_eq x1 b)
      match a with
      | ⟨0, _⟩ => rfl
    refine (congrArg (fun z => (@BitVec.toInt 32 z).toNat) (h.2.trans e)).trans (entry x1 b)

/-- The second weights' expert column. -/
theorem v72_eq (x1 : S8.Idx → BitVec 32) (b : Fin 40) : val_main_v72 (F := Ideal) x1 (ix1 b) = Slots.tabE x1 (ix1 b) := by
  rw [val_main_v72_apply, v16_eq]
  refine Eq.trans ?_ (wrap (Slots.tabE x1 (ix1 b)) (Slots.tabE_le x1 b))
  rw [val_main_v69_apply, val_main_v71_apply, v16_eq]
  rfl

/-- The second weights' index columns. -/
theorem v83_at (x1 : S8.Idx → BitVec 32) (b : Fin 40) :
    val_main_v83 (F := Ideal) x1 (ix2 b 0) = 0#32 ∧ (@BitVec.toInt 32 (val_main_v83 (F := Ideal) x1 (ix2 b 1))).toNat = (ex x1 b).val := by
  unfold val_main_v83
  have h := cols (val_main_v79 (F := Ideal)) (val_main_v80 (F := Ideal) x1) (val_main_v81 (F := Ideal)) (val_main_v82 (F := Ideal))
    Facts₀.concatenates_S40x1_S40x1_S40x1_S40x1_S40x4_d1 b
  refine ⟨h.1.trans ?_, ?_⟩
  · rw [val_main_v79_apply]; rfl
  · have e : val_main_v80 (F := Ideal) x1 (ix2 b 0) = Slots.tabE x1 (ix1 b) := by
      rw [val_main_v80_apply]
      refine (congrArg (val_main_v72 (F := Ideal) x1) (funext fun a => Fin.ext ?_)).trans (v72_eq x1 b)
      match a with
      | ⟨0, _⟩ => rfl
    refine (congrArg (fun z => (@BitVec.toInt 32 z).toNat) (h.2.trans e)).trans (entry x1 b)

/-- The slots of block `b`. -/
theorem v18_at (x0 : S40960x1024.Idx → EReal) (b : Fin 40) (i k : Fin 1024) :
    val_main_v18 (F := Ideal) x0 (ix3 b i k) = x0 (ix2 (rowOf b i) k) := by
  rw [val_main_v18_apply, val_main_v17_apply]
  refine congrArg x0 (funext fun a => Fin.ext ?_)
  match a with
  | ⟨0, _⟩ => show ((b.val * 1024 + i.val) * 1024 + k.val) / 1024 = b.val * 1024 + i.val; omega
  | ⟨1, _⟩ => show ((b.val * 1024 + i.val) * 1024 + k.val) % 1024 = k.val; omega

/-- The first weights of block `b`. -/
theorem v39_at (x1 : S8.Idx → BitVec 32) (w : S2x8x1024x3584.Idx → EReal) (b : Fin 40) (k : Fin 1024) (q : Fin 3584) :
    val_main_v39 (F := Ideal) x1 w (ix3 b k q) = w (ix4 0 (ex x1 b) k q) := by
  rw [val_main_v39_apply]
  have e : idx_main_v39 (ix3 b k q) = ix5 b 0 0 k q := funext fun a => Fin.ext (by
    match a with
    | ⟨0, _⟩ => exact flat b.val (k.val * 3584 + q.val) (by have := k.isLt; have := q.isLt; omega) _ (by show (b.val * 1024 + k.val) * 3584 + q.val = _; ring)
    | ⟨1, _⟩ => rfl
    | ⟨2, _⟩ => rfl
    | ⟨3, _⟩ => show ((b.val * 1024 + k.val) * 3584 + q.val) / 3584 % 1024 = k.val; omega
    | ⟨4, _⟩ => show ((b.val * 1024 + k.val) * 3584 + q.val) % 3584 = q.val; omega)
  rw [e]
  exact take13 w (val_main_v37 (F := Ideal) x1) b (ex x1 b) k q (v37_at x1 b).1 (v37_at x1 b).2

/-- The first weights' products. -/
theorem v40_at (x0 : S40960x1024.Idx → EReal) (x1 : S8.Idx → BitVec 32) (w : S2x8x1024x3584.Idx → EReal) (b : Fin 40) (i : Fin 1024) (q : Fin 3584) :
    val_main_v40 (F := Ideal) x0 x1 w (ix3 b i q) = ∑ k, x0 (ix2 (rowOf b i) k) * w (ix4 0 (ex x1 b) k q) := by
  rw [val_main_v40_apply]
  refine Finset.sum_congr rfl fun k _ => ?_
  rw [show lidx_main_v40 (ix3 b i q) k = ix3 b i k from funext fun a => Fin.ext (by match a with | ⟨0, _⟩ => rfl | ⟨1, _⟩ => rfl | ⟨2, _⟩ => rfl),
    show ridx_main_v40 (ix3 b i q) k = ix3 b k q from funext fun a => Fin.ext (by match a with | ⟨0, _⟩ => rfl | ⟨1, _⟩ => rfl | ⟨2, _⟩ => rfl),
    v18_at, v39_at]

/-- The third weights of block `b`. -/
theorem v62_at (x1 : S8.Idx → BitVec 32) (w : S2x8x1024x3584.Idx → EReal) (b : Fin 40) (k : Fin 1024) (q : Fin 3584) :
    val_main_v62 (F := Ideal) x1 w (ix3 b k q) = w (ix4 0 (ex x1 b) k q) := by
  rw [val_main_v62_apply]
  have e : idx_main_v62 (ix3 b k q) = ix5 b 0 0 k q := funext fun a => Fin.ext (by
    match a with
    | ⟨0, _⟩ => exact flat b.val (k.val * 3584 + q.val) (by have := k.isLt; have := q.isLt; omega) _ (by show (b.val * 1024 + k.val) * 3584 + q.val = _; ring)
    | ⟨1, _⟩ => rfl
    | ⟨2, _⟩ => rfl
    | ⟨3, _⟩ => show ((b.val * 1024 + k.val) * 3584 + q.val) / 3584 % 1024 = k.val; omega
    | ⟨4, _⟩ => show ((b.val * 1024 + k.val) * 3584 + q.val) % 3584 = q.val; omega)
  rw [e]
  exact take13 w (val_main_v60 (F := Ideal) x1) b (ex x1 b) k q (v60_at x1 b).1 (v60_at x1 b).2

/-- The third weights' products. -/
theorem v63_at (x0 : S40960x1024.Idx → EReal) (x1 : S8.Idx → BitVec 32) (w : S2x8x1024x3584.Idx → EReal) (b : Fin 40) (i : Fin 1024) (q : Fin 3584) :
    val_main_v63 (F := Ideal) x0 x1 w (ix3 b i q) = ∑ k, x0 (ix2 (rowOf b i) k) * w (ix4 0 (ex x1 b) k q) := by
  rw [val_main_v63_apply]
  refine Finset.sum_congr rfl fun k _ => ?_
  rw [show lidx_main_v63 (ix3 b i q) k = ix3 b i k from funext fun a => Fin.ext (by match a with | ⟨0, _⟩ => rfl | ⟨1, _⟩ => rfl | ⟨2, _⟩ => rfl),
    show ridx_main_v63 (ix3 b i q) k = ix3 b k q from funext fun a => Fin.ext (by match a with | ⟨0, _⟩ => rfl | ⟨1, _⟩ => rfl | ⟨2, _⟩ => rfl),
    v18_at, v62_at]

/-- The second weights of block `b`. -/
theorem v85_at (x1 : S8.Idx → BitVec 32) (w : S2x8x3584x1024.Idx → EReal) (b : Fin 40) (k : Fin 3584) (q : Fin 1024) :
    val_main_v85 (F := Ideal) x1 w (ix3 b k q) = w (ix4 0 (ex x1 b) k q) := by
  rw [val_main_v85_apply]
  have e : idx_main_v85 (ix3 b k q) = ix5 b 0 0 k q := funext fun a => Fin.ext (by
    match a with
    | ⟨0, _⟩ => exact flat b.val (k.val * 1024 + q.val) (by have := k.isLt; have := q.isLt; omega) _ (by show (b.val * 3584 + k.val) * 1024 + q.val = _; ring)
    | ⟨1, _⟩ => rfl
    | ⟨2, _⟩ => rfl
    | ⟨3, _⟩ => show ((b.val * 3584 + k.val) * 1024 + q.val) / 1024 % 3584 = k.val; omega
    | ⟨4, _⟩ => show ((b.val * 3584 + k.val) * 1024 + q.val) % 1024 = q.val; omega)
  rw [e]
  exact take2 w (val_main_v83 (F := Ideal) x1) b (ex x1 b) k q (v83_at x1 b).1 (v83_at x1 b).2

variable (x0 : S40960x1024.Idx → EReal) (x1 : S8.Idx → BitVec 32) (x2 x3 : S2x8x1024x3584.Idx → EReal)
  (x4 : S2x8x3584x1024.Idx → EReal)

/-- The gated unit of block `b`. -/
theorem v64_at (b : Fin 40) (i : Fin 1024) (q : Fin 3584) :
    val_main_v64 (F := Ideal) x0 x1 x2 x3 (ix3 b i q)
      = hid (fun k => x0 (ix2 (rowOf b i) k)) (fun k => x2 (ix4 0 (ex x1 b) k q)) (fun k => x3 (ix4 0 (ex x1 b) k q)) := by
  simp only [val_main_v64_apply, val_main_v41_apply, val_main_call3_v5_apply, val_main_call3_v4_apply, val_main_call3_cst_0_apply,
    val_main_call3_v3_apply, val_main_call3_v2_apply, val_main_call3_cst_apply, val_main_call3_v1_apply, val_main_call3_v0_apply,
    v40_at, v63_at]
  rfl

/-- The second weights' products. -/
theorem v86_at (b : Fin 40) (i j : Fin 1024) :
    val_main_v86 (F := Ideal) x0 x1 x2 x3 x4 (ix3 b i j) = ∑ q, col x0 x2 x3 x4 (ex x1 b) (rowOf b i) j q := by
  rw [val_main_v86_apply]
  refine Finset.sum_congr rfl fun k _ => ?_
  rw [show lidx_main_v86 (ix3 b i j) k = ix3 b i k from funext fun a => Fin.ext (by match a with | ⟨0, _⟩ => rfl | ⟨1, _⟩ => rfl | ⟨2, _⟩ => rfl),
    show ridx_main_v86 (ix3 b i j) k = ix3 b k j from funext fun a => Fin.ext (by match a with | ⟨0, _⟩ => rfl | ⟨1, _⟩ => rfl | ⟨2, _⟩ => rfl),
    v64_at, v85_at]
  rfl

/-- The reference's result. -/
theorem result_eq : val_main_v88 (F := Ideal) x0 x1 x2 x3 x4 = spec x0 x1 x2 x3 x4 := by
  refine funext fun (i : S40960x1024.Idx) => ?_
  obtain ⟨p, q, rfl⟩ : ∃ (p : Fin 40960) (q : Fin 1024), i = ix2 p q := ⟨_, _, eq_ix2 i⟩
  rw [val_main_v88_apply, val_main_v87_apply]
  have hp := p.isLt
  have hq := q.isLt
  have e : idx_main_v87 (ix2 p q) = ix3 (blkOf p) ⟨p.val % 1024, by omega⟩ q := funext fun a => Fin.ext (by
    match a with
    | ⟨0, _⟩ => show (p.val * 1024 + q.val) / 1048576 = p.val / 1024; omega
    | ⟨1, _⟩ => show (p.val * 1024 + q.val) / 1024 % 1024 = p.val % 1024; omega
    | ⟨2, _⟩ => show (p.val * 1024 + q.val) % 1024 = q.val; omega)
  have er : rowOf (blkOf p) ⟨p.val % 1024, by omega⟩ = p := Fin.ext (by show p.val / 1024 * 1024 + p.val % 1024 = p.val; omega)
  rw [e, v86_at, er]
  rfl

end Cert.ReferenceIdeal.Hand
-- ==== Proof.Mask.lean ====
/-
  The mask of the rows that hold a token, and what the table of halves says of such a row.
-/
module

public import proofs.«01_k».proof.Proof.Gen.On_holds_token
public import proofs.«01_k».proof.Proof.Slots

@[expose] public section

set_option maxRecDepth 16384

noncomputable section

namespace Cert.Slots

open Cert.On_holds_token
open Idealize.ShloMosaic Idealize.ShloMosaic.ValueIdx

/-- The mask over blocks, rows and columns, from the rows each block has and which blocks are before the end. -/
def mask3 (R : IVec S40 32) (L : IVec S40 1) : IVec S40x1024x1024 1 :=
  broadcastInDim S40x1024x1024 ![0, 1, 2] Facts.bcast_S40x1024x1_S40x1024x1024_0_1_2 (broadcastInDim S40x1024x1 ![0, 1] Facts.bcast_S40x1024_S40x1024x1_0_1
    (andi (cmpi .slt (broadcastInDim S40x1024 ![0, 1] Facts.bcast_S1x1024_S40x1024_0_1 (broadcastInDim S1x1024 ![1] Facts.bcast_S1024_S1x1024_1 (iotaInDim S1024 32 0)))
        (broadcastInDim S40x1024 ![0, 1] Facts.bcast_S40x1_S40x1024_0_1 (broadcastInDim S40x1 ![0] Facts.bcast_S40_S40x1_0 R)))
      (broadcastInDim S40x1024 ![0, 1] Facts.bcast_S40x1_S40x1024_0_1 (broadcastInDim S40x1 ![0] Facts.bcast_S40_S40x1_0 L))))

theorem colB_apply {α : Type} (x : S40.Idx → α) (b : Fin 40) (r : Fin 1024) :
    broadcastInDim S40x1024 ![0, 1] Facts.bcast_S40x1_S40x1024_0_1 (broadcastInDim S40x1 ![0] Facts.bcast_S40_S40x1_0 x) (ix2 b r) = x (ix1 b) := by
  refine (broadcastInDim_apply _ _ _ (ix2 b r) (ix2 b 0) fun a => ?_).trans (broadcastInDim_apply _ _ _ (ix2 b 0) (ix1 b) fun a => ?_)
  · match a with
    | ⟨0, _⟩ => rfl
    | ⟨1, _⟩ => rfl
  · match a with
    | ⟨0, _⟩ => rfl

theorem rowB_apply {α : Type} (x : S1024.Idx → α) (b : Fin 40) (r : Fin 1024) :
    broadcastInDim S40x1024 ![0, 1] Facts.bcast_S1x1024_S40x1024_0_1 (broadcastInDim S1x1024 ![1] Facts.bcast_S1024_S1x1024_1 x) (ix2 b r) = x (ix1 r) := by
  refine (broadcastInDim_apply _ _ _ (ix2 b r) (ix2 0 r) fun a => ?_).trans (broadcastInDim_apply _ _ _ (ix2 0 r) (ix1 r) fun a => ?_)
  · match a with
    | ⟨0, _⟩ => rfl
    | ⟨1, _⟩ => rfl
  · match a with
    | ⟨0, _⟩ => rfl

theorem mask3_apply (R : IVec S40 32) (L : IVec S40 1) (b : Fin 40) (r q : Fin 1024) :
    mask3 R L (ix3 b r q) = IntOp.andi (IntOp.cmpi .slt (BitVec.ofNat 32 r.val) (R (ix1 b))) (L (ix1 b)) := by
  unfold mask3
  refine (broadcastInDim_apply _ _ _ (ix3 b r q) (ix3 b r 0) fun a => ?_).trans ((broadcastInDim_apply _ _ _ (ix3 b r 0) (ix2 b r) fun a => ?_).trans ?_)
  · match a with
    | ⟨0, _⟩ => rfl
    | ⟨1, _⟩ => rfl
    | ⟨2, _⟩ => rfl
  · match a with
    | ⟨0, _⟩ => rfl
    | ⟨1, _⟩ => rfl
  · show IntOp.andi (IntOp.cmpi .slt (broadcastInDim S40x1024 _ _ _ (ix2 b r)) (broadcastInDim S40x1024 _ _ _ (ix2 b r))) (broadcastInDim S40x1024 _ _ _ (ix2 b r)) = _
    rw [colB_apply, colB_apply, rowB_apply]
    rfl

section mask
variable {F : FTy → Type} [FloatOps F]

theorem fn_eq (xs : FVec F S40960x1024 .bf16) (cnt : IVec S8 32) (w1 w3 : FVec F S2x8x1024x3584 .f32) (w2 : FVec F S2x8x3584x1024 .f32) :
    fn (F := F) xs cnt w1 w3 w2 = shapeCast S40960x1024 (mask3 (rowsOf cnt) (live (ends (base cnt)))) Facts.shapeCasts_S40x1024x1024_S40960x1024 := by
  unfold rowsOf tabE
  rw [base_eq]
  rw [← clip_eq]
  rfl

/-- The mask at a row: the row is one its block holds, and the block is before the last expert's end. -/
theorem mask_at (xs : FVec F S40960x1024 .bf16) (cnt : IVec S8 32) (w1 w3 : FVec F S2x8x1024x3584 .f32) (w2 : FVec F S2x8x3584x1024 .f32)
    (p : Fin 40960) (q : Fin 1024) :
    fn (F := F) xs cnt w1 w3 w2 (ix2 p q)
      = IntOp.andi (IntOp.cmpi .slt (BitVec.ofNat 32 (p.val % 1024)) (rowsOf cnt (ix1 ⟨p.val / 1024, by omega⟩)))
          (live (ends (base cnt)) (ix1 ⟨p.val / 1024, by omega⟩)) := by
  rw [fn_eq]
  refine (shapeCast_apply _ Facts.shapeCasts_S40x1024x1024_S40960x1024 (ix2 p q)
    (ix3 ⟨p.val / 1024, by omega⟩ ⟨p.val % 1024, by omega⟩ q) ?_).trans (mask3_apply _ _ _ _ _)
  rw [Shape.rowMajor_val_two, Shape.rowMajor_val_three]
  show (p.val / 1024 * 1024 + p.val % 1024) * 1024 + q.val = p.val * 1024 + q.val
  rw [Nat.div_add_mod']

/-- A row of the mask lies in the first half of its block, with one half to do, or its block has both halves to do. -/
theorem used (xs : FVec F S40960x1024 .bf16) (cnt : IVec S8 32) (w1 w3 : FVec F S2x8x1024x3584 .f32) (w2 : FVec F S2x8x3584x1024 .f32)
    (p : Fin 40960) (q : Fin 1024) (h : fn (F := F) xs cnt w1 w3 w2 (ix2 p q) = 1#1) :
    (tabV cnt (ix1 ⟨p.val / 1024, by omega⟩) = 1#32 ∧ p.val % 1024 < 512) ∨ tabV cnt (ix1 ⟨p.val / 1024, by omega⟩) = 2#32 := by
  rw [mask_at] at h
  have both : ∀ a b : BitVec 1, IntOp.andi a b = 1#1 → a = 1#1 ∧ b = 1#1 := by decide
  have hb := both _ _ h
  exact halves_spec _ _ _ _ (by omega) hb.2 hb.1

end mask

end Cert.Slots

end
-- ==== Proof.FfnCases.lean ====
/-
  The feed-forward kernel, one grid point at a time: what each of the three cases of its body leaves in the two
  scratch buffers and in the output block, as terms of the input blocks.
-/
module

public import proofs.«01_k».proof.Proof.Common
public import proofs.«01_k».proof.Proof.Gen.Kernel2Ideal.Value
public import Idealize.ShloMosaic.Lib.Tactic

@[expose] public section

noncomputable section

namespace Cert.Kernel2Ideal.Hand

open Cert.Kernel2Ideal Cert.Kernel2Ideal.Gen
open Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- The left and right halves of a block of columns, and the upper and lower halves of a block of rows. -/
abbrev colsL : Rect S1x1024x512 := Rect.unit (s := S1x1024x512) ![0, 0, 0] S1x1024x256.size inb_S1x1024x512_S1x1024x256_0_0_0
abbrev colsR : Rect S1x1024x512 := Rect.unit (s := S1x1024x512) ![0, 0, 256] S1x1024x256.size inb_S1x1024x512_S1x1024x256_0_0_256
abbrev rowsL : Rect S1x512x1024 := Rect.unit (s := S1x512x1024) ![0, 0, 0] S1x256x1024.size inb_S1x512x1024_S1x256x1024_0_0_0
abbrev rowsR : Rect S1x512x1024 := Rect.unit (s := S1x512x1024) ![0, 256, 0] S1x256x1024.size inb_S1x512x1024_S1x256x1024_0_256_0

/-- One tile's step: the accumulator plus the tile's two halves, each the gated unit of 256 columns times its rows of the
    second weights. -/
def step (xn : Vec F S1024x1024 .bf16) (acc : Vec F S1024x1024 .f32) (w1 w3 : Vec F S1x1024x512 .f32) (w2 : Vec F S1x512x1024 .f32) :
    FVec F S1024x1024 .f32 :=
  k0_pay1 acc xn (k0_pay4 xn (View.ld w1 colsL) (View.ld w3 colsL) (View.ld w2 rowsL)) (k0_pay5 xn (View.ld w1 colsR))
    (View.ld w3 colsR) (View.ld w2 rowsR)

variable (c : Dev nD) (i : grid0.Coords) (a2 : Memref sig .tc .vmem S1024x1024 .f32) (h2 : a2.IsWhole)
  (a3 : Memref sig .tc .vmem S1x1024 .f32) (h3 : a3.IsWhole) (a4 : Memref sig .tc .vmem S1x1024x512 .f32) (h4 : a4.IsWhole)
  (a5 : Memref sig .tc .vmem S1x1024x512 .f32) (h5 : a5.IsWhole) (a6 : Memref sig .tc .vmem S1x512x1024 .f32) (h6 : a6.IsWhole)
  (a7 : Memref sig .tc .vmem S1024x1024 .f32) (h7 : a7.IsWhole) (a8 : Memref sig .tc .vmem S1024x1024 .bf16) (h8 : a8.IsWhole)
  (a9 : Memref sig .tc .vmem S1024x1024 .f32) (h9 : a9.IsWhole)
  (x : Vec F S1024x1024 .f32) (g : Vec F S1x1024 .f32) (w1 w3 : Vec F S1x1024x512 .f32) (w2 : Vec F S1x512x1024 .f32)
  (xn : Vec F S1024x1024 .bf16) (acc : Vec F S1024x1024 .f32)

/-- At a row block's first tile the normalised rows are stored. -/
theorem sA0 (hc0 : cond0_0 i) (hc1 : ¬cond0_1 i) :
    sout0_A_0 c i a2 h2 a3 h3 a4 h4 a5 h5 a6 h6 a7 h7 a8 h8 a9 h9 hc0 hc1 x g w1 w3 w2 = k0_pay2 x g := by
  unfold sout0_A_0
  rw [View.read_writes_eq_canon _ _ _ (scover0_A_0 c i a2 h2 a3 h3 a4 h4 a5 h5 a6 h6 a7 h7 a8 h8 a9 h9 hc0 hc1 x g w1 w3 w2)]
  unfold kernelRun0_A
  dsimp only
  sl_unfold_words
  rw [View.canon_unit_zero hz]
  simp only [View.readAt_eq_ld, h2.read_unread, h3.read_unread, View.ld_unit_zero (S := S1024x1024) hz, View.ld_unit_zero (S := S1x1024) hz]

/-- … and the accumulator, set to the rows themselves, takes the first tile's step. -/
theorem sA1 (hc0 : cond0_0 i) (hc1 : ¬cond0_1 i) :
    sout0_A_1 c i a2 h2 a3 h3 a4 h4 a5 h5 a6 h6 a7 h7 a8 h8 a9 h9 hc0 hc1 x g w1 w3 w2 = step (k0_pay2 x g) (k0_pay3 x) w1 w3 w2 := by
  unfold sout0_A_1
  rw [View.read_writes_eq_canon _ _ _ (scover0_A_1 c i a2 h2 a3 h3 a4 h4 a5 h5 a6 h6 a7 h7 a8 h8 a9 h9 hc0 hc1 x g w1 w3 w2)]
  unfold kernelRun0_A
  dsimp only
  sl_unfold_words
  rw [View.canon_cons_unit_zero (S := S1024x1024) hz]
  simp only [View.readCov_unit_zero (S := S1024x1024) _ hz]
  unfold step
  simp only [View.readAt_eq_ld, h2.read_unread, h3.read_unread, h4.read_unread, h5.read_unread, h6.read_unread,
    View.ld_unit_zero (S := S1024x1024) hz, View.ld_unit_zero (S := S1x1024) hz]

/-- At the later tiles the normalised rows stay. -/
theorem sB0 (hc0 : ¬cond0_0 i) (hc1 : ¬cond0_1 i) :
    sout0_B_0 c i a2 h2 a3 h3 a4 h4 a5 h5 a6 h6 a7 h7 a8 h8 a9 h9 hc0 hc1 x g w1 w3 w2 xn acc = xn := by
  unfold sout0_B_0
  first | rfl | exact h8.read_unread _

theorem sB1 (hc0 : ¬cond0_0 i) (hc1 : ¬cond0_1 i) :
    sout0_B_1 c i a2 h2 a3 h3 a4 h4 a5 h5 a6 h6 a7 h7 a8 h8 a9 h9 hc0 hc1 x g w1 w3 w2 xn acc = step xn acc w1 w3 w2 := by
  unfold sout0_B_1
  rw [View.read_writes_eq_canon _ _ _ (scover0_B_1 c i a2 h2 a3 h3 a4 h4 a5 h5 a6 h6 a7 h7 a8 h8 a9 h9 hc0 hc1 x g w1 w3 w2 xn acc)]
  unfold kernelRun0_B
  dsimp only
  sl_unfold_words
  rw [View.canon_unit_zero hz]
  unfold step
  simp only [View.readAt_eq_ld, h2.read_unread, h3.read_unread, h4.read_unread, h5.read_unread, h6.read_unread, h8.read_unread, h9.read_unread,
    View.ld_unit_zero (S := S1024x1024) hz, View.ld_unit_zero (S := S1x1024) hz]

theorem sC0 (hc0 : ¬cond0_0 i) (hc1 : cond0_1 i) :
    sout0_C_0 c i a2 h2 a3 h3 a4 h4 a5 h5 a6 h6 a7 h7 a8 h8 a9 h9 hc0 hc1 x g w1 w3 w2 xn acc = xn := by
  unfold sout0_C_0
  first | rfl | exact h8.read_unread _

theorem sC1 (hc0 : ¬cond0_0 i) (hc1 : cond0_1 i) :
    sout0_C_1 c i a2 h2 a3 h3 a4 h4 a5 h5 a6 h6 a7 h7 a8 h8 a9 h9 hc0 hc1 x g w1 w3 w2 xn acc = step xn acc w1 w3 w2 := by
  unfold sout0_C_1
  rw [View.read_writes_eq_canon _ _ _ (scover0_C_1 c i a2 h2 a3 h3 a4 h4 a5 h5 a6 h6 a7 h7 a8 h8 a9 h9 hc0 hc1 x g w1 w3 w2 xn acc)]
  unfold kernelRun0_C
  dsimp only
  sl_unfold_words
  rw [View.canon_unit_zero hz]
  unfold step
  simp only [View.readAt_eq_ld, h2.read_unread, h3.read_unread, h4.read_unread, h5.read_unread, h6.read_unread, h8.read_unread, h9.read_unread,
    View.ld_unit_zero (S := S1024x1024) hz, View.ld_unit_zero (S := S1x1024) hz]

/-- At the last tile the accumulator is also the output block. -/
theorem oC5 (hc0 : ¬cond0_0 i) (hc1 : cond0_1 i) :
    out0_C_5 c i a2 h2 a3 h3 a4 h4 a5 h5 a6 h6 a7 h7 a8 h8 a9 h9 hc0 hc1 x g w1 w3 w2 xn acc = step xn acc w1 w3 w2 := by
  unfold out0_C_5
  rw [View.read_writes_eq_canon _ _ _ (cover0_C_5 c i a2 h2 a3 h3 a4 h4 a5 h5 a6 h6 a7 h7 a8 h8 a9 h9 hc0 hc1 x g w1 w3 w2 xn acc)]
  unfold kernelRun0_C
  dsimp only
  sl_unfold_words
  rw [View.canon_unit_zero hz]
  simp only [View.readCov_unit_zero (S := S1024x1024) _ hz]
  unfold step
  simp only [View.readAt_eq_ld, h2.read_unread, h3.read_unread, h4.read_unread, h5.read_unread, h6.read_unread, h8.read_unread, h9.read_unread,
    View.ld_unit_zero (S := S1024x1024) hz, View.ld_unit_zero (S := S1x1024) hz]

end Cert.Kernel2Ideal.Hand

end
-- ==== Proof.Ffn.lean ====
/-
  The feed-forward call: the kernel's result array, and the reference's, are one function of the arguments, each row
  plus the gated unit of its normalised self.
-/
module

public import proofs.«01_k».proof.Proof.FfnCases
public import proofs.«01_k».proof.Proof.Gen.Reference2Ideal.Run
public import proofs.«01_k».proof.Proof.Gen.Reference2Ideal.Read

@[expose] public section

noncomputable section

open Idealize.ShloMosaic Idealize.ShloMosaic.TcCoe Idealize.SL.Sem Idealize.ShloMosaic.ValueIdx
open Idealize.ShloMosaic.Pipeline (Dat)

namespace Cert.Ffn

open Cert.Common

/-- Row `r`, normalised. -/
def row (h : (⟨2, ![16384, 1024]⟩ : Shape).Idx → EReal) (g : (⟨1, ![1024]⟩ : Shape).Idx → EReal) (r : Fin 16384) : Fin 1024 → EReal :=
  nrm (fun k => h (ix2 r k)) (fun k => g (ix1 k))

/-- Hidden column `q`'s share of the result at row `r` and column `j`. -/
def col (h : (⟨2, ![16384, 1024]⟩ : Shape).Idx → EReal) (g : (⟨1, ![1024]⟩ : Shape).Idx → EReal)
    (w1 w3 : (⟨3, ![2, 1024, 3584]⟩ : Shape).Idx → EReal) (w2 : (⟨3, ![2, 3584, 1024]⟩ : Shape).Idx → EReal)
    (r : Fin 16384) (j : Fin 1024) (q : Fin 3584) : EReal :=
  hid (row h g r) (fun k => w1 (ix3 0 k q)) (fun k => w3 (ix3 0 k q)) * w2 (ix3 0 q j)

/-- The result at row `r` and column `j`. -/
def at_ (h : (⟨2, ![16384, 1024]⟩ : Shape).Idx → EReal) (g : (⟨1, ![1024]⟩ : Shape).Idx → EReal)
    (w1 w3 : (⟨3, ![2, 1024, 3584]⟩ : Shape).Idx → EReal) (w2 : (⟨3, ![2, 3584, 1024]⟩ : Shape).Idx → EReal)
    (r : Fin 16384) (j : Fin 1024) : EReal :=
  h (ix2 r j) + ∑ q, col h g w1 w3 w2 r j q

/-- The whole result. -/
def spec (h : (⟨2, ![16384, 1024]⟩ : Shape).Idx → EReal) (g : (⟨1, ![1024]⟩ : Shape).Idx → EReal)
    (w1 w3 : (⟨3, ![2, 1024, 3584]⟩ : Shape).Idx → EReal) (w2 : (⟨3, ![2, 3584, 1024]⟩ : Shape).Idx → EReal)
    (i : (⟨2, ![16384, 1024]⟩ : Shape).Idx) : EReal :=
  at_ h g w1 w3 w2 (i 0) (i 1)

/-- Row `i` of row block `b`. -/
def rowOf (b : Fin 16) (i : Fin 1024) : Fin 16384 := ⟨b.val * 1024 + i.val, by omega⟩

end Cert.Ffn

/-! ## The kernel -/

namespace Cert.Kernel2Ideal.Hand

open Cert.Kernel2Ideal Cert.Kernel2Ideal.Gen Cert.Common Cert.Ffn

/-- The normalised rows, at row `i` and column `k`. -/
theorem norm_apply (x : Vec Ideal S1024x1024 .f32) (g : Vec Ideal S1x1024 .f32) (i k : Fin 1024) :
    k0_pay2 x g (ix2 i k) = nrm (fun k => x (ix2 i k)) (fun k => g (ix2 0 k)) k := by
  unfold k0_pay2
  simp only [shapeCast_self, truncf_apply, Ideal.truncf_def, mulf_apply, Ideal.mulf_def]
  rw [rowBcast_apply (by decide), colBcast_apply (by decide)]
  unfold nrm
  simp only [rsqrt, addf_apply, Ideal.addf_def, divf_apply, Ideal.divf_def, broadcast_apply]
  rw [colCast_apply]
  exact congrArg (fun s => x (ix2 i k) * Ideal.rsqrt (Ideal.div s (Ideal.ofBits .f32 0x44800000#32) + Ideal.ofBits .f32 0x358637BD#32)
    * g (ix2 0 k)) (rowSum_apply _ _ (mulf x x) i)

/-- Rows times one column of a block's half. -/
theorem prod_apply (xn : Vec Ideal S1024x1024 .bf16) (w : Vec Ideal S1x1024x256 .f32) (i : Fin 1024) (q : Fin 256) :
    FloatOps.matmul (F := Ideal) (φ₁ := .bf16) dot_S1024x1024_S1024x256_S1024x256_1_0_0_1_n_n none xn
      (truncf .bf16 (shapeCast S1024x256 w shapeCasts_S1x1024x256_S1024x256) bitsLt_bf16_f32 : FVec Ideal S1024x256 .bf16)
      (constant S1024x256 .f32 0x00000000#32) (ix2 i q) = ∑ k : Fin 1024, xn (ix2 i k) * w (ix3 0 k q) := by
  refine (mm_apply dot_S1024x1024_S1024x256_S1024x256_1_0_0_1_n_n_wf _ _ i q).trans (Finset.sum_congr rfl fun k _ => ?_)
  exact congrArg _ (drop3_apply w shapeCasts_S1x1024x256_S1024x256 k q)

/-- A tile's step at row `i` and column `j`: the accumulator plus the sums over the tile's two halves. -/
theorem step_apply (xn : Vec Ideal S1024x1024 .bf16) (acc : Vec Ideal S1024x1024 .f32) (w1 w3 : Vec Ideal S1x1024x512 .f32)
    (w2 : Vec Ideal S1x512x1024 .f32) (i j : Fin 1024) :
    step xn acc w1 w3 w2 (ix2 i j) = acc (ix2 i j)
      + ((∑ q : Fin 256, hid (fun k => xn (ix2 i k)) (fun k => w1 (ix3 0 k ⟨q.val, by omega⟩)) (fun k => w3 (ix3 0 k ⟨q.val, by omega⟩))
            * w2 (ix3 0 ⟨q.val, by omega⟩ j))
        + ∑ q : Fin 256, hid (fun k => xn (ix2 i k)) (fun k => w1 (ix3 0 k ⟨256 + q.val, by omega⟩)) (fun k => w3 (ix3 0 k ⟨256 + q.val, by omega⟩))
            * w2 (ix3 0 ⟨256 + q.val, by omega⟩ j)) := by
  unfold step k0_pay1 k0_pay4 k0_pay5
  simp only [shapeCast_self, addf_apply, Ideal.addf_def, matmul]
  refine congrArg (acc (ix2 i j) + ·) (congrArg₂ (· + ·) ?_ ?_)
  · refine (gated_apply dot_S1024x256_S256x1024_S1024x1024_1_0_0_1_n_n_wf _ _ _ _ i j).trans (Finset.sum_congr rfl fun q _ => ?_)
    refine congrArg₂ (· * ·) (congrArg₂ gate ?_ ?_) ?_
    · refine (prod_apply _ _ i q).trans (Finset.sum_congr rfl fun k _ => congrArg (xn (ix2 i k) * ·) (congrArg w1 (funext fun a => Fin.ext ?_)))
      match a with
      | ⟨0, _⟩ => rfl
      | ⟨1, _⟩ => show 0 + 1 * k.val = k.val; omega
      | ⟨2, _⟩ => show 0 + 1 * q.val = q.val; omega
    · refine (prod_apply _ _ i q).trans (Finset.sum_congr rfl fun k _ => congrArg (xn (ix2 i k) * ·) (congrArg w3 (funext fun a => Fin.ext ?_)))
      match a with
      | ⟨0, _⟩ => rfl
      | ⟨1, _⟩ => show 0 + 1 * k.val = k.val; omega
      | ⟨2, _⟩ => show 0 + 1 * q.val = q.val; omega
    · refine (drop3_apply _ shapeCasts_S1x256x1024_S256x1024 q j).trans (congrArg w2 (funext fun a => Fin.ext ?_))
      match a with
      | ⟨0, _⟩ => rfl
      | ⟨1, _⟩ => show 0 + 1 * q.val = q.val; omega
      | ⟨2, _⟩ => show 0 + 1 * j.val = j.val; omega
  · refine (gated_apply dot_S1024x256_S256x1024_S1024x1024_1_0_0_1_n_n_wf _ _ _ _ i j).trans (Finset.sum_congr rfl fun q _ => ?_)
    refine congrArg₂ (· * ·) (congrArg₂ gate ?_ ?_) ?_
    · refine (prod_apply _ _ i q).trans (Finset.sum_congr rfl fun k _ => congrArg (xn (ix2 i k) * ·) (congrArg w1 (funext fun a => Fin.ext ?_)))
      match a with
      | ⟨0, _⟩ => rfl
      | ⟨1, _⟩ => show 0 + 1 * k.val = k.val; omega
      | ⟨2, _⟩ => show 256 + 1 * q.val = 256 + q.val; omega
    · refine (prod_apply _ _ i q).trans (Finset.sum_congr rfl fun k _ => congrArg (xn (ix2 i k) * ·) (congrArg w3 (funext fun a => Fin.ext ?_)))
      match a with
      | ⟨0, _⟩ => rfl
      | ⟨1, _⟩ => show 0 + 1 * k.val = k.val; omega
      | ⟨2, _⟩ => show 256 + 1 * q.val = 256 + q.val; omega
    · refine (drop3_apply _ shapeCasts_S1x256x1024_S256x1024 q j).trans (congrArg w2 (funext fun a => Fin.ext ?_))
      match a with
      | ⟨0, _⟩ => rfl
      | ⟨1, _⟩ => show 256 + 1 * q.val = 256 + q.val; omega
      | ⟨2, _⟩ => show 0 + 1 * j.val = j.val; omega

variable (m : (ℓ : Loc nD τ sig) → Buf (Elt Ideal) ℓ) (ρ : Dev nD → PrngReg) (c : Dev nD)

/-- The arguments' contents. -/
abbrev aH : S16384x1024.Idx → EReal := m ((c : Thread nD τ).loc main_arg0)
abbrev aG : S1024.Idx → EReal := m ((c : Thread nD τ).loc main_arg1)
abbrev aW1 : S2x1024x3584.Idx → EReal := m ((c : Thread nD τ).loc main_arg2)
abbrev aW3 : S2x1024x3584.Idx → EReal := m ((c : Thread nD τ).loc main_arg3)
abbrev aW2 : S2x3584x1024.Idx → EReal := m ((c : Thread nD τ).loc main_arg4)

/-- The staged gain is the argument's, stood up as one row. -/
theorem V_g : V m c main_v0 = shapeCast S1x1024 (m ((c : Thread nD τ).loc main_arg1)) shapeCasts_S1024_S1x1024 := by
  unfold V
  after_results
  rfl

/-- Where the windows stand at point `t`: row block `t / 7`, column tile `t % 7`. -/
theorem idx : ∀ t : Fin cfg0.N, win0_0.index t 0 = t.val / 7 ∧ win0_0.index t 1 = 0 ∧ win0_1.index t 0 = 0 ∧ win0_1.index t 1 = 0
    ∧ (win0_2.index t 0 = 0 ∧ win0_2.index t 1 = 0 ∧ win0_2.index t 2 = t.val % 7)
    ∧ (win0_3.index t 0 = 0 ∧ win0_3.index t 1 = 0 ∧ win0_3.index t 2 = t.val % 7)
    ∧ (win0_4.index t 0 = 0 ∧ win0_4.index t 1 = t.val % 7 ∧ win0_4.index t 2 = 0)
    ∧ win0_5.index t 0 = t.val / 7 ∧ win0_5.index t 1 = 0 :=
  (by decide +kernel : ∀ t : Fin grid0.N, _)

/-- The row block of point `t`. -/
def bOf (t : Fin cfg0.N) : Fin 16 := ⟨t.val / 7, by have := lt_of_lt_of_eq t.isLt N_0; omega⟩

theorem blk0 (t : Fin cfg0.N) (i k : Fin 1024) :
    (iblk m c 0 t : Vec Ideal S1024x1024 .f32) (ix2 i k) = aH m c (ix2 (rowOf (bOf t) i) k) := by
  obtain ⟨e0, e1, -⟩ := idx t
  rw [show aH m c = V m c main_arg0 from (V_main_arg0 m c).symm]
  unfold iblk
  rw [View.read_apply]
  show V m c main_arg0 _ = V m c main_arg0 _
  refine congrArg _ (funext fun a => Fin.ext ?_)
  match a with
  | ⟨0, _⟩ => show win0_0.index t 0 * 1024 + 1 * i.val = t.val / 7 * 1024 + i.val; rw [e0]; omega
  | ⟨1, _⟩ => show win0_0.index t 1 * 1024 + 1 * k.val = k.val; rw [e1]; omega

theorem blk1 (t : Fin cfg0.N) (k : Fin 1024) : (iblk m c 1 t : Vec Ideal S1x1024 .f32) (ix2 0 k) = aG m c (ix1 k) := by
  obtain ⟨-, -, e0, e1, -⟩ := idx t
  have e : (iblk m c 1 t : Vec Ideal S1x1024 .f32) (ix2 0 k) = V m c main_v0 (ix2 0 k) := by
    unfold iblk
    rw [View.read_apply]
    show V m c main_v0 _ = V m c main_v0 _
    refine congrArg _ (funext fun a => Fin.ext ?_)
    match a with
    | ⟨0, _⟩ => show win0_1.index t 0 * 1 + 1 * 0 = 0; rw [e0]
    | ⟨1, _⟩ => show win0_1.index t 1 * 1024 + 1 * k.val = k.val; rw [e1]; omega
  rw [e, V_g, rowCast_apply]

theorem blk2 (t : Fin cfg0.N) (k : Fin 1024) (q : Fin 512) (hq : 512 * (t.val % 7) + q.val < 3584) :
    (iblk m c 2 t : Vec Ideal S1x1024x512 .f32) (ix3 0 k q) = aW1 m c (ix3 0 k ⟨512 * (t.val % 7) + q.val, hq⟩) := by
  obtain ⟨-, -, -, -, ⟨e0, e1, e2⟩, -⟩ := idx t
  rw [show aW1 m c = V m c main_arg2 from (V_main_arg2 m c).symm]
  unfold iblk
  rw [View.read_apply]
  show V m c main_arg2 _ = V m c main_arg2 _
  refine congrArg _ (funext fun a => Fin.ext ?_)
  match a with
  | ⟨0, _⟩ => show win0_2.index t 0 * 1 + 1 * 0 = 0; rw [e0]
  | ⟨1, _⟩ => show win0_2.index t 1 * 1024 + 1 * k.val = k.val; rw [e1]; omega
  | ⟨2, _⟩ => show win0_2.index t 2 * 512 + 1 * q.val = 512 * (t.val % 7) + q.val; rw [e2]; omega

theorem blk3 (t : Fin cfg0.N) (k : Fin 1024) (q : Fin 512) (hq : 512 * (t.val % 7) + q.val < 3584) :
    (iblk m c 3 t : Vec Ideal S1x1024x512 .f32) (ix3 0 k q) = aW3 m c (ix3 0 k ⟨512 * (t.val % 7) + q.val, hq⟩) := by
  obtain ⟨-, -, -, -, -, ⟨e0, e1, e2⟩, -⟩ := idx t
  rw [show aW3 m c = V m c main_arg3 from (V_main_arg3 m c).symm]
  unfold iblk
  rw [View.read_apply]
  show V m c main_arg3 _ = V m c main_arg3 _
  refine congrArg _ (funext fun a => Fin.ext ?_)
  match a with
  | ⟨0, _⟩ => show win0_3.index t 0 * 1 + 1 * 0 = 0; rw [e0]
  | ⟨1, _⟩ => show win0_3.index t 1 * 1024 + 1 * k.val = k.val; rw [e1]; omega
  | ⟨2, _⟩ => show win0_3.index t 2 * 512 + 1 * q.val = 512 * (t.val % 7) + q.val; rw [e2]; omega

theorem blk4 (t : Fin cfg0.N) (q : Fin 512) (j : Fin 1024) (hq : 512 * (t.val % 7) + q.val < 3584) :
    (iblk m c 4 t : Vec Ideal S1x512x1024 .f32) (ix3 0 q j) = aW2 m c (ix3 0 ⟨512 * (t.val % 7) + q.val, hq⟩ j) := by
  obtain ⟨-, -, -, -, -, -, ⟨e0, e1, e2⟩, -⟩ := idx t
  rw [show aW2 m c = V m c main_arg4 from (V_main_arg4 m c).symm]
  unfold iblk
  rw [View.read_apply]
  show V m c main_arg4 _ = V m c main_arg4 _
  refine congrArg _ (funext fun a => Fin.ext ?_)
  match a with
  | ⟨0, _⟩ => show win0_4.index t 0 * 1 + 1 * 0 = 0; rw [e0]
  | ⟨1, _⟩ => show win0_4.index t 1 * 512 + 1 * q.val = 512 * (t.val % 7) + q.val; rw [e1]; omega
  | ⟨2, _⟩ => show win0_4.index t 2 * 1024 + 1 * j.val = j.val; rw [e2]; omega

/-- One hidden column's share, from the blocks at point `t`. -/
theorem col_blk (t : Fin cfg0.N) (xn : Vec Ideal S1024x1024 .bf16) (i j : Fin 1024)
    (hx : ∀ k, xn (ix2 i k) = row (aH m c) (aG m c) (rowOf (bOf t) i) k) (q : Fin 512) (hq : 512 * (t.val % 7) + q.val < 3584) :
    hid (fun k => xn (ix2 i k)) (fun k => (iblk m c 2 t : Vec Ideal S1x1024x512 .f32) (ix3 0 k q))
        (fun k => (iblk m c 3 t : Vec Ideal S1x1024x512 .f32) (ix3 0 k q)) * (iblk m c 4 t : Vec Ideal S1x512x1024 .f32) (ix3 0 q j)
      = col (aH m c) (aG m c) (aW1 m c) (aW3 m c) (aW2 m c) (rowOf (bOf t) i) j ⟨512 * (t.val % 7) + q.val, hq⟩ := by
  unfold col
  refine congrArg₂ (· * ·) ?_ (blk4 m c t q j hq)
  rw [show (fun k => xn (ix2 i k)) = row (aH m c) (aG m c) (rowOf (bOf t) i) from funext hx]
  exact congrArg₂ (hid _) (funext fun k => blk2 m c t k q hq) (funext fun k => blk3 m c t k q hq)

/-- One tile's step over the blocks at point `t` takes the sum over the first `t % 7` tiles to the sum over one more. -/
theorem step_blk (t : Fin cfg0.N) (xn : Vec Ideal S1024x1024 .bf16) (acc : Vec Ideal S1024x1024 .f32) (i j : Fin 1024)
    (hx : ∀ k, xn (ix2 i k) = row (aH m c) (aG m c) (rowOf (bOf t) i) k)
    (ha : acc (ix2 i j) = aH m c (ix2 (rowOf (bOf t) i) j)
      + part (col (aH m c) (aG m c) (aW1 m c) (aW3 m c) (aW2 m c) (rowOf (bOf t) i) j) (t.val % 7)) :
    step xn acc (iblk m c 2 t) (iblk m c 3 t) (iblk m c 4 t) (ix2 i j) = aH m c (ix2 (rowOf (bOf t) i) j)
      + part (col (aH m c) (aG m c) (aW1 m c) (aW3 m c) (aW2 m c) (rowOf (bOf t) i) j) (t.val % 7 + 1) := by
  have h7 : t.val % 7 < 7 := Nat.mod_lt _ (by decide)
  rw [part_succ _ _ h7, ← add_assoc, ← ha]
  refine (step_apply xn acc _ _ _ i j).trans (congrArg (acc (ix2 i j) + ·) (congrArg₂ (· + ·) ?_ ?_))
  · exact Finset.sum_congr rfl fun q _ => col_blk m c t xn i j hx ⟨q.val, by omega⟩ (by dsimp only; omega)
  · refine Finset.sum_congr rfl fun q _ => (col_blk m c t xn i j hx ⟨256 + q.val, by omega⟩ (by dsimp only; omega)).trans ?_
    exact congrArg _ (Fin.ext (by show 512 * (t.val % 7) + (256 + q.val) = 512 * (t.val % 7) + 256 + q.val; omega))

/-- After point `n` the scratch holds the normalised rows, and the accumulator the rows plus the tiles so far; at a row
    block's last tile the output block is the accumulator. -/
theorem inv : ∀ (n : ℕ) (hn : n < cfg0.N),
    (∀ i k, (outsAt0 m c n hn).2.1 (ix2 i k) = row (aH m c) (aG m c) (rowOf (bOf ⟨n, hn⟩) i) k)
    ∧ (∀ i j, (outsAt0 m c n hn).2.2 (ix2 i j) = aH m c (ix2 (rowOf (bOf ⟨n, hn⟩) i) j)
      + part (col (aH m c) (aG m c) (aW1 m c) (aW3 m c) (aW2 m c) (rowOf (bOf ⟨n, hn⟩) i) j) (n % 7 + 1))
    ∧ (n % 7 = 6 → (outsAt0 m c n hn).1 = (outsAt0 m c n hn).2.2) := by
  intro n
  induction n using Nat.strong_induction_on with
  | _ n ih =>
  intro hn
  have hA : ∀ i k, k0_pay2 (F := Ideal) (iblk m c 0 ⟨n, hn⟩) (iblk m c 1 ⟨n, hn⟩) (ix2 i k) = row (aH m c) (aG m c) (rowOf (bOf ⟨n, hn⟩) i) k := by
    intro i k
    refine (norm_apply _ _ i k).trans ?_
    unfold row
    exact congrFun (congrArg₂ nrm (funext fun k => blk0 m c ⟨n, hn⟩ i k) (funext fun k => blk1 m c ⟨n, hn⟩ k)) k
  by_cases h0 : n % 7 = 0
  · have h1 : ¬n % 7 = 6 := by omega
    rw [outsAt0_A m c ⟨n, hn⟩ h0 h1]
    dsimp only
    rw [sA0, sA1]
    refine ⟨hA, fun i j => step_blk m c ⟨n, hn⟩ _ _ i j (hA i) ?_, fun h => absurd h h1⟩
    rw [show ((⟨n, hn⟩ : Fin cfg0.N).val % 7) = 0 from h0, part_zero, add_zero]
    unfold k0_pay3
    rw [shapeCast_self]
    exact blk0 m c ⟨n, hn⟩ i j
  · have hp : n - 1 < cfg0.N := by omega
    obtain ⟨p0, p1, -⟩ := ih (n - 1) (by omega) hp
    have hb : bOf ⟨n - 1, hp⟩ = bOf ⟨n, hn⟩ := Fin.ext (by show (n - 1) / 7 = n / 7; omega)
    have hm : (n - 1) % 7 + 1 = n % 7 := by omega
    rw [hb] at p0
    rw [hb, hm] at p1
    by_cases h1 : n % 7 = 6
    · rw [outsAt0_C m c ⟨n, hn⟩ h0 h1]
      dsimp only
      rw [sC0, sC1, oC5]
      exact ⟨p0, fun i j => step_blk m c ⟨n, hn⟩ _ _ i j (p0 i) (p1 i j), fun _ => rfl⟩
    · rw [outsAt0_B m c ⟨n, hn⟩ h0 h1]
      dsimp only
      rw [sB0, sB1]
      exact ⟨p0, fun i j => step_blk m c ⟨n, hn⟩ _ _ i j (p0 i) (p1 i j), fun h => absurd h h1⟩

/-- The result as contents of the result array. -/
abbrev G : Buf (Elt Ideal) ((c : Thread nD τ).loc main_v1) := spec (aH m c) (aG m c) (aW1 m c) (aW3 m c) (aW2 m c)

/-- Block `t / 7` of the result, read at row `p` and column `q`. -/
theorem read_G (t : Fin cfg0.N) (p q : Fin 1024) :
    ((cfg0.win 5).blk t).view.read (Elt Ideal) (G m c) (ix2 p q) = at_ (aH m c) (aG m c) (aW1 m c) (aW3 m c) (aW2 m c) (rowOf (bOf t) p) q := by
  obtain ⟨-, -, -, -, -, -, -, e0, e1⟩ := idx t
  rw [View.read_apply]
  refine congrArg₂ (at_ _ _ _ _ _) (Fin.ext ?_) (Fin.ext ?_)
  · show win0_5.index t 0 * 1024 + 1 * p.val = t.val / 7 * 1024 + p.val; rw [e0]; omega
  · show win0_5.index t 1 * 1024 + 1 * q.val = q.val; rw [e1]; omega

/-- A point that writes back writes its block of the result. -/
theorem flushed_eq (t : Fin cfg0.N) (hf : (cfg0.win 5).flush t = true) :
    (dats m 0 c).flushed 5 t = ((cfg0.win 5).blk t).view.read (Elt Ideal) (G m c) := by
  have h6 : t.val % 7 = 6 := (flush0_5 t).mp hf
  obtain ⟨-, h2, h3⟩ := inv m c t.val t.isLt
  rw [Value.flushed5, h3 h6]
  refine funext fun (y : S1024x1024.Idx) => ?_
  obtain ⟨p, q, rfl⟩ : ∃ (p q : Fin 1024), y = ix2 p q := ⟨_, _, eq_ix2 y⟩
  refine Eq.trans ?_ (read_G m c t p q).symm
  have e := h2 p q
  rw [h6, part_seven] at e
  refine Eq.trans ?_ e
  show (outsAt0 m c t.val t.isLt).2.2 ((cfg0.win 5).xinj (grid0.coords t) (ix2 p q)) = _
  refine congrArg (outsAt0 m c t.val t.isLt).2.2 (funext fun a => Fin.ext ?_)
  match a with
  | ⟨0, _⟩ => rfl
  | ⟨1, _⟩ => rfl

/-- The result array ends at the result: every row lies in the block its row block's last point writes back. -/
theorem final : (dats m 0 c).arrAt 5 cfg0.N = G m c :=
  (dats m 0 c).arrAt_eq_of_cover 5 (G m c) (flushed_eq m c) fun i => by
    have h0 : (i 0 : Nat) < 16384 := (i 0).isLt
    have h1 : (i 1 : Nat) < 1024 := (i 1).isLt
    have ht : 7 * ((i 0 : Nat) / 1024) + 6 < cfg0.N := lt_of_lt_of_eq (by omega) N_0.symm
    refine ⟨⟨7 * ((i 0 : Nat) / 1024) + 6, ht⟩, (flush0_5 _).mpr (by dsimp only; omega), ?_⟩
    show i ∈ ((View.whole main_v1).slice (win0_5.rect ⟨7 * ((i 0 : Nat) / 1024) + 6, ht⟩)).set
    rw [View.set_slice_whole, Rect.mem_set_unit]
    obtain ⟨-, -, -, -, -, -, -, e0, e1⟩ := idx ⟨7 * ((i 0 : Nat) / 1024) + 6, ht⟩
    intro a
    match a with
    | ⟨0, _⟩ =>
      show win0_5.index ⟨7 * ((i 0 : Nat) / 1024) + 6, ht⟩ 0 * 1024 ≤ (i 0 : Nat) ∧ (i 0 : Nat) < win0_5.index ⟨7 * ((i 0 : Nat) / 1024) + 6, ht⟩ 0 * 1024 + 1024
      rw [e0]; dsimp only; omega
    | ⟨1, _⟩ =>
      show win0_5.index ⟨7 * ((i 0 : Nat) / 1024) + 6, ht⟩ 1 * 1024 ≤ (i 1 : Nat) ∧ (i 1 : Nat) < win0_5.index ⟨7 * ((i 0 : Nat) / 1024) + 6, ht⟩ 1 * 1024 + 1024
      rw [e1]; omega

end Cert.Kernel2Ideal.Hand

/-! ## The reference -/

namespace Cert.Reference2Ideal.Hand

open Cert.Reference2Ideal Cert.Reference2Ideal.Read Cert.Common Cert.Ffn

variable (x : (⟨S16384x1024, .f32⟩ : BufTy).Contents (Elt Ideal)) (g : (⟨S1024, .f32⟩ : BufTy).Contents (Elt Ideal))
  (w1 w3 : (⟨S2x1024x3584, .f32⟩ : BufTy).Contents (Elt Ideal)) (w2 : (⟨S2x3584x1024, .f32⟩ : BufTy).Contents (Elt Ideal))

/-- The reference's normalised row. -/
theorem nrm_apply (r : Fin 16384) (k : Fin 1024) : val_main_v12 (F := Ideal) x g (ix2 r k) = row x g r k := by
  simp only [val_main_v12_apply, val_main_v11_apply, val_main_v10_apply, val_main_v9_apply, val_main_v8_apply, val_main_v7_apply,
    val_main_v6_apply, val_main_v5_apply, val_main_cst_1_apply, val_main_v4_apply, val_main_v3_apply, val_main_cst_0_apply,
    val_main_v2_apply, val_main_v1_apply, val_main_cst_apply, val_main_v0_apply, Ideal.ofBits_def, Ideal.ofBits_zero_f32, zero_add,
    Ideal.mulf_def, Ideal.addf_def, Ideal.hostDivf_def, Ideal.hostUnary_rsqrt_def]
  unfold row nrm
  have e1 : idx_main_v10 (idx_main_v11 (ix2 r k)) = ix1 k := funext fun a => Fin.ext (by match a with | ⟨0, _⟩ => rfl)
  have e2 : ∀ j : Fin 1024, idx_main_v1 (idx_main_v2 (idx_main_v8 (ix2 r k))) j = ix2 r j := fun j => funext fun a => Fin.ext (by
    match a with
    | ⟨0, _⟩ => rfl
    | ⟨1, _⟩ => rfl)
  rw [e1]
  simp only [e2]

/-- The first weights' products. -/
theorem v15_apply (r : Fin 16384) (q : Fin 3584) :
    val_main_v15 (F := Ideal) x g w1 (ix2 r q) = ∑ k, row x g r k * w1 (ix3 0 k q) := by
  rw [val_main_v15_apply]
  refine Finset.sum_congr rfl fun k _ => ?_
  rw [show lidx_main_v15 (ix2 r q) k = ix2 r k from funext fun a => Fin.ext (by match a with | ⟨0, _⟩ => rfl | ⟨1, _⟩ => rfl), nrm_apply,
    val_main_v14_apply, val_main_v13_apply]
  refine congrArg (row x g r k * ·) (congrArg w1 (funext fun a => Fin.ext ?_))
  match a with
  | ⟨0, _⟩ => rfl
  | ⟨1, _⟩ => show (k.val * 3584 + q.val) / 3584 % 1024 = k.val; omega
  | ⟨2, _⟩ => show (k.val * 3584 + q.val) % 3584 = q.val; omega

/-- The third weights' products. -/
theorem v19_apply (r : Fin 16384) (q : Fin 3584) :
    val_main_v19 (F := Ideal) x g w3 (ix2 r q) = ∑ k, row x g r k * w3 (ix3 0 k q) := by
  rw [val_main_v19_apply]
  refine Finset.sum_congr rfl fun k _ => ?_
  rw [show lidx_main_v19 (ix2 r q) k = ix2 r k from funext fun a => Fin.ext (by match a with | ⟨0, _⟩ => rfl | ⟨1, _⟩ => rfl), nrm_apply,
    val_main_v18_apply, val_main_v17_apply]
  refine congrArg (row x g r k * ·) (congrArg w3 (funext fun a => Fin.ext ?_))
  match a with
  | ⟨0, _⟩ => rfl
  | ⟨1, _⟩ => show (k.val * 3584 + q.val) / 3584 % 1024 = k.val; omega
  | ⟨2, _⟩ => show (k.val * 3584 + q.val) % 3584 = q.val; omega

/-- The gated unit. -/
theorem v20_apply (r : Fin 16384) (q : Fin 3584) :
    val_main_v20 (F := Ideal) x g w1 w3 (ix2 r q) = hid (row x g r) (fun k => w1 (ix3 0 k q)) (fun k => w3 (ix3 0 k q)) := by
  simp only [val_main_v20_apply, val_main_v16_apply, val_main_call0_v5_apply, val_main_call0_v4_apply, val_main_call0_cst_0_apply,
    val_main_call0_v3_apply, val_main_call0_v2_apply, val_main_call0_cst_apply, val_main_call0_v1_apply, val_main_call0_v0_apply,
    v15_apply, v19_apply]
  rfl

/-- The reference's result. -/
theorem result_eq : val_main_v24 (F := Ideal) x g w1 w3 w2 = spec x g w1 w3 w2 := by
  refine funext fun (i : S16384x1024.Idx) => ?_
  obtain ⟨p, q, rfl⟩ : ∃ (p : Fin 16384) (q : Fin 1024), i = ix2 p q := ⟨_, _, eq_ix2 i⟩
  rw [val_main_v24_apply, val_main_v23_apply]
  show x (ix2 p q) + _ = x (ix2 p q) + _
  refine congrArg (x (ix2 p q) + ·) (Finset.sum_congr rfl fun k _ => ?_)
  rw [show lidx_main_v23 (ix2 p q) k = ix2 p k from funext fun a => Fin.ext (by match a with | ⟨0, _⟩ => rfl | ⟨1, _⟩ => rfl), v20_apply,
    val_main_v22_apply, val_main_v21_apply]
  refine congrArg (hid _ _ _ * ·) (congrArg w2 (funext fun a => Fin.ext ?_))
  match a with
  | ⟨0, _⟩ => rfl
  | ⟨1, _⟩ => show (k.val * 1024 + q.val) / 1024 % 3584 = k.val; omega
  | ⟨2, _⟩ => show (k.val * 1024 + q.val) % 1024 = q.val; omega

end Cert.Reference2Ideal.Hand

end
-- ==== Proof.InProj.lean ====
/-
  The input projection: the kernel's result array, and the reference's, are one function of the arguments, each row
  normalised and multiplied by the weight matrix.
-/
module

public import proofs.«01_k».proof.Proof.Common
public import proofs.«01_k».proof.Proof.Gen.Kernel3Ideal.Value
public import proofs.«01_k».proof.Proof.Gen.Reference3Ideal.Run
public import proofs.«01_k».proof.Proof.Gen.Reference3Ideal.Read
public import Idealize.ShloMosaic.Lib.Tactic

@[expose] public section

noncomputable section

open Idealize.ShloMosaic Idealize.ShloMosaic.TcCoe Idealize.SL.Sem Idealize.ShloMosaic.ValueIdx
open Idealize.ShloMosaic.Pipeline (Dat)

namespace Cert.InProj

open Cert.Common

/-- The projection at row `r` and column `j`: the normalised row times the column. -/
def at_ (h : (⟨2, ![16384, 1024]⟩ : Shape).Idx → EReal) (g : (⟨1, ![1024]⟩ : Shape).Idx → EReal)
    (w : (⟨2, ![1024, 3072]⟩ : Shape).Idx → EReal) (r : Fin 16384) (j : Fin 3072) : EReal :=
  ∑ k, nrm (fun k => h (ix2 r k)) (fun k => g (ix1 k)) k * w (ix2 k j)

/-- The whole projection. -/
def spec (h : (⟨2, ![16384, 1024]⟩ : Shape).Idx → EReal) (g : (⟨1, ![1024]⟩ : Shape).Idx → EReal)
    (w : (⟨2, ![1024, 3072]⟩ : Shape).Idx → EReal) (i : (⟨2, ![16384, 3072]⟩ : Shape).Idx) : EReal :=
  at_ h g w (i 0) (i 1)

end Cert.InProj

/-! ## The kernel -/

namespace Cert.Kernel3Ideal.Hand

open Cert.Kernel3Ideal Cert.Kernel3Ideal.Gen Cert.Common

theorem hz : (![0, 0] : Fin 2 → Nat) = fun _ => 0 := funext fun a => by fin_cases a <;> rfl

/-- What a point stores, at row `i` and column `j` of its block. -/
theorem pay_apply (x : Vec Ideal S512x1024 .f32) (g : Vec Ideal S1x1024 .f32) (w : Vec Ideal S1024x3072 .bf16)
    (i : Fin 512) (j : Fin 3072) :
    k0_pay1 x g w (ix2 i j) = ∑ k, nrm (fun k => x (ix2 i k)) (fun k => g (ix2 0 k)) k * w (ix2 k j) := by
  unfold k0_pay1
  simp only [matmul]
  refine (mm_apply dot_S512x1024_S1024x3072_S512x3072_1_0_0_1_n_n_wf _ _ i j).trans ?_
  refine Finset.sum_congr rfl fun k _ => ?_
  simp only [shapeCast_self, truncf_apply, Ideal.truncf_def, mulf_apply, Ideal.mulf_def]
  rw [rowBcast_apply (by decide), colBcast_apply (by decide)]
  unfold nrm
  simp only [rsqrt, addf_apply, Ideal.addf_def, divf_apply, Ideal.divf_def, broadcast_apply]
  rw [colCast_apply]
  exact congrArg (fun s => x (ix2 i k) * Ideal.rsqrt (Ideal.div s (Ideal.ofBits .f32 0x44800000#32) + Ideal.ofBits .f32 0x358637BD#32)
    * g (ix2 0 k) * w (ix2 k j)) (rowSum_apply _ _ (mulf x x) i)

variable (m : (ℓ : Loc nD τ sig) → Buf (Elt Ideal) ℓ) (ρ : Dev nD → PrngReg)

/-- The staged weights are the argument's. -/
theorem V_w (c : Dev nD) : V m c main_v0 = (m ((c : Thread nD τ).loc main_arg2) : S1024x3072.Idx → EReal) := by
  unfold V
  after_results
  rfl

/-- The staged gain is the argument's, stood up as one row. -/
theorem V_g (c : Dev nD) : V m c main_v1 = shapeCast S1x1024 (m ((c : Thread nD τ).loc main_arg1)) shapeCasts_S1024_S1x1024 := by
  unfold V
  after_results
  rfl

/-- Where the windows stand at point `t`. -/
theorem idx : ∀ t : Fin cfg0.N, win0_0.index t 0 = t.val ∧ win0_0.index t 1 = 0 ∧ win0_1.index t 0 = 0 ∧ win0_1.index t 1 = 0
    ∧ win0_2.index t 0 = 0 ∧ win0_2.index t 1 = 0 ∧ win0_3.index t 0 = t.val ∧ win0_3.index t 1 = 0 :=
  (by decide +kernel : ∀ t : Fin grid0.N, _)

theorem blk0 (c : Dev nD) (t : Fin cfg0.N) (i : Fin 512) (k : Fin 1024) (h : t.val * 512 + i.val < 16384) :
    (iblk m c 0 t : Vec Ideal S512x1024 .f32) (ix2 i k) = m ((c : Thread nD τ).loc main_arg0) (ix2 ⟨t.val * 512 + i.val, h⟩ k) := by
  obtain ⟨e0, e1, -⟩ := idx t
  rw [← V_main_arg0 m c]
  unfold iblk
  rw [View.read_apply]
  show V m c main_arg0 _ = V m c main_arg0 _
  refine congrArg _ (funext fun a => Fin.ext ?_)
  match a with
  | ⟨0, _⟩ => show win0_0.index t 0 * 512 + 1 * i.val = t.val * 512 + i.val; rw [e0]; omega
  | ⟨1, _⟩ => show win0_0.index t 1 * 1024 + 1 * k.val = k.val; rw [e1]; omega

theorem blk1 (c : Dev nD) (t : Fin cfg0.N) (k : Fin 1024) :
    (iblk m c 1 t : Vec Ideal S1x1024 .f32) (ix2 0 k) = m ((c : Thread nD τ).loc main_arg1) (ix1 k) := by
  obtain ⟨-, -, e0, e1, -⟩ := idx t
  have e : (iblk m c 1 t : Vec Ideal S1x1024 .f32) (ix2 0 k) = V m c main_v1 (ix2 0 k) := by
    unfold iblk
    rw [View.read_apply]
    show V m c main_v1 _ = V m c main_v1 _
    refine congrArg _ (funext fun a => Fin.ext ?_)
    match a with
    | ⟨0, _⟩ => show win0_1.index t 0 * 1 + 1 * 0 = 0; rw [e0]
    | ⟨1, _⟩ => show win0_1.index t 1 * 1024 + 1 * k.val = k.val; rw [e1]; omega
  rw [e, V_g, rowCast_apply]

theorem blk2 (c : Dev nD) (t : Fin cfg0.N) (k : Fin 1024) (j : Fin 3072) :
    (iblk m c 2 t : Vec Ideal S1024x3072 .bf16) (ix2 k j) = m ((c : Thread nD τ).loc main_arg2) (ix2 k j) := by
  obtain ⟨-, -, -, -, e0, e1, -⟩ := idx t
  have e : (iblk m c 2 t : Vec Ideal S1024x3072 .bf16) (ix2 k j) = V m c main_v0 (ix2 k j) := by
    unfold iblk
    rw [View.read_apply]
    show V m c main_v0 _ = V m c main_v0 _
    refine congrArg _ (funext fun a => Fin.ext ?_)
    match a with
    | ⟨0, _⟩ => show win0_2.index t 0 * 1024 + 1 * k.val = k.val; rw [e0]; omega
    | ⟨1, _⟩ => show win0_2.index t 1 * 3072 + 1 * j.val = j.val; rw [e1]; omega
  rw [e, V_w]

/-- The result as contents of the result array. -/
abbrev G (c : Dev nD) : Buf (Elt Ideal) ((c : Thread nD τ).loc main_v2) :=
  InProj.spec (m ((c : Thread nD τ).loc main_arg0)) (m ((c : Thread nD τ).loc main_arg1)) (m ((c : Thread nD τ).loc main_arg2))

/-- Block `t` of the projection, read at row `p` and column `q`. -/
theorem read_G (c : Dev nD) (t : Fin cfg0.N) (p : Fin 512) (q : Fin 3072) (hb : t.val * 512 + p.val < 16384) :
    ((cfg0.win 3).blk t).view.read (Elt Ideal) (G m c) (ix2 p q)
      = InProj.at_ (m ((c : Thread nD τ).loc main_arg0)) (m ((c : Thread nD τ).loc main_arg1)) (m ((c : Thread nD τ).loc main_arg2))
        ⟨t.val * 512 + p.val, hb⟩ q := by
  obtain ⟨-, -, -, -, -, -, e0, e1⟩ := idx t
  rw [View.read_apply]
  refine congrArg₂ (InProj.at_ _ _ _) (Fin.ext ?_) (Fin.ext ?_)
  · show win0_3.index t 0 * 512 + 1 * p.val = t.val * 512 + p.val; rw [e0]; omega
  · show win0_3.index t 1 * 3072 + 1 * q.val = q.val; rw [e1]; omega

/-- What the body leaves in the output block at row `p` and column `q`. -/
theorem out_apply (c : Dev nD) (t : Fin cfg0.N) (p : Fin 512) (q : Fin 3072) (hb : t.val * 512 + p.val < 16384) :
    out0_3 (iblk m c 0 t) (iblk m c 1 t) (iblk m c 2 t) (ix2 p q)
      = InProj.at_ (m ((c : Thread nD τ).loc main_arg0)) (m ((c : Thread nD τ).loc main_arg1)) (m ((c : Thread nD τ).loc main_arg2))
        ⟨t.val * 512 + p.val, hb⟩ q := by
  unfold out0_3
  rw [View.canon_unit_zero hz, View.ld_unit_zero (S := S512x1024) hz, View.ld_unit_zero (S := S1x1024) hz,
    View.ld_unit_zero (S := S1024x3072) hz]
  refine (pay_apply _ _ _ p q).trans ?_
  unfold InProj.at_
  refine Finset.sum_congr rfl fun k _ => ?_
  have e0 : (fun k => (iblk m c 0 t : Vec Ideal S512x1024 .f32) (ix2 p k))
      = fun k => m ((c : Thread nD τ).loc main_arg0) (ix2 ⟨t.val * 512 + p.val, hb⟩ k) := funext fun k => blk0 m c t p k hb
  have e1 : (fun k => (iblk m c 1 t : Vec Ideal S1x1024 .f32) (ix2 0 k))
      = fun k => m ((c : Thread nD τ).loc main_arg1) (ix1 k) := funext fun k => blk1 m c t k
  exact congrArg₂ (· * ·) (congrFun (congrArg₂ nrm e0 e1) k) (blk2 m c t k q)

/-- Point `t` writes back block `t` of the projection. -/
theorem flushed_eq (c : Dev nD) (t : Fin cfg0.N) :
    (dats m 0 c).flushed 3 t = ((cfg0.win 3).blk t).view.read (Elt Ideal) (G m c) := by
  have ht : t.val < 32 := lt_of_lt_of_eq t.isLt N_0
  rw [Value.flushed3]
  refine funext fun (y : S512x3072.Idx) => ?_
  obtain ⟨p, q, rfl⟩ : ∃ (p : Fin 512) (q : Fin 3072), y = ix2 p q := ⟨_, _, eq_ix2 y⟩
  refine Eq.trans ?_ (read_G m c t p q (by omega)).symm
  refine Eq.trans ?_ (out_apply m c t p q (by omega))
  show out0_3 (iblk m c 0 t) (iblk m c 1 t) (iblk m c 2 t) ((cfg0.win 3).xinj (grid0.coords t) (ix2 p q)) = _
  refine congrArg (out0_3 (iblk m c 0 t) (iblk m c 1 t) (iblk m c 2 t)) (funext fun a => Fin.ext ?_)
  match a with
  | ⟨0, _⟩ => rfl
  | ⟨1, _⟩ => rfl

/-- The result array ends at the projection: every row lies in its block's point. -/
theorem final (c : Dev nD) : (dats m 0 c).arrAt 3 cfg0.N = G m c :=
  (dats m 0 c).arrAt_eq_of_cover 3 (G m c) (fun t _ => flushed_eq m c t) fun i => by
    have h0 : (i 0 : Nat) < 16384 := (i 0).isLt
    have h1 : (i 1 : Nat) < 3072 := (i 1).isLt
    have ht : (i 0 : Nat) / 512 < cfg0.N := lt_of_lt_of_eq (by omega) N_0.symm
    refine ⟨⟨(i 0 : Nat) / 512, ht⟩, (by decide +kernel : ∀ t : Fin grid0.N, win0_3.flush t = true) _, ?_⟩
    show i ∈ ((View.whole main_v2).slice (win0_3.rect ⟨(i 0 : Nat) / 512, ht⟩)).set
    rw [View.set_slice_whole, Rect.mem_set_unit]
    obtain ⟨-, -, -, -, -, -, e0, e1⟩ := idx ⟨(i 0 : Nat) / 512, ht⟩
    intro a
    match a with
    | ⟨0, _⟩ =>
      show win0_3.index ⟨(i 0 : Nat) / 512, ht⟩ 0 * 512 ≤ (i 0 : Nat) ∧ (i 0 : Nat) < win0_3.index ⟨(i 0 : Nat) / 512, ht⟩ 0 * 512 + 512
      rw [e0]; dsimp only; omega
    | ⟨1, _⟩ =>
      show win0_3.index ⟨(i 0 : Nat) / 512, ht⟩ 1 * 3072 ≤ (i 1 : Nat) ∧ (i 1 : Nat) < win0_3.index ⟨(i 0 : Nat) / 512, ht⟩ 1 * 3072 + 3072
      rw [e1]; omega

end Cert.Kernel3Ideal.Hand

/-! ## The reference -/

namespace Cert.Reference3Ideal.Hand

open Cert.Reference3Ideal Cert.Reference3Ideal.Read Cert.Common

/-- The reference's normalised row. -/
theorem nrm_apply (x : (⟨S16384x1024, .f32⟩ : BufTy).Contents (Elt Ideal)) (g : (⟨S1024, .f32⟩ : BufTy).Contents (Elt Ideal))
    (r : Fin 16384) (k : Fin 1024) :
    val_main_v12 (F := Ideal) x g (ix2 r k) = nrm (fun k => x (ix2 r k)) (fun k => g (ix1 k)) k := by
  simp only [val_main_v12_apply, val_main_v11_apply, val_main_v10_apply, val_main_v9_apply, val_main_v8_apply, val_main_v7_apply,
    val_main_v6_apply, val_main_v5_apply, val_main_cst_1_apply, val_main_v4_apply, val_main_v3_apply, val_main_cst_0_apply,
    val_main_v2_apply, val_main_v1_apply, val_main_cst_apply, val_main_v0_apply, Ideal.ofBits_def, Ideal.ofBits_zero_f32, zero_add,
    Ideal.mulf_def, Ideal.addf_def, Ideal.hostDivf_def, Ideal.hostUnary_rsqrt_def]
  unfold nrm
  have e1 : idx_main_v10 (idx_main_v11 (ix2 r k)) = ix1 k := funext fun a => Fin.ext (by match a with | ⟨0, _⟩ => rfl)
  have e2 : ∀ j : Fin 1024, idx_main_v1 (idx_main_v2 (idx_main_v8 (ix2 r k))) j = ix2 r j := fun j => funext fun a => Fin.ext (by
    match a with
    | ⟨0, _⟩ => rfl
    | ⟨1, _⟩ => rfl)
  rw [e1]
  simp only [e2]

/-- The reference's result is the projection. -/
theorem result_eq (x : (⟨S16384x1024, .f32⟩ : BufTy).Contents (Elt Ideal)) (g : (⟨S1024, .f32⟩ : BufTy).Contents (Elt Ideal))
    (w : (⟨S1024x3072, .f32⟩ : BufTy).Contents (Elt Ideal)) : val_main_v13 (F := Ideal) x g w = InProj.spec x g w := by
  refine funext fun (i : S16384x3072.Idx) => ?_
  obtain ⟨p, q, rfl⟩ : ∃ (p : Fin 16384) (q : Fin 3072), i = ix2 p q := ⟨_, _, eq_ix2 i⟩
  rw [val_main_v13_apply]
  show _ = InProj.at_ x g w p q
  unfold InProj.at_
  refine Finset.sum_congr rfl fun k _ => ?_
  have e1 : lidx_main_v13 (ix2 p q) k = ix2 p k := funext fun a => Fin.ext (by match a with | ⟨0, _⟩ => rfl | ⟨1, _⟩ => rfl)
  have e2 : ridx_main_v13 (ix2 p q) k = ix2 k q := funext fun a => Fin.ext (by match a with | ⟨0, _⟩ => rfl | ⟨1, _⟩ => rfl)
  rw [e1, e2, nrm_apply]

end Cert.Reference3Ideal.Hand

end
-- ==== Proof.lean ====
/-
  The claims put together.
-/
module

public import proofs.«01_k».proof.Proof.RouterFinite
public import proofs.«01_k».proof.Proof.RouterRefCounts
public import proofs.«01_k».proof.Proof.Gen.Reference4Ideal.Read
public import proofs.«01_k».proof.Proof.Gen.Kernel4.Frame
public import proofs.«01_k».proof.Proof.Gen.Kernel4Ideal.Value
public import proofs.«01_k».proof.Proof.Gen.Reference4Ideal.Run
public import proofs.«01_k».proof.Defs
public import proofs.«01_k».proof.Proof.KernelFrame
public import proofs.«01_k».proof.Proof.KernelTables
public import proofs.«01_k».proof.Proof.Gen.Kernel2.Frame
public import proofs.«01_k».proof.Proof.Gen.Kernel3.Frame
public import proofs.«01_k».proof.Proof.ExpertsFrame
public import proofs.«01_k».proof.Proof.ExpertsTables
public import proofs.«01_k».proof.Proof.Experts
public import proofs.«01_k».proof.Proof.ExpertsRef
public import proofs.«01_k».proof.Proof.Mask
public import proofs.«01_k».proof.Proof.Ffn
public import proofs.«01_k».proof.Proof.InProj
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import Idealize.ShloMosaic.Adequacy
public import Idealize.ShloMosaic.Init

@[expose] public section

noncomputable section

namespace Cert.Proof

open Idealize.ShloMosaic Idealize.SL.Sem Cert.Kernel

/-- The reference of the experts runs, keeps its arguments and leaves every counter at zero. -/
theorem keepsR : Cert.quiescent_ReferenceIdeal := fun m g _ =>
  (θ_run _ _ _).mono (fun r h => ⟨fun c => (h c).2, sem_eq_zero_of_no_sems (by decide) r.2⟩) (Cert.ReferenceIdeal.Value.run m g)
theorem keepsR2 : Cert.quiescent_Reference2Ideal := fun m g _ =>
  (θ_run _ _ _).mono (fun r h => ⟨fun c => (h c).2, sem_eq_zero_of_no_sems (by decide) r.2⟩) (Cert.Reference2Ideal.Value.run m g)
theorem keepsR3 : Cert.quiescent_Reference3Ideal := fun m g _ =>
  (θ_run _ _ _).mono (fun r h => ⟨fun c => (h c).2, sem_eq_zero_of_no_sems (by decide) r.2⟩) (Cert.Reference3Ideal.Value.run m g)

/-- The expert call computes the reference on every slot that holds a token. -/
theorem experts : Cert.algebraic_KernelIdeal_ReferenceIdeal_on_holds_token := fun m g m' g' _ he =>
  ⟨fun c => Cert.KernelIdeal.Hand.G m (Cert.KernelIdeal.Hand.ok m) c,
    (θ_run _ _ _).mono (fun r h c => ⟨fun i _ => congrFun (((h.1.1 c).1 4).trans (Cert.KernelIdeal.Hand.final m (Cert.KernelIdeal.Hand.ok m) c)) i, h.2.1 c⟩)
      (θ_run_and (Cert.KernelIdeal.Hand.runs m g (Cert.KernelIdeal.Hand.ok m)) (Cert.KernelIdeal.Hand.keeps m g (Cert.KernelIdeal.Hand.ok m))),
    (θ_run _ _ _).mono (fun r h c => ⟨fun (i : (⟨2, ![40960, 1024]⟩ : Shape).Idx) hi => by
      obtain rfl : c = 0 := Subsingleton.elim _ _
      obtain ⟨p, q, rfl⟩ : ∃ (p : Fin 40960) (q : Fin 1024), i = ValueIdx.ix2 p q := ⟨_, _, ValueIdx.eq_ix2 i⟩
      refine (congrFun ((h 0).1.trans ((Cert.ReferenceIdeal.Read.val_main_v88_eq _ _).trans (Cert.ReferenceIdeal.Hand.result_eq _ _ _ _ _))) (ValueIdx.ix2 p q)).trans ?_
      refine Eq.trans ?_ (Cert.KernelIdeal.Hand.G_used m (Cert.KernelIdeal.Hand.ok m) p q (Cert.Slots.used _ _ _ _ _ p q hi)).symm
      obtain ⟨e0, e1, e2, e3, e4⟩ := he 0
      rw [e0, e1, e2, e3, e4], (h c).2⟩) (Cert.ReferenceIdeal.Value.run m' g')⟩

/-- The feed-forward kernel computes the reference. -/
theorem ffn : Cert.algebraic_Kernel2Ideal_Reference2Ideal := fun m g m' g' _ he =>
  ⟨fun c => Cert.Kernel2Ideal.Hand.G m c,
    (θ_run _ _ _).mono (fun r h c => ⟨(h c).1.trans (Cert.Kernel2Ideal.Hand.final m c), (h c).2⟩) (Cert.Kernel2Ideal.Value.run_blocks m g),
    (θ_run _ _ _).mono (fun r h c => ⟨(h c).1.trans (by
      refine (Cert.Reference2Ideal.Read.val_main_v24_eq _ _ _ _ _).trans ((Cert.Reference2Ideal.Hand.result_eq _ _ _ _ _).trans ?_)
      obtain ⟨e0, e1, e2, e3, e4⟩ := he c
      rw [e0, e1, e2, e3, e4]), (h c).2⟩) (Cert.Reference2Ideal.Value.run m' g')⟩

/-- The input projection kernel computes the reference. -/
theorem inproj : Cert.algebraic_Kernel3Ideal_Reference3Ideal := fun m g m' g' _ he =>
  ⟨fun c => Cert.Kernel3Ideal.Hand.G m c,
    (θ_run _ _ _).mono (fun r h c => ⟨(h c).1.trans (Cert.Kernel3Ideal.Hand.final m c), (h c).2⟩) (Cert.Kernel3Ideal.Value.run_blocks m g),
    (θ_run _ _ _).mono (fun r h c => ⟨(h c).1.trans (by
      refine (Cert.Reference3Ideal.Read.val_main_v13_eq _ _ _).trans ((Cert.Reference3Ideal.Hand.result_eq _ _ _).trans ?_)
      obtain ⟨e0, e1, e2⟩ := he c
      rw [e0, e1, e2]), (h c).2⟩) (Cert.Reference3Ideal.Value.run m' g')⟩

/-- The router's reference runs, keeps its arguments and leaves every counter at zero. -/
theorem keepsR4 : Cert.quiescent_Reference4Ideal := fun m g _ =>
  (θ_run _ _ _).mono (fun r h => ⟨fun c => (h c).2.2.2.2.2, sem_eq_zero_of_no_sems (by decide) r.2⟩) (Cert.Reference4Ideal.Value.run m g)

/-- The router computes the reference, for weights that are numbers. -/
theorem router : Cert.algebraic_Kernel4Ideal_Reference4Ideal_pre_finite := fun m g m' g' hp he =>
  ⟨fun c => Cert.Kernel4Ideal.Value.G3 m c, fun c => Cert.Kernel4Ideal.Value.G4 m c, fun c => Cert.Kernel4Ideal.Value.G5 m c,
    fun c => Cert.Kernel4Ideal.Value.G6 m c, fun c => Cert.Kernel4Ideal.Value.G7 m c,
    (θ_run _ _ _).mono (fun r h c => h c) (Cert.Kernel4Ideal.Value.run m g),
    (θ_run _ _ _).mono (fun r h c => by
      obtain rfl : c = 0 := Subsingleton.elim _ _
      obtain ⟨hg, hw⟩ := Cert.Router.finite_real _ _ _ (fun a => a.elim0) (congrFun (hp 0) _)
      obtain ⟨e0, e1, e2⟩ := he 0
      refine ⟨funext fun (i : (⟨2, ![16384, 1024]⟩ : Shape).Idx) => ?_, funext fun (i : (⟨2, ![16384, 128]⟩ : Shape).Idx) => ?_,
        funext fun (i : (⟨2, ![8, 16384]⟩ : Shape).Idx) => ?_, funext fun (i : (⟨3, ![64, 8, 128]⟩ : Shape).Idx) => ?_,
        funext fun (i : (⟨2, ![8, 128]⟩ : Shape).Idx) => ?_, (h 0).2.2.2.2.2⟩
      · obtain ⟨p, q, rfl⟩ : ∃ (p : Fin 16384) (q : Fin 1024), i = ValueIdx.ix2 p q := ⟨_, _, ValueIdx.eq_ix2 i⟩
        refine (congrFun ((h 0).1.trans (Cert.Reference4Ideal.Read.val_main_v47_eq _ _)) (ValueIdx.ix2 p q)).trans ?_
        rw [e0, e1]
        exact (Cert.Reference4Ideal.Hand.hn_apply _ _ p q).trans (Cert.Kernel4Ideal.Hand.G3_apply m 0 p q).symm
      · obtain ⟨p, q, rfl⟩ : ∃ (p : Fin 16384) (q : Fin 128), i = ValueIdx.ix2 p q := ⟨_, _, ValueIdx.eq_ix2 i⟩
        refine (congrFun ((h 0).2.1.trans (Cert.Reference4Ideal.Read.val_main_v38_eq m' 0)) (ValueIdx.ix2 p q)).trans ?_
        rw [e0, e1, e2]
        exact (Cert.Reference4Ideal.Hand.entry_apply p (Cert.Kernel4Ideal.Hand.logit_real 0 hg hw p) q).trans
          (Cert.Kernel4Ideal.Hand.G4_full hg hw p q).symm
      · obtain ⟨q, p, rfl⟩ : ∃ (q : Fin 8) (p : Fin 16384), i = ValueIdx.ix2 q p := ⟨_, _, ValueIdx.eq_ix2 i⟩
        refine (congrFun ((h 0).2.2.1.trans (Cert.Reference4Ideal.Read.val_main_v49_eq m' 0)) (ValueIdx.ix2 q p)).trans ?_
        rw [e0, e1, e2]
        exact (Cert.Reference4Ideal.Hand.entryT_apply p (Cert.Kernel4Ideal.Hand.logit_real 0 hg hw p) q).trans
          (Cert.Kernel4Ideal.Hand.G5_full hg hw p q).symm
      · obtain ⟨b, s, q, rfl⟩ : ∃ (b : Fin 64) (s : Fin 8) (q : Fin 128), i = ValueIdx.ix3 b s q := ⟨_, _, _, ValueIdx.eq_ix3 i⟩
        refine (congrFun ((h 0).2.2.2.1.trans (Cert.Reference4Ideal.Read.val_main_v43_eq _ _ _)) (ValueIdx.ix3 b s q)).trans ?_
        rw [e0, e1, e2]
        exact (Cert.Reference4Ideal.Hand.before_apply _ _ _ b s q).trans (Cert.Kernel4Ideal.Hand.G6_apply hg hw b s q).symm
      · obtain ⟨s, q, rfl⟩ : ∃ (s : Fin 8) (q : Fin 128), i = ValueIdx.ix2 s q := ⟨_, _, ValueIdx.eq_ix2 i⟩
        refine (congrFun ((h 0).2.2.2.2.1.trans (Cert.Reference4Ideal.Read.val_main_v46_eq _ _ _)) (ValueIdx.ix2 s q)).trans ?_
        rw [e0, e1, e2]
        exact (Cert.Reference4Ideal.Hand.total_apply _ _ _ s q).trans (Cert.Kernel4Ideal.Hand.G7_apply hg hw s q).symm) (Cert.Reference4Ideal.Value.run m' g')⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Gen.facts, Cert.On_holds_token.Gen.facts,
  fun m g _ => Cert.Kernel.Hand.keeps m g (Cert.Kernel.Hand.ok m),
  fun m g _ => Cert.KernelIdeal.Hand.keeps m g (Cert.KernelIdeal.Hand.ok m),
  keepsR,
  fun m g _ => Cert.Kernel2.Gen.frame m g,
  fun m g _ => Cert.Kernel2Ideal.Gen.frame m g,
  keepsR2,
  fun m g _ => Cert.Kernel3.Gen.frame m g,
  fun m g _ => Cert.Kernel3Ideal.Gen.frame m g,
  keepsR3,
  fun m g _ => Cert.Kernel4.Gen.frame m g,
  fun m g _ => Cert.Kernel4Ideal.Gen.frame m g,
  fun m g _ => Cert.Kernel4Ideal.Gen.frame m g,
  keepsR4,
  fun m g _ => keepsR4 m g trivial,
  trivial, experts, trivial, ffn, trivial, inproj, trivial, router⟩

end Cert.Proof

end
